-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 [hPre_two_cores : Cert.Pre_two_cores.Facts] (m : (ℓ : Loc Cert.Kernel16.nD Cert.Kernel16.τ Cert.Kernel16.sig) → Buf (Elt Bits) ℓ) : Prop :=
  ∀ c : Dev Cert.Kernel16.nD,
    (Cert.Pre_two_cores.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5)) (m ((c.tc : Thread Cert.Kernel16.nD Cert.Kernel16.τ).loc Cert.Kernel16.main_arg6))) = (fun _ => 1#1)

def Pre_Kernel16Ideal [hPre_two_cores : Cert.Pre_two_cores.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_two_cores.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_two_cores [hPre_two_cores : Cert.Pre_two_cores.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_two_cores.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6))) = (fun _ => 1#1)

def Pre_Kernel17 [hPre_two_cores17 : Cert.Pre_two_cores17.Facts] (m : (ℓ : Loc Cert.Kernel17.nD Cert.Kernel17.τ Cert.Kernel17.sig) → Buf (Elt Bits) ℓ) : Prop :=
  ∀ c : Dev Cert.Kernel17.nD,
    (Cert.Pre_two_cores17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3)) (m ((c.tc : Thread Cert.Kernel17.nD Cert.Kernel17.τ).loc Cert.Kernel17.main_arg4)) (m ((c.tc : Thread Cert.Kernel17.nD Cert.Kernel17.τ).loc Cert.Kernel17.main_arg5)) (m ((c.tc : Thread Cert.Kernel17.nD Cert.Kernel17.τ).loc Cert.Kernel17.main_arg6))) = (fun _ => 1#1)

def Pre_Kernel17Ideal [hPre_two_cores17 : Cert.Pre_two_cores17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_two_cores17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_two_cores17 [hPre_two_cores17 : Cert.Pre_two_cores17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_two_cores17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))) = (fun _ => 1#1)

def Pre_Kernel18 [hPre_two_cores18 : Cert.Pre_two_cores18.Facts] (m : (ℓ : Loc Cert.Kernel18.nD Cert.Kernel18.τ Cert.Kernel18.sig) → Buf (Elt Bits) ℓ) : Prop :=
  ∀ c : Dev Cert.Kernel18.nD,
    (Cert.Pre_two_cores18.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2)) (m ((c.tc : Thread Cert.Kernel18.nD Cert.Kernel18.τ).loc Cert.Kernel18.main_arg3)) (m ((c.tc : Thread Cert.Kernel18.nD Cert.Kernel18.τ).loc Cert.Kernel18.main_arg4)) (m ((c.tc : Thread Cert.Kernel18.nD Cert.Kernel18.τ).loc Cert.Kernel18.main_arg5)) (m ((c.tc : Thread Cert.Kernel18.nD Cert.Kernel18.τ).loc Cert.Kernel18.main_arg6))) = (fun _ => 1#1)

def Pre_Kernel18Ideal [hPre_two_cores18 : Cert.Pre_two_cores18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_two_cores18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_two_cores18 [hPre_two_cores18 : Cert.Pre_two_cores18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_two_cores18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))) = (fun _ => 1#1)

def Pre_Kernel19 [hPre_two_cores19 : Cert.Pre_two_cores19.Facts] (m : (ℓ : Loc Cert.Kernel19.nD Cert.Kernel19.τ Cert.Kernel19.sig) → Buf (Elt Bits) ℓ) : Prop :=
  ∀ c : Dev Cert.Kernel19.nD,
    (Cert.Pre_two_cores19.fn (F := Bits) (m ((c.tc : Thread Cert.Kernel19.nD Cert.Kernel19.τ).loc Cert.Kernel19.main_arg0)) (m ((c.tc : Thread Cert.Kernel19.nD Cert.Kernel19.τ).loc Cert.Kernel19.main_arg1)) (m ((c.tc : Thread Cert.Kernel19.nD Cert.Kernel19.τ).loc Cert.Kernel19.main_arg2)) (m ((c.tc : Thread Cert.Kernel19.nD Cert.Kernel19.τ).loc Cert.Kernel19.main_arg3)) (m ((c.tc : Thread Cert.Kernel19.nD Cert.Kernel19.τ).loc Cert.Kernel19.main_arg4)) (m ((c.tc : Thread Cert.Kernel19.nD Cert.Kernel19.τ).loc Cert.Kernel19.main_arg5)) (m ((c.tc : Thread Cert.Kernel19.nD Cert.Kernel19.τ).loc Cert.Kernel19.main_arg6))) = (fun _ => 1#1)

def Pre_Kernel19Ideal [hPre_two_cores19 : Cert.Pre_two_cores19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_two_cores19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_two_cores19 [hPre_two_cores19 : Cert.Pre_two_cores19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_two_cores19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6))) = (fun _ => 1#1)

def Pre_Kernel20 [hPre_two_cores20 : Cert.Pre_two_cores20.Facts] (m : (ℓ : Loc Cert.Kernel20.nD Cert.Kernel20.τ Cert.Kernel20.sig) → Buf (Elt Bits) ℓ) : Prop :=
  ∀ c : Dev Cert.Kernel20.nD,
    (Cert.Pre_two_cores20.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2)) (m ((c.tc : Thread Cert.Kernel20.nD Cert.Kernel20.τ).loc Cert.Kernel20.main_arg3)) (m ((c.tc : Thread Cert.Kernel20.nD Cert.Kernel20.τ).loc Cert.Kernel20.main_arg4)) (m ((c.tc : Thread Cert.Kernel20.nD Cert.Kernel20.τ).loc Cert.Kernel20.main_arg5)) (m ((c.tc : Thread Cert.Kernel20.nD Cert.Kernel20.τ).loc Cert.Kernel20.main_arg6))) = (fun _ => 1#1)

def Pre_Kernel20Ideal [hPre_two_cores20 : Cert.Pre_two_cores20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_two_cores20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_two_cores20 [hPre_two_cores20 : Cert.Pre_two_cores20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_two_cores20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] [hPre_two_cores : Cert.Pre_two_cores.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] [hPre_two_cores : Cert.Pre_two_cores.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Reference16Ideal_pre_two_cores [hReference16Ideal : Cert.Reference16Ideal.Facts] [hPre_two_cores : Cert.Pre_two_cores.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_two_cores m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] [hPre_two_cores17 : Cert.Pre_two_cores17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] [hPre_two_cores17 : Cert.Pre_two_cores17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Reference17Ideal_pre_two_cores17 [hReference17Ideal : Cert.Reference17Ideal.Facts] [hPre_two_cores17 : Cert.Pre_two_cores17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_two_cores17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] [hPre_two_cores18 : Cert.Pre_two_cores18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] [hPre_two_cores18 : Cert.Pre_two_cores18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Reference18Ideal_pre_two_cores18 [hReference18Ideal : Cert.Reference18Ideal.Facts] [hPre_two_cores18 : Cert.Pre_two_cores18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_two_cores18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] [hPre_two_cores19 : Cert.Pre_two_cores19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] [hPre_two_cores19 : Cert.Pre_two_cores19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Reference19Ideal_pre_two_cores19 [hReference19Ideal : Cert.Reference19Ideal.Facts] [hPre_two_cores19 : Cert.Pre_two_cores19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_two_cores19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] [hPre_two_cores20 : Cert.Pre_two_cores20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] [hPre_two_cores20 : Cert.Pre_two_cores20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Reference20Ideal_pre_two_cores20 [hReference20Ideal : Cert.Reference20Ideal.Facts] [hPre_two_cores20 : Cert.Pre_two_cores20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_two_cores20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v70) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_v46) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_v71) = v1 c
          ∧ r.2.mem ((c.tc : Thread Cert.Reference4Ideal.nD Cert.Reference4Ideal.τ).loc Cert.Reference4Ideal.main_v44) = v2 c
          ∧ r.2.mem ((c.tc : Thread Cert.Reference4Ideal.nD Cert.Reference4Ideal.τ).loc Cert.Reference4Ideal.main_v41) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v28) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v28) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v28) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_v30) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  IdealRules.named_const.Statement Cert.Kernel15Ideal.κ "first" .f32 0x3FC48605#32 (((5463681 / 8388608)⁻¹ : ℝ) : EReal)
  ∧ IdealRules.named_const.Statement Cert.Kernel15Ideal.κ "second" .f32 0x42C8E6D3#32 (((2672307 / 268435456)⁻¹ : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "first" .f32 0x3FC48605#32 (((5463681 / 8388608)⁻¹ : ℝ) : EReal)
  ∧ IdealRules.named_const.Statement Cert.Kernel16Ideal.κ "second" .f32 0x42C8E6D3#32 (((2672307 / 268435456)⁻¹ : ℝ) : EReal)

def algebraic_Kernel16Ideal_Reference16Ideal [hKernel16Ideal : Cert.Kernel16Ideal.Facts] [hReference16Ideal : Cert.Reference16Ideal.Facts] [hPre_two_cores : Cert.Pre_two_cores.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_v33) = v1 c
          ∧ r.2.mem ((c.tc : Thread Cert.Reference16Ideal.nD Cert.Reference16Ideal.τ).loc Cert.Reference16Ideal.main_v14) = v2 c
          ∧ r.2.mem ((c.tc : Thread Cert.Reference16Ideal.nD Cert.Reference16Ideal.τ).loc Cert.Reference16Ideal.main_v20) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  IdealRules.named_const.Statement Cert.Kernel17Ideal.κ "first" .f32 0x3FC48605#32 (((5463681 / 8388608)⁻¹ : ℝ) : EReal)
  ∧ IdealRules.named_const.Statement Cert.Kernel17Ideal.κ "second" .f32 0x42C8E6D3#32 (((2672307 / 268435456)⁻¹ : ℝ) : EReal)

def algebraic_Kernel17Ideal_Reference17Ideal [hKernel17Ideal : Cert.Kernel17Ideal.Facts] [hReference17Ideal : Cert.Reference17Ideal.Facts] [hPre_two_cores17 : Cert.Pre_two_cores17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_v33) = v1 c
          ∧ r.2.mem ((c.tc : Thread Cert.Reference17Ideal.nD Cert.Reference17Ideal.τ).loc Cert.Reference17Ideal.main_v14) = v2 c
          ∧ r.2.mem ((c.tc : Thread Cert.Reference17Ideal.nD Cert.Reference17Ideal.τ).loc Cert.Reference17Ideal.main_v20) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  IdealRules.named_const.Statement Cert.Kernel18Ideal.κ "first" .f32 0x3FC48605#32 (((5463681 / 8388608)⁻¹ : ℝ) : EReal)
  ∧ IdealRules.named_const.Statement Cert.Kernel18Ideal.κ "second" .f32 0x42C8E6D3#32 (((2672307 / 268435456)⁻¹ : ℝ) : EReal)

def algebraic_Kernel18Ideal_Reference18Ideal [hKernel18Ideal : Cert.Kernel18Ideal.Facts] [hReference18Ideal : Cert.Reference18Ideal.Facts] [hPre_two_cores18 : Cert.Pre_two_cores18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_v33) = v1 c
          ∧ r.2.mem ((c.tc : Thread Cert.Reference18Ideal.nD Cert.Reference18Ideal.τ).loc Cert.Reference18Ideal.main_v14) = v2 c
          ∧ r.2.mem ((c.tc : Thread Cert.Reference18Ideal.nD Cert.Reference18Ideal.τ).loc Cert.Reference18Ideal.main_v20) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  IdealRules.named_const.Statement Cert.Kernel19Ideal.κ "first" .f32 0x3FC48605#32 (((5463681 / 8388608)⁻¹ : ℝ) : EReal)
  ∧ IdealRules.named_const.Statement Cert.Kernel19Ideal.κ "second" .f32 0x42C8E6D3#32 (((2672307 / 268435456)⁻¹ : ℝ) : EReal)

def algebraic_Kernel19Ideal_Reference19Ideal [hKernel19Ideal : Cert.Kernel19Ideal.Facts] [hReference19Ideal : Cert.Reference19Ideal.Facts] [hPre_two_cores19 : Cert.Pre_two_cores19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_v33) = v1 c
          ∧ r.2.mem ((c.tc : Thread Cert.Reference19Ideal.nD Cert.Reference19Ideal.τ).loc Cert.Reference19Ideal.main_v14) = v2 c
          ∧ r.2.mem ((c.tc : Thread Cert.Reference19Ideal.nD Cert.Reference19Ideal.τ).loc Cert.Reference19Ideal.main_v20) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  IdealRules.named_const.Statement Cert.Kernel20Ideal.κ "first" .f32 0x3FC48605#32 (((5463681 / 8388608)⁻¹ : ℝ) : EReal)
  ∧ IdealRules.named_const.Statement Cert.Kernel20Ideal.κ "second" .f32 0x42C8E6D3#32 (((2672307 / 268435456)⁻¹ : ℝ) : EReal)

def algebraic_Kernel20Ideal_Reference20Ideal [hKernel20Ideal : Cert.Kernel20Ideal.Facts] [hReference20Ideal : Cert.Reference20Ideal.Facts] [hPre_two_cores20 : Cert.Pre_two_cores20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_v33) = v1 c
          ∧ r.2.mem ((c.tc : Thread Cert.Reference20Ideal.nD Cert.Reference20Ideal.τ).loc Cert.Reference20Ideal.main_v14) = v2 c
          ∧ r.2.mem ((c.tc : Thread Cert.Reference20Ideal.nD Cert.Reference20Ideal.τ).loc Cert.Reference20Ideal.main_v20) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v18) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v2_0)) (v1 : (c : Dev Cert.Kernel24Ideal.nD) → Buf (Elt Ideal) ((c.tc : Thread Cert.Kernel24Ideal.nD Cert.Kernel24Ideal.τ).loc Cert.Kernel24Ideal.main_v2_1)) (v2 : (c : Dev Cert.Kernel24Ideal.nD) → Buf (Elt Ideal) ((c.tc : Thread Cert.Kernel24Ideal.nD Cert.Kernel24Ideal.τ).loc Cert.Kernel24Ideal.main_v2_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2_0) = v0 c
          ∧ r.2.mem ((c.tc : Thread Cert.Kernel24Ideal.nD Cert.Kernel24Ideal.τ).loc Cert.Kernel24Ideal.main_v2_1) = v1 c
          ∧ r.2.mem ((c.tc : Thread Cert.Kernel24Ideal.nD Cert.Kernel24Ideal.τ).loc Cert.Kernel24Ideal.main_v2_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v29) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite2 : Cert.Pre_finite2.Facts) (hPre_finite3 : Cert.Pre_finite3.Facts) (hPre_finite4 : Cert.Pre_finite4.Facts) (hPre_two_cores : Cert.Pre_two_cores.Facts) (hPre_two_cores17 : Cert.Pre_two_cores17.Facts) (hPre_two_cores18 : Cert.Pre_two_cores18.Facts) (hPre_two_cores19 : Cert.Pre_two_cores19.Facts) (hPre_two_cores20 : Cert.Pre_two_cores20.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16) (hPre_two_cores := hPre_two_cores)
    ∧ quiescent_Kernel16Ideal (hKernel16Ideal := hKernel16Ideal) (hPre_two_cores := hPre_two_cores)
    ∧ quiescent_Reference16Ideal (hReference16Ideal := hReference16Ideal)
    ∧ quiescent_Reference16Ideal_pre_two_cores (hReference16Ideal := hReference16Ideal) (hPre_two_cores := hPre_two_cores)
    ∧ quiescent_Kernel17 (hKernel17 := hKernel17) (hPre_two_cores17 := hPre_two_cores17)
    ∧ quiescent_Kernel17Ideal (hKernel17Ideal := hKernel17Ideal) (hPre_two_cores17 := hPre_two_cores17)
    ∧ quiescent_Reference17Ideal (hReference17Ideal := hReference17Ideal)
    ∧ quiescent_Reference17Ideal_pre_two_cores17 (hReference17Ideal := hReference17Ideal) (hPre_two_cores17 := hPre_two_cores17)
    ∧ quiescent_Kernel18 (hKernel18 := hKernel18) (hPre_two_cores18 := hPre_two_cores18)
    ∧ quiescent_Kernel18Ideal (hKernel18Ideal := hKernel18Ideal) (hPre_two_cores18 := hPre_two_cores18)
    ∧ quiescent_Reference18Ideal (hReference18Ideal := hReference18Ideal)
    ∧ quiescent_Reference18Ideal_pre_two_cores18 (hReference18Ideal := hReference18Ideal) (hPre_two_cores18 := hPre_two_cores18)
    ∧ quiescent_Kernel19 (hKernel19 := hKernel19) (hPre_two_cores19 := hPre_two_cores19)
    ∧ quiescent_Kernel19Ideal (hKernel19Ideal := hKernel19Ideal) (hPre_two_cores19 := hPre_two_cores19)
    ∧ quiescent_Reference19Ideal (hReference19Ideal := hReference19Ideal)
    ∧ quiescent_Reference19Ideal_pre_two_cores19 (hReference19Ideal := hReference19Ideal) (hPre_two_cores19 := hPre_two_cores19)
    ∧ quiescent_Kernel20 (hKernel20 := hKernel20) (hPre_two_cores20 := hPre_two_cores20)
    ∧ quiescent_Kernel20Ideal (hKernel20Ideal := hKernel20Ideal) (hPre_two_cores20 := hPre_two_cores20)
    ∧ quiescent_Reference20Ideal (hReference20Ideal := hReference20Ideal)
    ∧ quiescent_Reference20Ideal_pre_two_cores20 (hReference20Ideal := hReference20Ideal) (hPre_two_cores20 := hPre_two_cores20)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal) (hPre_two_cores := hPre_two_cores)
    ∧ preserves_Kernel17_Kernel17Ideal
    ∧ algebraic_Kernel17Ideal_Reference17Ideal (hKernel17Ideal := hKernel17Ideal) (hReference17Ideal := hReference17Ideal) (hPre_two_cores17 := hPre_two_cores17)
    ∧ preserves_Kernel18_Kernel18Ideal
    ∧ algebraic_Kernel18Ideal_Reference18Ideal (hKernel18Ideal := hKernel18Ideal) (hReference18Ideal := hReference18Ideal) (hPre_two_cores18 := hPre_two_cores18)
    ∧ preserves_Kernel19_Kernel19Ideal
    ∧ algebraic_Kernel19Ideal_Reference19Ideal (hKernel19Ideal := hKernel19Ideal) (hReference19Ideal := hReference19Ideal) (hPre_two_cores19 := hPre_two_cores19)
    ∧ preserves_Kernel20_Kernel20Ideal
    ∧ algebraic_Kernel20Ideal_Reference20Ideal (hKernel20Ideal := hKernel20Ideal) (hReference20Ideal := hReference20Ideal) (hPre_two_cores20 := hPre_two_cores20)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite2.lean ====
abbrev S4352x1024 : Shape := ⟨2, ![4352, 1024]⟩
abbrev S4x512x256 : Shape := ⟨3, ![4, 512, 256]⟩
abbrev S4352x512 : Shape := ⟨2, ![4352, 512]⟩
abbrev S1x512 : Shape := ⟨2, ![1, 512]⟩
abbrev S_ : Shape := ⟨0, ![]⟩

class Facts : Prop where
  bitsLt_bf16_f32 : FTy.bits .bf16 < FTy.bits .f32
  bcast_S_S4352x1024 : S_.BroadcastsInDim S4352x1024 (![] : Fin 0 → Fin S4352x1024.rank)
  bcast_S_S4x512x256 : S_.BroadcastsInDim S4x512x256 (![] : Fin 0 → Fin S4x512x256.rank)
  bcast_S_S4352x512 : S_.BroadcastsInDim S4352x512 (![] : Fin 0 → Fin S4352x512.rank)
  bcast_S_S1x512 : S_.BroadcastsInDim S1x512 (![] : Fin 0 → Fin S1x512.rank)

variable [Facts]

def fn {F : FTy → Type} [FloatOps F] (main_arg0 : FVec F S4352x1024 .bf16) (main_arg1 : FVec F S4x512x256 .bf16) (main_arg2 : FVec F S4352x512 .f32) (main_arg3 : FVec F S1x512 .f32) (main_arg4 : FVec F S1x512 .f32) : IVec S4352x1024 1 × IVec S4x512x256 1 × IVec S4352x512 1 × IVec S1x512 1 × IVec S1x512 1 :=
  let main_v0 : FVec F S4352x1024 .f32 := (extf .f32 · bitsLt_bf16_f32) main_arg0
  let main_v1 : FVec F S4352x1024 .f32 := Host.absf main_v0
  let main_cst : FVec F S_ .f32 := constant S_ .f32 0x7F800000#32
  let main_v2 : FVec F S4352x1024 .f32 := broadcastInDim S4352x1024 ![] bcast_S_S4352x1024 main_cst
  let main_v3 : IVec S4352x1024 1 := cmpf .olt main_v1 main_v2
  let main_v4 : FVec F S4x512x256 .f32 := (extf .f32 · bitsLt_bf16_f32) main_arg1
  let main_v5 : FVec F S4x512x256 .f32 := Host.absf main_v4
  let main_cst_0 : FVec F S_ .f32 := constant S_ .f32 0x7F800000#32
  let main_v6 : FVec F S4x512x256 .f32 := broadcastInDim S4x512x256 ![] bcast_S_S4x512x256 main_cst_0
  let main_v7 : IVec S4x512x256 1 := cmpf .olt main_v5 main_v6
  let main_v8 : FVec F S4352x512 .f32 := Host.absf main_arg2
  let main_cst_1 : FVec F S_ .f32 := constant S_ .f32 0x7F800000#32
  let main_v9 : FVec F S4352x512 .f32 := broadcastInDim S4352x512 ![] bcast_S_S4352x512 main_cst_1
  let main_v10 : IVec S4352x512 1 := cmpf .olt main_v8 main_v9
  let main_v11 : FVec F S1x512 .f32 := Host.absf main_arg3
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_v14 : FVec F S1x512 .f32 := Host.absf main_arg4
  let main_cst_3 : FVec F S_ .f32 := constant S_ .f32 0x7F800000#32
  let main_v15 : FVec F S1x512 .f32 := broadcastInDim S1x512 ![] bcast_S_S1x512 main_cst_3
  let main_v16 : IVec S1x512 1 := cmpf .olt main_v14 main_v15
  (main_v3, main_v7, main_v10, main_v13, main_v16)
-- ==== Pre_finite3.lean ====
abbrev S4352x1024 : Shape := ⟨2, ![4352, 1024]⟩
abbrev S1x1024 : Shape := ⟨2, ![1, 1024]⟩
abbrev S2x4352x2816 : Shape := ⟨3, ![2, 4352, 2816]⟩
abbrev S4x1024x1408 : Shape := ⟨3, ![4, 1024, 1408]⟩
abbrev S_ : Shape := ⟨0, ![]⟩

class Facts : Prop where
  bcast_S_S4352x1024 : S_.BroadcastsInDim S4352x1024 (![] : Fin 0 → Fin S4352x1024.rank)
  bcast_S_S1x1024 : S_.BroadcastsInDim S1x1024 (![] : Fin 0 → Fin S1x1024.rank)
  bitsLt_bf16_f32 : FTy.bits .bf16 < FTy.bits .f32
  bcast_S_S2x4352x2816 : S_.BroadcastsInDim S2x4352x2816 (![] : Fin 0 → Fin S2x4352x2816.rank)
  bcast_S_S4x1024x1408 : S_.BroadcastsInDim S4x1024x1408 (![] : Fin 0 → Fin S4x1024x1408.rank)

variable [Facts]

def fn {F : FTy → Type} [FloatOps F] (main_arg0 : FVec F S4352x1024 .f32) (main_arg1 : FVec F S4352x1024 .f32) (main_arg2 : FVec F S1x1024 .f32) (main_arg3 : FVec F S2x4352x2816 .bf16) (main_arg4 : FVec F S4x1024x1408 .bf16) : IVec S4352x1024 1 × IVec S4352x1024 1 × IVec S1x1024 1 × IVec S2x4352x2816 1 × IVec S4x1024x1408 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_v3 : FVec F S4352x1024 .f32 := Host.absf main_arg1
  let main_cst_0 : FVec F S_ .f32 := constant S_ .f32 0x7F800000#32
  let main_v4 : FVec F S4352x1024 .f32 := broadcastInDim S4352x1024 ![] bcast_S_S4352x1024 main_cst_0
  let main_v5 : IVec S4352x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2x4352x2816 .f32 := (extf .f32 · bitsLt_bf16_f32) main_arg3
  let main_v10 : FVec F S2x4352x2816 .f32 := Host.absf main_v9
  let main_cst_2 : FVec F S_ .f32 := constant S_ .f32 0x7F800000#32
  let main_v11 : FVec F S2x4352x2816 .f32 := broadcastInDim S2x4352x2816 ![] bcast_S_S2x4352x2816 main_cst_2
  let main_v12 : IVec S2x4352x2816 1 := cmpf .olt main_v10 main_v11
  let main_v13 : FVec F S4x1024x1408 .f32 := (extf .f32 · bitsLt_bf16_f32) main_arg4
  let main_v14 : FVec F S4x1024x1408 .f32 := Host.absf main_v13
  let main_cst_3 : FVec F S_ .f32 := constant S_ .f32 0x7F800000#32
  let main_v15 : FVec F S4x1024x1408 .f32 := broadcastInDim S4x1024x1408 ![] bcast_S_S4x1024x1408 main_cst_3
  let main_v16 : IVec S4x1024x1408 1 := cmpf .olt main_v14 main_v15
  (main_v2, main_v5, main_v8, main_v12, main_v16)
-- ==== Pre_finite4.lean ====
abbrev S4352x1024 : Shape := ⟨2, ![4352, 1024]⟩
abbrev S1x1024 : Shape := ⟨2, ![1, 1024]⟩
abbrev S4352x2048 : Shape := ⟨2, ![4352, 2048]⟩
abbrev S4352x768 : Shape := ⟨2, ![4352, 768]⟩
abbrev S1024x3840 : Shape := ⟨2, ![1024, 3840]⟩
abbrev S_ : Shape := ⟨0, ![]⟩

class Facts : Prop where
  bcast_S_S4352x1024 : S_.BroadcastsInDim S4352x1024 (![] : Fin 0 → Fin S4352x1024.rank)
  bcast_S_S1x1024 : S_.BroadcastsInDim S1x1024 (![] : Fin 0 → Fin S1x1024.rank)
  bitsLt_bf16_f32 : FTy.bits .bf16 < FTy.bits .f32
  bcast_S_S4352x2048 : S_.BroadcastsInDim S4352x2048 (![] : Fin 0 → Fin S4352x2048.rank)
  bcast_S_S4352x768 : S_.BroadcastsInDim S4352x768 (![] : Fin 0 → Fin S4352x768.rank)
  bcast_S_S1024x3840 : S_.BroadcastsInDim S1024x3840 (![] : Fin 0 → Fin S1024x3840.rank)

variable [Facts]

def fn_part1 {F : FTy → Type} [FloatOps F] (main_arg6 : FVec F S1024x3840 .bf16) (main_v2 : IVec S4352x1024 1) (main_v5 : IVec S4352x1024 1) (main_v8 : IVec S1x1024 1) (main_v12 : IVec S4352x2048 1) (main_v16 : IVec S4352x1024 1) (main_v18 : FVec F S4352x768 .f32) : IVec S4352x1024 1 × IVec S4352x1024 1 × IVec S1x1024 1 × IVec S4352x2048 1 × IVec S4352x1024 1 × IVec S4352x768 1 × IVec S1024x3840 1 :=
  let main_cst_4 : FVec F S_ .f32 := constant S_ .f32 0x7F800000#32
  let main_v19 : FVec F S4352x768 .f32 := broadcastInDim S4352x768 ![] bcast_S_S4352x768 main_cst_4
  let main_v20 : IVec S4352x768 1 := cmpf .olt main_v18 main_v19
  let main_v21 : FVec F S1024x3840 .f32 := (extf .f32 · bitsLt_bf16_f32) main_arg6
  let main_v22 : FVec F S1024x3840 .f32 := Host.absf main_v21
  let main_cst_5 : FVec F S_ .f32 := constant S_ .f32 0x7F800000#32
  let main_v23 : FVec F S1024x3840 .f32 := broadcastInDim S1024x3840 ![] bcast_S_S1024x3840 main_cst_5
  let main_v24 : IVec S1024x3840 1 := cmpf .olt main_v22 main_v23
  (main_v2, main_v5, main_v8, main_v12, main_v16, main_v20, main_v24)

def fn {F : FTy → Type} [FloatOps F] (main_arg0 : FVec F S4352x1024 .f32) (main_arg1 : FVec F S4352x1024 .f32) (main_arg2 : FVec F S1x1024 .f32) (main_arg3 : FVec F S4352x2048 .bf16) (main_arg4 : FVec F S4352x1024 .bf16) (main_arg5 : FVec F S4352x768 .bf16) (main_arg6 : FVec F S1024x3840 .bf16) : IVec S4352x1024 1 × IVec S4352x1024 1 × IVec S1x1024 1 × IVec S4352x2048 1 × IVec S4352x1024 1 × IVec S4352x768 1 × IVec S1024x3840 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_v3 : FVec F S4352x1024 .f32 := Host.absf main_arg1
  let main_cst_0 : FVec F S_ .f32 := constant S_ .f32 0x7F800000#32
  let main_v4 : FVec F S4352x1024 .f32 := broadcastInDim S4352x1024 ![] bcast_S_S4352x1024 main_cst_0
  let main_v5 : IVec S4352x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4352x2048 .f32 := (extf .f32 · bitsLt_bf16_f32) main_arg3
  let main_v10 : FVec F S4352x2048 .f32 := Host.absf main_v9
  let main_cst_2 : FVec F S_ .f32 := constant S_ .f32 0x7F800000#32
  let main_v11 : FVec F S4352x2048 .f32 := broadcastInDim S4352x2048 ![] bcast_S_S4352x2048 main_cst_2
  let main_v12 : IVec S4352x2048 1 := cmpf .olt main_v10 main_v11
  let main_v13 : FVec F S4352x1024 .f32 := (extf .f32 · bitsLt_bf16_f32) main_arg4
  let main_v14 : FVec F S4352x1024 .f32 := Host.absf main_v13
  let main_cst_3 : FVec F S_ .f32 := constant S_ .f32 0x7F800000#32
  let main_v15 : FVec F S4352x1024 .f32 := broadcastInDim S4352x1024 ![] bcast_S_S4352x1024 main_cst_3
  let main_v16 : IVec S4352x1024 1 := cmpf .olt main_v14 main_v15
  let main_v17 : FVec F S4352x768 .f32 := (extf .f32 · bitsLt_bf16_f32) main_arg5
  let main_v18 : FVec F S4352x768 .f32 := Host.absf main_v17
  fn_part1 (F := F) main_arg6 main_v2 main_v5 main_v8 main_v12 main_v16 main_v18
-- ==== Pre_two_cores.lean ====
abbrev S2x1024x960 : Shape := ⟨3, ![2, 1024, 960]⟩
abbrev S512x960 : Shape := ⟨2, ![512, 960]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x1024x960 .f32) (main_arg1 : FVec F S2x1024x960 .f32) (main_arg2 : FVec F S512x960 .f32) (main_arg3 : FVec F S512x960 .f32) (main_arg4 : FVec F S2x1024x960 .f32) (main_arg5 : FVec F S2x1024x960 .f32) (main_arg6 : IVec S1 32) : IVec S_ 1 :=
  let main_v0 : IVec S_ 32 := shapeCast S_ main_arg6 shapeCasts_S1_S_
  let main_c : IVec S_ 32 := constantI S_ 32 0#32
  let main_v1 : IVec S_ 1 := cmpi .eq main_v0 main_c
  let main_v2 : IVec S_ 32 := shapeCast S_ main_arg6 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_two_cores17.lean ====
abbrev S2x512x256 : Shape := ⟨3, ![2, 512, 256]⟩
abbrev S256x256 : Shape := ⟨2, ![256, 256]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x512x256 .f32) (main_arg1 : FVec F S2x512x256 .f32) (main_arg2 : FVec F S256x256 .f32) (main_arg3 : FVec F S256x256 .f32) (main_arg4 : FVec F S2x512x256 .f32) (main_arg5 : FVec F S2x512x256 .f32) (main_arg6 : IVec S1 32) : IVec S_ 1 :=
  let main_v0 : IVec S_ 32 := shapeCast S_ main_arg6 shapeCasts_S1_S_
  let main_c : IVec S_ 32 := constantI S_ 32 0#32
  let main_v1 : IVec S_ 1 := cmpi .eq main_v0 main_c
  let main_v2 : IVec S_ 32 := shapeCast S_ main_arg6 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_two_cores18.lean ====
abbrev S2x256x1024 : Shape := ⟨3, ![2, 256, 1024]⟩
abbrev S128x1024 : Shape := ⟨2, ![128, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x256x1024 .f32) (main_arg1 : FVec F S2x256x1024 .f32) (main_arg2 : FVec F S128x1024 .f32) (main_arg3 : FVec F S128x1024 .f32) (main_arg4 : FVec F S2x256x1024 .f32) (main_arg5 : FVec F S2x256x1024 .f32) (main_arg6 : IVec S1 32) : IVec S_ 1 :=
  let main_v0 : IVec S_ 32 := shapeCast S_ main_arg6 shapeCasts_S1_S_
  let main_c : IVec S_ 32 := constantI S_ 32 0#32
  let main_v1 : IVec S_ 1 := cmpi .eq main_v0 main_c
  let main_v2 : IVec S_ 32 := shapeCast S_ main_arg6 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_two_cores19.lean ====
abbrev S2x1024x1408 : Shape := ⟨3, ![2, 1024, 1408]⟩
abbrev S512x1408 : Shape := ⟨2, ![512, 1408]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x1024x1408 .f32) (main_arg1 : FVec F S2x1024x1408 .f32) (main_arg2 : FVec F S512x1408 .f32) (main_arg3 : FVec F S512x1408 .f32) (main_arg4 : FVec F S2x1024x1408 .f32) (main_arg5 : FVec F S2x1024x1408 .f32) (main_arg6 : IVec S1 32) : IVec S_ 1 :=
  let main_v0 : IVec S_ 32 := shapeCast S_ main_arg6 shapeCasts_S1_S_
  let main_c : IVec S_ 32 := constantI S_ 32 0#32
  let main_v1 : IVec S_ 1 := cmpi .eq main_v0 main_c
  let main_v2 : IVec S_ 32 := shapeCast S_ main_arg6 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_two_cores20.lean ====
abbrev S2x704x1024 : Shape := ⟨3, ![2, 704, 1024]⟩
abbrev S352x1024 : Shape := ⟨2, ![352, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x704x1024 .f32) (main_arg1 : FVec F S2x704x1024 .f32) (main_arg2 : FVec F S352x1024 .f32) (main_arg3 : FVec F S352x1024 .f32) (main_arg4 : FVec F S2x704x1024 .f32) (main_arg5 : FVec F S2x704x1024 .f32) (main_arg6 : IVec S1 32) : IVec S_ 1 :=
  let main_v0 : IVec S_ 32 := shapeCast S_ main_arg6 shapeCasts_S1_S_
  let main_c : IVec S_ 32 := constantI S_ 32 0#32
  let main_v1 : IVec S_ 1 := cmpi .eq main_v0 main_c
  let main_v2 : IVec S_ 32 := shapeCast S_ main_arg6 shapeCasts_S1_S_
  let main_c_0 : IVec S_ 32 := constantI S_ 32 1#32
  let main_v3 : IVec S_ 1 := cmpi .eq main_v2 main_c_0
  let main_v4 : IVec S_ 1 := ori main_v1 main_v3
  main_v4
-- ==== Kernel.lean ====
abbrev S4352x1024 : Shape := ⟨2, ![4352, 1024]⟩
abbrev S1024x1024 : Shape := ⟨2, ![1024, 1024]⟩
abbrev S4352x3840 : Shape := ⟨2, ![4352, 3840]⟩
abbrev S4352x2048 : Shape := ⟨2, ![4352, 2048]⟩
abbrev S1x2048 : Shape := ⟨2, ![1, 2048]⟩
abbrev S544x1024 : Shape := ⟨2, ![544, 1024]⟩
abbrev S544x2048 : Shape := ⟨2, ![544, 2048]⟩
abbrev S1x1024 : Shape := ⟨2, ![1, 1024]⟩
abbrev S1024 : Shape := ⟨1, ![1024]⟩

abbrev nBuf : Space → Nat
  | .hbm => 9
  | .vmem => 18
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S4352x1024, .bf16⟩
  | .hbm, ⟨4, _⟩ => ⟨S4352x3840, .f32⟩
  | .hbm, ⟨5, _⟩ => ⟨S4352x1024, .bf16⟩
  | .hbm, ⟨6, _⟩ => ⟨S4352x1024, .bf16⟩
  | .hbm, ⟨7, _⟩ => ⟨S4352x2048, .bf16⟩
  | .hbm, ⟨8, _⟩ => ⟨S1x2048, .f32⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .bf16⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | .local _ .vmem, ⟨13, _⟩ => ⟨S544x1024, .bf16⟩
  | .local _ .vmem, ⟨14, _⟩ => ⟨S544x1024, .bf16⟩
  | .local _ .vmem, ⟨15, _⟩ => ⟨S544x2048, .bf16⟩
  | .local _ .vmem, ⟨16, _⟩ => ⟨S544x2048, .bf16⟩
  | .local _ .vmem, ⟨17, _⟩ => ⟨S1x2048, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4352x1024 : Shape := ⟨2, ![4352, 1024]⟩
abbrev S1024x1024 : Shape := ⟨2, ![1024, 1024]⟩
abbrev S4352x3840 : Shape := ⟨2, ![4352, 3840]⟩
abbrev S4352x2048 : Shape := ⟨2, ![4352, 2048]⟩
abbrev S_ : Shape := ⟨0, ![]⟩
abbrev S2048 : Shape := ⟨1, ![2048]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S4352x1024, .bf16⟩
  | .hbm, ⟨4, _⟩ => ⟨S4352x3840, .f32⟩
  | .hbm, ⟨5, _⟩ => ⟨S4352x2048, .f32⟩
  | .hbm, ⟨6, _⟩ => ⟨S4352x1024, .f32⟩
  | .hbm, ⟨7, _⟩ => ⟨S4352x1024, .f32⟩
  | .hbm, ⟨8, _⟩ => ⟨S1024x1024, .f32⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S4352x1024, .f32⟩
  | .hbm, ⟨13, _⟩ => ⟨S_, .f32⟩
  | .hbm, ⟨14, _⟩ => ⟨S4352x1024, .f32⟩
  | .hbm, ⟨15, _⟩ => ⟨S4352x1024, .f32⟩
  | .hbm, ⟨16, _⟩ => ⟨S_, .f32⟩
  | .hbm, ⟨17, _⟩ => ⟨S4352x1024, .f32⟩
  | .hbm, ⟨18, _⟩ => ⟨S4352x1024, .f32⟩
  | .hbm, ⟨19, _⟩ => ⟨S_, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S_, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1024, .f32⟩
  | .hbm, ⟨31, _⟩ => ⟨S4352x1024, .f32⟩
  | .hbm, ⟨32, _⟩ => ⟨S_, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x2048, .f32⟩
  | .hbm, ⟨48, _⟩ => ⟨S4352x1024, .bf16⟩
  | .hbm, ⟨49, _⟩ => ⟨S4352x1024, .bf16⟩
  | .hbm, ⟨50, _⟩ => ⟨S4352x2048, .bf16⟩
  | .hbm, ⟨51, _⟩ => ⟨S_, .f32⟩
  | .hbm, ⟨52, _⟩ => ⟨S2048, .f32⟩
  | .hbm, ⟨53, _⟩ => ⟨S1x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel2.lean ====
abbrev S4352x1024 : Shape := ⟨2, ![4352, 1024]⟩
abbrev S4x512x256 : Shape := ⟨3, ![4, 512, 256]⟩
abbrev S4352x512 : Shape := ⟨2, ![4352, 512]⟩
abbrev S1x512 : Shape := ⟨2, ![1, 512]⟩
abbrev S544x1024 : Shape := ⟨2, ![544, 1024]⟩
abbrev S544x512 : Shape := ⟨2, ![544, 512]⟩
abbrev S544x256 : Shape := ⟨2, ![544, 256]⟩
abbrev S1x512x256 : Shape := ⟨3, ![1, 512, 256]⟩
abbrev S512x256 : Shape := ⟨2, ![512, 256]⟩
abbrev S544 : Shape := ⟨1, ![544]⟩
abbrev S544x1 : Shape := ⟨2, ![544, 1]⟩
abbrev S512 : Shape := ⟨1, ![512]⟩

abbrev nBuf : Space → Nat
  | .hbm => 9
  | .vmem => 12
  | .smem => 0
  | _ => 0

abbrev bufTy : (tb : Table) → Fin (tcTables nBuf tb) → BufTy
  | .hbm, ⟨0, _⟩ => ⟨S4352x1024, .bf16⟩
  | .hbm, ⟨1, _⟩ => ⟨S4x512x256, .bf16⟩
  | .hbm, ⟨2, _⟩ => ⟨S4352x512, .f32⟩
  | .hbm, ⟨3, _⟩ => ⟨S1x512, .f32⟩
  | .hbm, ⟨4, _⟩ => ⟨S1x512, .f32⟩
  | .hbm, ⟨5, _⟩ => ⟨S4352x512, .f32⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S544x1024, .bf16⟩
  | .local _ .vmem, ⟨1, _⟩ => ⟨S544x1024, .bf16⟩
  | .local _ .vmem, ⟨2, _⟩ => ⟨S4x512x256, .bf16⟩
  | .local _ .vmem, ⟨3, _⟩ => ⟨S544x512, .f32⟩
  | .local _ .vmem, ⟨4, _⟩ => ⟨S544x512, .f32⟩
  | .local _ .vmem, ⟨5, _⟩ => ⟨S1x512, .f32⟩
  | .local _ .vmem, ⟨6, _⟩ => ⟨S1x512, .f32⟩
  | .local _ .vmem, ⟨7, _⟩ => ⟨S544x512, .f32⟩
  | .local _ .vmem, ⟨8, _⟩ => ⟨S544x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4352x1024 : Shape := ⟨2, ![4352, 1024]⟩
abbrev S4x512x256 : Shape := ⟨3, ![4, 512, 256]⟩
abbrev S4352x512 : Shape := ⟨2, ![4352, 512]⟩
abbrev S1x512 : Shape := ⟨2, ![1, 512]⟩
abbrev S512x4x256 : Shape := ⟨3, ![512, 4, 256]⟩
abbrev S512x1024 : Shape := ⟨2, ![512, 1024]⟩
abbrev S_ : Shape := ⟨0, ![]⟩
abbrev S4352 : Shape := ⟨1, ![4352]⟩
abbrev S4352x1 : Shape := ⟨2, ![4352, 1]⟩
abbrev S512 : Shape := ⟨1, ![512]⟩

abbrev nBuf : Space → Nat
  | .hbm => 109
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4x512x256, .bf16⟩
  | .hbm, ⟨2, _⟩ => ⟨S4352x512, .f32⟩
  | .hbm, ⟨3, _⟩ => ⟨S1x512, .f32⟩
  | .hbm, ⟨4, _⟩ => ⟨S1x512, .f32⟩
  | .hbm, ⟨5, _⟩ => ⟨S4x512x256, .f32⟩
  | .hbm, ⟨6, _⟩ => ⟨S512x4x256, .f32⟩
  | .hbm, ⟨7, _⟩ => ⟨S512x1024, .f32⟩
  | .hbm, ⟨8, _⟩ => ⟨S_, .f32⟩
  | .hbm, ⟨9, _⟩ => ⟨S1x512, .f32⟩
  | .hbm, ⟨10, _⟩ => ⟨S4352x512, .f32⟩
  | .hbm, ⟨11, _⟩ => ⟨S4352x512, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x512, .f32⟩
  | .hbm, ⟨19, _⟩ => ⟨S4352x512, .f32⟩
  | .hbm, ⟨20, _⟩ => ⟨S4352x512, .f32⟩
  | .hbm, ⟨21, _⟩ => ⟨S_, .f32⟩
  | .hbm, ⟨22, _⟩ => ⟨S4352x512, .f32⟩
  | .hbm, ⟨23, _⟩ => ⟨S4352x512, .f32⟩
  | .hbm, ⟨24, _⟩ => ⟨S_, .f32⟩
  | .hbm, ⟨25, _⟩ => ⟨S4352, .f32⟩
  | .hbm, ⟨26, _⟩ => ⟨S4352x1, .f32⟩
  | .hbm, ⟨27, _⟩ => ⟨S_, .f32⟩
  | .hbm, ⟨28, _⟩ => ⟨S4352x1, .f32⟩
  | .hbm, ⟨29, _⟩ => ⟨S4352x1, .f32⟩
  | .hbm, ⟨30, _⟩ => ⟨S4352x512, .f32⟩
  | .hbm, ⟨31, _⟩ => ⟨S4352x512, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S4352x1, .f32⟩
  | .hbm, ⟨36, _⟩ => ⟨S4352x1, .f32⟩
  | .hbm, ⟨37, _⟩ => ⟨S_, .f32⟩
  | .hbm, ⟨38, _⟩ => ⟨S4352x1, .f32⟩
  | .hbm, ⟨39, _⟩ => ⟨S4352x1, .f32⟩
  | .hbm, ⟨40, _⟩ => ⟨S4352x512, .f32⟩
  | .hbm, ⟨41, _⟩ => ⟨S4352x512, .f32⟩
  | .hbm, ⟨42, _⟩ => ⟨S4352x512, .f32⟩
  | .hbm, ⟨43, _⟩ => ⟨S4352x512, .f32⟩
  | .hbm, ⟨44, _⟩ => ⟨S4352x512, .f32⟩
  | .hbm, ⟨45, _⟩ => ⟨S4352x512, .f32⟩
  | .hbm, ⟨46, _⟩ => ⟨S4352x512, .f32⟩
  | .hbm, ⟨47, _⟩ => ⟨S4352x512, .f32⟩
  | .hbm, ⟨48, _⟩ => ⟨S_, .f32⟩
  | .hbm, ⟨49, _⟩ => ⟨S4352x512, .f32⟩
  | .hbm, ⟨50, _⟩ => ⟨S4352x512, .f32⟩
  | .hbm, ⟨51, _⟩ => ⟨S_, .f32⟩
  | .hbm, ⟨52, _⟩ => ⟨S4352x512, .f32⟩
  | .hbm, ⟨53, _⟩ => ⟨S4352x512, .f32⟩
  | .hbm, ⟨54, _⟩ => ⟨S_, .f32⟩
  | .hbm, ⟨55, _⟩ => ⟨S4352x512, .f32⟩
  | .hbm, ⟨56, _⟩ => ⟨S4352x512, .f32⟩
  | .hbm, ⟨57, _⟩ => ⟨S4352x512, .f32⟩
  | .hbm, ⟨58, _⟩ => ⟨S4352x512, .f32⟩
  | .hbm, ⟨59, _⟩ => ⟨S4352x1024, .f32⟩
  | .hbm, ⟨60, _⟩ => ⟨S4352x1024, .f32⟩
  | .hbm, ⟨61, _⟩ => ⟨S4352x512, .f32⟩
  | .hbm, ⟨62, _⟩ => ⟨S4352x512, .f32⟩
  | .hbm, ⟨63, _⟩ => ⟨S4352x512, .f32⟩
  | .hbm, ⟨64, _⟩ => ⟨S4352x512, .f32⟩
  | .hbm, ⟨65, _⟩ => ⟨S4352x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S4352x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S4352x512, .f32⟩
  | .hbm, ⟨74, _⟩ => ⟨S4352x512, .f32⟩
  | .hbm, ⟨75, _⟩ => ⟨S4352x512, .f32⟩
  | .hbm, ⟨76, _⟩ => ⟨S_, .f32⟩
  | .hbm, ⟨77, _⟩ => ⟨S4352, .f32⟩
  | .hbm, ⟨78, _⟩ => ⟨S4352x1, .f32⟩
  | .hbm, ⟨79, _⟩ => ⟨S4352x512, .f32⟩
  | .hbm, ⟨80, _⟩ => ⟨S4352x512, .f32⟩
  | .hbm, ⟨81, _⟩ => ⟨S4352x1, .f32⟩
  | .hbm, ⟨82, _⟩ => ⟨S4352x512, .f32⟩
  | .hbm, ⟨83, _⟩ => ⟨S_, .f32⟩
  | .hbm, ⟨84, _⟩ => ⟨S4352, .f32⟩
  | .hbm, ⟨85, _⟩ => ⟨S4352x1, .f32⟩
  | .hbm, ⟨86, _⟩ => ⟨S_, .f32⟩
  | .hbm, ⟨87, _⟩ => ⟨S4352x1, .f32⟩
  | .hbm, ⟨88, _⟩ => ⟨S4352x1, .f32⟩
  | .hbm, ⟨89, _⟩ => ⟨S_, .f32⟩
  | .hbm, ⟨90, _⟩ => ⟨S4352, .f32⟩
  | .hbm, ⟨91, _⟩ => ⟨S4352x512, .f32⟩
  | .hbm, ⟨92, _⟩ => ⟨S4352x512, .f32⟩
  | .hbm, ⟨93, _⟩ => ⟨S4352x512, .f32⟩
  | .hbm, ⟨94, _⟩ => ⟨S_, .f32⟩
  | .hbm, ⟨95, _⟩ => ⟨S4352, .f32⟩
  | .hbm, ⟨96, _⟩ => ⟨S4352x1, .f32⟩
  | .hbm, ⟨97, _⟩ => ⟨S4352x512, .f32⟩
  | .hbm, ⟨98, _⟩ => ⟨S4352x1, .f32⟩
  | .hbm, ⟨99, _⟩ => ⟨S_, .f32⟩
  | .hbm, ⟨100, _⟩ => ⟨S4352x1, .f32⟩
  | .hbm, ⟨101, _⟩ => ⟨S4352x1, .f32⟩
  | .hbm, ⟨102, _⟩ => ⟨S_, .f32⟩
  | .hbm, ⟨103, _⟩ => ⟨S4352, .f32⟩
  | .hbm, ⟨104, _⟩ => ⟨S4352x512, .f32⟩
  | .hbm, ⟨105, _⟩ => ⟨S4352x512, .f32⟩
  | .hbm, ⟨106, _⟩ => ⟨S_, .f32⟩
  | .hbm, ⟨107, _⟩ => ⟨S512, .f32⟩
  | .hbm, ⟨108, _⟩ => ⟨S1x512, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v33_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v33_1 : Ref sig .tc := ⟨.hbm, 57, rfl⟩
abbrev main_v33_0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_14 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩

abbrev nD : Nat := 1
abbrev τ : Topo := Topo.v7x

variable {F : FTy → Type} [FloatOps F]
-- ==== Kernel3.lean ====
abbrev S4352x1024 : Shape := ⟨2, ![4352, 1024]⟩
abbrev S1x1024 : Shape := ⟨2, ![1, 1024]⟩
abbrev S2x4352x2816 : Shape := ⟨3, ![2, 4352, 2816]⟩
abbrev S4x1024x1408 : Shape := ⟨3, ![4, 1024, 1408]⟩
abbrev S272x1024 : Shape := ⟨2, ![272, 1024]⟩
abbrev S2x272x2816 : Shape := ⟨3, ![2, 272, 2816]⟩
abbrev S1x272x1408 : Shape := ⟨3, ![1, 272, 1408]⟩
abbrev S272x1408 : Shape := ⟨2, ![272, 1408]⟩
abbrev S1x1024x1408 : Shape := ⟨3, ![1, 1024, 1408]⟩
abbrev S1024x1408 : Shape := ⟨2, ![1024, 1408]⟩
abbrev S272 : Shape := ⟨1, ![272]⟩
abbrev S272x1 : Shape := ⟨2, ![272, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1x1024, .f32⟩
  | .hbm, ⟨3, _⟩ => ⟨S2x4352x2816, .bf16⟩
  | .hbm, ⟨4, _⟩ => ⟨S4x1024x1408, .bf16⟩
  | .hbm, ⟨5, _⟩ => ⟨S4352x1024, .f32⟩
  | .hbm, ⟨6, _⟩ => ⟨S4352x1024, .bf16⟩
  | .hbm, ⟨7, _⟩ => ⟨S1x1024, .f32⟩
  | .hbm, ⟨8, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S1x1024, .f32⟩
  | .local _ .vmem, ⟨5, _⟩ => ⟨S2x272x2816, .bf16⟩
  | .local _ .vmem, ⟨6, _⟩ => ⟨S2x272x2816, .bf16⟩
  | .local _ .vmem, ⟨7, _⟩ => ⟨S4x1024x1408, .bf16⟩
  | .local _ .vmem, ⟨8, _⟩ => ⟨S272x1024, .f32⟩
  | .local _ .vmem, ⟨9, _⟩ => ⟨S272x1024, .f32⟩
  | .local _ .vmem, ⟨10, _⟩ => ⟨S272x1024, .bf16⟩
  | .local _ .vmem, ⟨11, _⟩ => ⟨S272x1024, .bf16⟩
  | .local _ .vmem, ⟨12, _⟩ => ⟨S1x1024, .f32⟩
  | .local _ .vmem, ⟨13, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x272x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4352x1024 : Shape := ⟨2, ![4352, 1024]⟩
abbrev S1x1024 : Shape := ⟨2, ![1, 1024]⟩
abbrev S2x4352x2816 : Shape := ⟨3, ![2, 4352, 2816]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S1x4352x2816 : Shape := ⟨3, ![1, 4352, 2816]⟩
abbrev S4352x2816 : Shape := ⟨2, ![4352, 2816]⟩
abbrev S4352x5632 : Shape := ⟨2, ![4352, 5632]⟩
abbrev S_ : Shape := ⟨0, ![]⟩
abbrev S4352 : Shape := ⟨1, ![4352]⟩
abbrev S4352x1 : Shape := ⟨2, ![4352, 1]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1x1024, .f32⟩
  | .hbm, ⟨3, _⟩ => ⟨S2x4352x2816, .bf16⟩
  | .hbm, ⟨4, _⟩ => ⟨S4x1024x1408, .bf16⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S1x4352x2816, .bf16⟩
  | .hbm, ⟨9, _⟩ => ⟨S4352x2816, .bf16⟩
  | .hbm, ⟨10, _⟩ => ⟨S4352x2816, .f32⟩
  | .hbm, ⟨11, _⟩ => ⟨S1x4352x2816, .bf16⟩
  | .hbm, ⟨12, _⟩ => ⟨S4352x2816, .bf16⟩
  | .hbm, ⟨13, _⟩ => ⟨S4352x2816, .f32⟩
  | .hbm, ⟨14, _⟩ => ⟨S4352x5632, .f32⟩
  | .hbm, ⟨15, _⟩ => ⟨S_, .f32⟩
  | .hbm, ⟨16, _⟩ => ⟨S1x1024, .f32⟩
  | .hbm, ⟨17, _⟩ => ⟨S_, .f32⟩
  | .hbm, ⟨18, _⟩ => ⟨S4352, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S_, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352, .f32⟩
  | .hbm, ⟨31, _⟩ => ⟨S4352x1, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S4352x1024, .f32⟩
  | .hbm, ⟨36, _⟩ => ⟨S4352x1024, .f32⟩
  | .hbm, ⟨37, _⟩ => ⟨S_, .f32⟩
  | .hbm, ⟨38, _⟩ => ⟨S4352x1, .f32⟩
  | .hbm, ⟨39, _⟩ => ⟨S4352x1, .f32⟩
  | .hbm, ⟨40, _⟩ => ⟨S4352x1, .f32⟩
  | .hbm, ⟨41, _⟩ => ⟨S4352x1, .f32⟩
  | .hbm, ⟨42, _⟩ => ⟨S_, .f32⟩
  | .hbm, ⟨43, _⟩ => ⟨S4352x1, .f32⟩
  | .hbm, ⟨44, _⟩ => ⟨S4352x1, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S_, .f32⟩
  | .hbm, ⟨52, _⟩ => ⟨S4352x1024, .f32⟩
  | .hbm, ⟨53, _⟩ => ⟨S4352x1024, .f32⟩
  | .hbm, ⟨54, _⟩ => ⟨S4352x5632, .f32⟩
  | .hbm, ⟨55, _⟩ => ⟨S4352x1024, .f32⟩
  | .hbm, ⟨56, _⟩ => ⟨S_, .f32⟩
  | .hbm, ⟨57, _⟩ => ⟨S4352x1024, .f32⟩
  | .hbm, ⟨58, _⟩ => ⟨S4352x1024, .f32⟩
  | .hbm, ⟨59, _⟩ => ⟨S4352x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4352x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4352x1024, .f32⟩
  | .hbm, ⟨68, _⟩ => ⟨S4352x1024, .f32⟩
  | .hbm, ⟨69, _⟩ => ⟨S4352x1024, .f32⟩
  | .hbm, ⟨70, _⟩ => ⟨S_, .f32⟩
  | .hbm, ⟨71, _⟩ => ⟨S4352, .f32⟩
  | .hbm, ⟨72, _⟩ => ⟨S4352x1, .f32⟩
  | .hbm, ⟨73, _⟩ => ⟨S4352x1024, .f32⟩
  | .hbm, ⟨74, _⟩ => ⟨S4352x1024, .f32⟩
  | .hbm, ⟨75, _⟩ => ⟨S4352x1, .f32⟩
  | .hbm, ⟨76, _⟩ => ⟨S4352x1024, .f32⟩
  | .hbm, ⟨77, _⟩ => ⟨S_, .f32⟩
  | .hbm, ⟨78, _⟩ => ⟨S4352, .f32⟩
  | .hbm, ⟨79, _⟩ => ⟨S4352x1, .f32⟩
  | .hbm, ⟨80, _⟩ => ⟨S_, .f32⟩
  | .hbm, ⟨81, _⟩ => ⟨S4352x1, .f32⟩
  | .hbm, ⟨82, _⟩ => ⟨S4352x1, .f32⟩
  | .hbm, ⟨83, _⟩ => ⟨S_, .f32⟩
  | .hbm, ⟨84, _⟩ => ⟨S4352, .f32⟩
  | .hbm, ⟨85, _⟩ => ⟨S4352x1024, .f32⟩
  | .hbm, ⟨86, _⟩ => ⟨S4352x1024, .f32⟩
  | .hbm, ⟨87, _⟩ => ⟨S4352x1024, .f32⟩
  | .hbm, ⟨88, _⟩ => ⟨S_, .f32⟩
  | .hbm, ⟨89, _⟩ => ⟨S4352, .f32⟩
  | .hbm, ⟨90, _⟩ => ⟨S4352x1, .f32⟩
  | .hbm, ⟨91, _⟩ => ⟨S4352x1024, .f32⟩
  | .hbm, ⟨92, _⟩ => ⟨S4352x1, .f32⟩
  | .hbm, ⟨93, _⟩ => ⟨S_, .f32⟩
  | .hbm, ⟨94, _⟩ => ⟨S4352x1, .f32⟩
  | .hbm, ⟨95, _⟩ => ⟨S4352x1, .f32⟩
  | .hbm, ⟨96, _⟩ => ⟨S_, .f32⟩
  | .hbm, ⟨97, _⟩ => ⟨S4352, .f32⟩
  | .hbm, ⟨98, _⟩ => ⟨S4352x1024, .f32⟩
  | .hbm, ⟨99, _⟩ => ⟨S4352x1024, .f32⟩
  | .hbm, ⟨100, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_cst_17 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== Kernel4.lean ====
abbrev S4352x1024 : Shape := ⟨2, ![4352, 1024]⟩
abbrev S1x1024 : Shape := ⟨2, ![1, 1024]⟩
abbrev S4352x2048 : Shape := ⟨2, ![4352, 2048]⟩
abbrev S4352x768 : Shape := ⟨2, ![4352, 768]⟩
abbrev S1024x3840 : Shape := ⟨2, ![1024, 3840]⟩
abbrev S544x1024 : Shape := ⟨2, ![544, 1024]⟩
abbrev S544x2048 : Shape := ⟨2, ![544, 2048]⟩
abbrev S544x768 : Shape := ⟨2, ![544, 768]⟩
abbrev S272x1024 : Shape := ⟨2, ![272, 1024]⟩
abbrev S272x2048 : Shape := ⟨2, ![272, 2048]⟩
abbrev S1024x2048 : Shape := ⟨2, ![1024, 2048]⟩
abbrev S1024x1024 : Shape := ⟨2, ![1024, 1024]⟩
abbrev S272x768 : Shape := ⟨2, ![272, 768]⟩
abbrev S1024x768 : Shape := ⟨2, ![1024, 768]⟩
abbrev S272 : Shape := ⟨1, ![272]⟩
abbrev S272x1 : Shape := ⟨2, ![272, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1x1024, .f32⟩
  | .hbm, ⟨3, _⟩ => ⟨S4352x2048, .bf16⟩
  | .hbm, ⟨4, _⟩ => ⟨S4352x1024, .bf16⟩
  | .hbm, ⟨5, _⟩ => ⟨S4352x768, .bf16⟩
  | .hbm, ⟨6, _⟩ => ⟨S1024x3840, .bf16⟩
  | .hbm, ⟨7, _⟩ => ⟨S4352x1024, .f32⟩
  | .hbm, ⟨8, _⟩ => ⟨S4352x1024, .bf16⟩
  | .hbm, ⟨9, _⟩ => ⟨S1x1024, .f32⟩
  | .hbm, ⟨10, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x1024, .f32⟩
  | .local _ .vmem, ⟨5, _⟩ => ⟨S544x2048, .bf16⟩
  | .local _ .vmem, ⟨6, _⟩ => ⟨S544x2048, .bf16⟩
  | .local _ .vmem, ⟨7, _⟩ => ⟨S544x1024, .bf16⟩
  | .local _ .vmem, ⟨8, _⟩ => ⟨S544x1024, .bf16⟩
  | .local _ .vmem, ⟨9, _⟩ => ⟨S544x768, .bf16⟩
  | .local _ .vmem, ⟨10, _⟩ => ⟨S544x768, .bf16⟩
  | .local _ .vmem, ⟨11, _⟩ => ⟨S1024x3840, .bf16⟩
  | .local _ .vmem, ⟨12, _⟩ => ⟨S544x1024, .f32⟩
  | .local _ .vmem, ⟨13, _⟩ => ⟨S544x1024, .f32⟩
  | .local _ .vmem, ⟨14, _⟩ => ⟨S544x1024, .bf16⟩
  | .local _ .vmem, ⟨15, _⟩ => ⟨S544x1024, .bf16⟩
  | .local _ .vmem, ⟨16, _⟩ => ⟨S1x1024, .f32⟩
  | .local _ .vmem, ⟨17, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3840 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S4352x1024 : Shape := ⟨2, ![4352, 1024]⟩
abbrev S1x1024 : Shape := ⟨2, ![1, 1024]⟩
abbrev S4352x2048 : Shape := ⟨2, ![4352, 2048]⟩
abbrev S4352x768 : Shape := ⟨2, ![4352, 768]⟩
abbrev S1024x3840 : Shape := ⟨2, ![1024, 3840]⟩
abbrev S4352x3840 : Shape := ⟨2, ![4352, 3840]⟩
abbrev S_ : Shape := ⟨0, ![]⟩
abbrev S4352 : Shape := ⟨1, ![4352]⟩
abbrev S4352x1 : Shape := ⟨2, ![4352, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1x1024, .f32⟩
  | .hbm, ⟨3, _⟩ => ⟨S4352x2048, .bf16⟩
  | .hbm, ⟨4, _⟩ => ⟨S4352x1024, .bf16⟩
  | .hbm, ⟨5, _⟩ => ⟨S4352x768, .bf16⟩
  | .hbm, ⟨6, _⟩ => ⟨S1024x3840, .bf16⟩
  | .hbm, ⟨7, _⟩ => ⟨S4352x2048, .f32⟩
  | .hbm, ⟨8, _⟩ => ⟨S4352x1024, .f32⟩
  | .hbm, ⟨9, _⟩ => ⟨S4352x768, .f32⟩
  | .hbm, ⟨10, _⟩ => ⟨S4352x3840, .f32⟩
  | .hbm, ⟨11, _⟩ => ⟨S_, .f32⟩
  | .hbm, ⟨12, _⟩ => ⟨S1x1024, .f32⟩
  | .hbm, ⟨13, _⟩ => ⟨S1024x3840, .f32⟩
  | .hbm, ⟨14, _⟩ => ⟨S_, .f32⟩
  | .hbm, ⟨15, _⟩ => ⟨S4352, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S_, .f32⟩
  | .hbm, ⟨24, _⟩ => ⟨S4352x1024, .f32⟩
  | .hbm, ⟨25, _⟩ => ⟨S4352x1024, .f32⟩
  | .hbm, ⟨26, _⟩ => ⟨S_, .f32⟩
  | .hbm, ⟨27, _⟩ => ⟨S4352, .f32⟩
  | .hbm, ⟨28, _⟩ => ⟨S4352x1, .f32⟩
  | .hbm, ⟨29, _⟩ => ⟨S_, .f32⟩
  | .hbm, ⟨30, _⟩ => ⟨S4352x1, .f32⟩
  | .hbm, ⟨31, _⟩ => ⟨S4352x1, .f32⟩
  | .hbm, ⟨32, _⟩ => ⟨S4352x1024, .f32⟩
  | .hbm, ⟨33, _⟩ => ⟨S4352x1024, .f32⟩
  | .hbm, ⟨34, _⟩ => ⟨S_, .f32⟩
  | .hbm, ⟨35, _⟩ => ⟨S4352x1, .f32⟩
  | .hbm, ⟨36, _⟩ => ⟨S4352x1, .f32⟩
  | .hbm, ⟨37, _⟩ => ⟨S4352x1, .f32⟩
  | .hbm, ⟨38, _⟩ => ⟨S4352x1, .f32⟩
  | .hbm, ⟨39, _⟩ => ⟨S_, .f32⟩
  | .hbm, ⟨40, _⟩ => ⟨S4352x1, .f32⟩
  | .hbm, ⟨41, _⟩ => ⟨S4352x1, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S_, .f32⟩
  | .hbm, ⟨49, _⟩ => ⟨S4352x1024, .f32⟩
  | .hbm, ⟨50, _⟩ => ⟨S4352x1024, .f32⟩
  | .hbm, ⟨51, _⟩ => ⟨S4352x3840, .f32⟩
  | .hbm, ⟨52, _⟩ => ⟨S4352x1024, .f32⟩
  | .hbm, ⟨53, _⟩ => ⟨S_, .f32⟩
  | .hbm, ⟨54, _⟩ => ⟨S4352x1024, .f32⟩
  | .hbm, ⟨55, _⟩ => ⟨S4352x1024, .f32⟩
  | .hbm, ⟨56, _⟩ => ⟨S4352x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4352x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4352x1024, .f32⟩
  | .hbm, ⟨65, _⟩ => ⟨S4352x1024, .f32⟩
  | .hbm, ⟨66, _⟩ => ⟨S4352x1024, .f32⟩
  | .hbm, ⟨67, _⟩ => ⟨S_, .f32⟩
  | .hbm, ⟨68, _⟩ => ⟨S4352, .f32⟩
  | .hbm, ⟨69, _⟩ => ⟨S4352x1, .f32⟩
  | .hbm, ⟨70, _⟩ => ⟨S4352x1024, .f32⟩
  | .hbm, ⟨71, _⟩ => ⟨S4352x1024, .f32⟩
  | .hbm, ⟨72, _⟩ => ⟨S4352x1, .f32⟩
  | .hbm, ⟨73, _⟩ => ⟨S4352x1024, .f32⟩
  | .hbm, ⟨74, _⟩ => ⟨S_, .f32⟩
  | .hbm, ⟨75, _⟩ => ⟨S4352, .f32⟩
  | .hbm, ⟨76, _⟩ => ⟨S4352x1, .f32⟩
  | .hbm, ⟨77, _⟩ => ⟨S_, .f32⟩
  | .hbm, ⟨78, _⟩ => ⟨S4352x1, .f32⟩
  | .hbm, ⟨79, _⟩ => ⟨S4352x1, .f32⟩
  | .hbm, ⟨80, _⟩ => ⟨S_, .f32⟩
  | .hbm, ⟨81, _⟩ => ⟨S4352, .f32⟩
  | .hbm, ⟨82, _⟩ => ⟨S4352x1024, .f32⟩
  | .hbm, ⟨83, _⟩ => ⟨S4352x1024, .f32⟩
  | .hbm, ⟨84, _⟩ => ⟨S4352x1024, .f32⟩
  | .hbm, ⟨85, _⟩ => ⟨S_, .f32⟩
  | .hbm, ⟨86, _⟩ => ⟨S4352, .f32⟩
  | .hbm, ⟨87, _⟩ => ⟨S4352x1, .f32⟩
  | .hbm, ⟨88, _⟩ => ⟨S4352x1024, .f32⟩
  | .hbm, ⟨89, _⟩ => ⟨S4352x1, .f32⟩
  | .hbm, ⟨90, _⟩ => ⟨S_, .f32⟩
  | .hbm, ⟨91, _⟩ => ⟨S4352x1, .f32⟩
  | .hbm, ⟨92, _⟩ => ⟨S4352x1, .f32⟩
  | .hbm, ⟨93, _⟩ => ⟨S_, .f32⟩
  | .hbm, ⟨94, _⟩ => ⟨S4352, .f32⟩
  | .hbm, ⟨95, _⟩ => ⟨S4352x1024, .f32⟩
  | .hbm, ⟨96, _⟩ => ⟨S4352x1024, .f32⟩
  | .hbm, ⟨97, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel5.lean ====
abbrev S4352x2816 : Shape := ⟨2, ![4352, 2816]⟩
abbrev S4352x1024 : Shape := ⟨2, ![4352, 1024]⟩
abbrev S2816x1024 : Shape := ⟨2, ![2816, 1024]⟩
abbrev S4352x1408 : Shape := ⟨2, ![4352, 1408]⟩
abbrev S4352x512 : Shape := ⟨2, ![4352, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S2816x1024, .f32⟩
  | .local _ .vmem, ⟨0, _⟩ => ⟨S4352x1408, .bf16⟩
  | .local _ .vmem, ⟨1, _⟩ => ⟨S4352x1408, .bf16⟩
  | .local _ .vmem, ⟨2, _⟩ => ⟨S4352x512, .bf16⟩
  | .local _ .vmem, ⟨3, _⟩ => ⟨S4352x512, .bf16⟩
  | .local _ .vmem, ⟨4, _⟩ => ⟨S1408x512, .f32⟩
  | .local _ .vmem, ⟨5, _⟩ => ⟨S1408x512, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4352x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S_, .f32⟩
  | .hbm, ⟨3, _⟩ => ⟨S2816x1024, .f32⟩
  | .hbm, ⟨4, _⟩ => ⟨S4352x2816, .f32⟩
  | .hbm, ⟨5, _⟩ => ⟨S4352x1024, .f32⟩
  | .hbm, ⟨6, _⟩ => ⟨S4352x1024, .f32⟩
  | .hbm, ⟨7, _⟩ => ⟨S1024x2816, .f32⟩
  | .hbm, ⟨8, _⟩ => ⟨S2816x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4352x1024 : Shape := ⟨2, ![4352, 1024]⟩
abbrev S1024x1024 : Shape := ⟨2, ![1024, 1024]⟩
abbrev S4352x512 : Shape := ⟨2, ![4352, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .f32⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1024x512, .f32⟩
  | .local _ .vmem, ⟨4, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4352x1024 : Shape := ⟨2, ![4352, 1024]⟩
abbrev S2x4352x2816 : Shape := ⟨3, ![2, 4352, 2816]⟩
abbrev S4x1024x1408 : Shape := ⟨3, ![4, 1024, 1408]⟩
abbrev S1x4352x1408 : Shape := ⟨3, ![1, 4352, 1408]⟩
abbrev S1x1024x1408 : Shape := ⟨3, ![1, 1024, 1408]⟩
abbrev S4352x1408 : Shape := ⟨2, ![4352, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S2x4352x2816, .bf16⟩
  | .hbm, ⟨2, _⟩ => ⟨S4x1024x1408, .f32⟩
  | .local _ .vmem, ⟨0, _⟩ => ⟨S4352x1024, .bf16⟩
  | .local _ .vmem, ⟨1, _⟩ => ⟨S1x4352x1408, .bf16⟩
  | .local _ .vmem, ⟨2, _⟩ => ⟨S1x4352x1408, .bf16⟩
  | .local _ .vmem, ⟨3, _⟩ => ⟨S1x1024x1408, .f32⟩
  | .local _ .vmem, ⟨4, _⟩ => ⟨S1x1024x1408, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg1 c2_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, c0_i32_23.toNat, v53.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4352x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4352x1024 : Shape := ⟨2, ![4352, 1024]⟩
abbrev S2x4352x2816 : Shape := ⟨3, ![2, 4352, 2816]⟩
abbrev S1x4352x2816 : Shape := ⟨3, ![1, 4352, 2816]⟩
abbrev S4352x2816 : Shape := ⟨2, ![4352, 2816]⟩
abbrev S4352x5632 : Shape := ⟨2, ![4352, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2x4352x2816, .bf16⟩
  | .hbm, ⟨2, _⟩ => ⟨S1x4352x2816, .bf16⟩
  | .hbm, ⟨3, _⟩ => ⟨S4352x2816, .bf16⟩
  | .hbm, ⟨4, _⟩ => ⟨S4352x2816, .f32⟩
  | .hbm, ⟨5, _⟩ => ⟨S1x4352x2816, .bf16⟩
  | .hbm, ⟨6, _⟩ => ⟨S4352x2816, .bf16⟩
  | .hbm, ⟨7, _⟩ => ⟨S4352x2816, .f32⟩
  | .hbm, ⟨8, _⟩ => ⟨S4352x5632, .f32⟩
  | .hbm, ⟨9, _⟩ => ⟨S_, .f32⟩
  | .hbm, ⟨10, _⟩ => ⟨S1024x5632, .f32⟩
  | .hbm, ⟨11, _⟩ => ⟨S4352x1024, .f32⟩
  | .hbm, ⟨12, _⟩ => ⟨S4352x5632, .f32⟩
  | .hbm, ⟨13, _⟩ => ⟨S5632x1024, .f32⟩
  | .hbm, ⟨14, _⟩ => ⟨S1024x5632, .f32⟩
  | .hbm, ⟨15, _⟩ => ⟨S1024x4x1408, .f32⟩
  | .hbm, ⟨16, _⟩ => ⟨S4x1024x1408, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel8.lean ====
abbrev S4352x512 : Shape := ⟨2, ![4352, 512]⟩
abbrev S4352x1024 : Shape := ⟨2, ![4352, 1024]⟩
abbrev S4x512x256 : Shape := ⟨3, ![4, 512, 256]⟩
abbrev S4352x256 : Shape := ⟨2, ![4352, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S4x512x256, .f32⟩
  | .local _ .vmem, ⟨0, _⟩ => ⟨S4352x512, .bf16⟩
  | .local _ .vmem, ⟨1, _⟩ => ⟨S4352x256, .bf16⟩
  | .local _ .vmem, ⟨2, _⟩ => ⟨S4352x256, .bf16⟩
  | .local _ .vmem, ⟨3, _⟩ => ⟨S1x512x256, .f32⟩
  | .local _ .vmem, ⟨4, _⟩ => ⟨S1x512x256, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4352x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4352x512 : Shape := ⟨2, ![4352, 512]⟩
abbrev S4352x1024 : Shape := ⟨2, ![4352, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S_, .f32⟩
  | .hbm, ⟨3, _⟩ => ⟨S512x1024, .f32⟩
  | .hbm, ⟨4, _⟩ => ⟨S4352x512, .f32⟩
  | .hbm, ⟨5, _⟩ => ⟨S4352x1024, .f32⟩
  | .hbm, ⟨6, _⟩ => ⟨S4352x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4352x1024 : Shape := ⟨2, ![4352, 1024]⟩
abbrev S4352x2048 : Shape := ⟨2, ![4352, 2048]⟩
abbrev S1024x2048 : Shape := ⟨2, ![1024, 2048]⟩
abbrev S4352x512 : Shape := ⟨2, ![4352, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S1024x2048, .f32⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1024x512, .f32⟩
  | .local _ .vmem, ⟨4, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4352x1024 : Shape := ⟨2, ![4352, 1024]⟩
abbrev S4352x2048 : Shape := ⟨2, ![4352, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S_, .f32⟩
  | .hbm, ⟨3, _⟩ => ⟨S1024x2048, .f32⟩
  | .hbm, ⟨4, _⟩ => ⟨S4352x1024, .f32⟩
  | .hbm, ⟨5, _⟩ => ⟨S4352x2048, .f32⟩
  | .hbm, ⟨6, _⟩ => ⟨S4352x2048, .f32⟩
  | .hbm, ⟨7, _⟩ => ⟨S2048x1024, .f32⟩
  | .hbm, ⟨8, _⟩ => ⟨S1024x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4352x1024 : Shape := ⟨2, ![4352, 1024]⟩
abbrev S4352x768 : Shape := ⟨2, ![4352, 768]⟩
abbrev S1024x768 : Shape := ⟨2, ![1024, 768]⟩
abbrev S4352x256 : Shape := ⟨2, ![4352, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x768, .bf16⟩
  | .hbm, ⟨2, _⟩ => ⟨S1024x768, .f32⟩
  | .local _ .vmem, ⟨0, _⟩ => ⟨S4352x1024, .bf16⟩
  | .local _ .vmem, ⟨1, _⟩ => ⟨S4352x256, .bf16⟩
  | .local _ .vmem, ⟨2, _⟩ => ⟨S4352x256, .bf16⟩
  | .local _ .vmem, ⟨3, _⟩ => ⟨S1024x256, .f32⟩
  | .local _ .vmem, ⟨4, _⟩ => ⟨S1024x256, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4352x1024 : Shape := ⟨2, ![4352, 1024]⟩
abbrev S4352x768 : Shape := ⟨2, ![4352, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x768, .bf16⟩
  | .hbm, ⟨2, _⟩ => ⟨S_, .f32⟩
  | .hbm, ⟨3, _⟩ => ⟨S1024x768, .f32⟩
  | .hbm, ⟨4, _⟩ => ⟨S4352x1024, .f32⟩
  | .hbm, ⟨5, _⟩ => ⟨S4352x768, .f32⟩
  | .hbm, ⟨6, _⟩ => ⟨S4352x768, .f32⟩
  | .hbm, ⟨7, _⟩ => ⟨S768x1024, .f32⟩
  | .hbm, ⟨8, _⟩ => ⟨S1024x768, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4352x1024 : Shape := ⟨2, ![4352, 1024]⟩
abbrev S1024x3840 : Shape := ⟨2, ![1024, 3840]⟩
abbrev S1x3840 : Shape := ⟨2, ![1, 3840]⟩
abbrev S4352x3840 : Shape := ⟨2, ![4352, 3840]⟩
abbrev S544x1024 : Shape := ⟨2, ![544, 1024]⟩
abbrev S1024x1280 : Shape := ⟨2, ![1024, 1280]⟩
abbrev S1x1280 : Shape := ⟨2, ![1, 1280]⟩
abbrev S544x1280 : Shape := ⟨2, ![544, 1280]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S1024x3840, .bf16⟩
  | .hbm, ⟨2, _⟩ => ⟨S1x3840, .f32⟩
  | .hbm, ⟨3, _⟩ => ⟨S4352x3840, .f32⟩
  | .local _ .vmem, ⟨0, _⟩ => ⟨S544x1024, .bf16⟩
  | .local _ .vmem, ⟨1, _⟩ => ⟨S544x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1x1280, .f32⟩
  | .local _ .vmem, ⟨5, _⟩ => ⟨S1x1280, .f32⟩
  | .local _ .vmem, ⟨6, _⟩ => ⟨S544x1280, .f32⟩
  | .local _ .vmem, ⟨7, _⟩ => ⟨S544x1280, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S544x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4352x1024 : Shape := ⟨2, ![4352, 1024]⟩
abbrev S1024x3840 : Shape := ⟨2, ![1024, 3840]⟩
abbrev S1x3840 : Shape := ⟨2, ![1, 3840]⟩
abbrev S4352x3840 : Shape := ⟨2, ![4352, 3840]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x3840, .bf16⟩
  | .hbm, ⟨2, _⟩ => ⟨S1x3840, .f32⟩
  | .hbm, ⟨3, _⟩ => ⟨S4352x1024, .f32⟩
  | .hbm, ⟨4, _⟩ => ⟨S1024x3840, .f32⟩
  | .hbm, ⟨5, _⟩ => ⟨S4352x3840, .f32⟩
  | .hbm, ⟨6, _⟩ => ⟨S4352x3840, .f32⟩
  | .hbm, ⟨7, _⟩ => ⟨S4352x3840, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4352x2816 : Shape := ⟨2, ![4352, 2816]⟩
abbrev S2816x1024 : Shape := ⟨2, ![2816, 1024]⟩
abbrev S4352x1024 : Shape := ⟨2, ![4352, 1024]⟩
abbrev S1x1024 : Shape := ⟨2, ![1, 1024]⟩
abbrev S544x2816 : Shape := ⟨2, ![544, 2816]⟩
abbrev S544x1024 : Shape := ⟨2, ![544, 1024]⟩
abbrev S272x2816 : Shape := ⟨2, ![272, 2816]⟩
abbrev S272x1024 : Shape := ⟨2, ![272, 1024]⟩
abbrev S272 : Shape := ⟨1, ![272]⟩
abbrev S272x1 : Shape := ⟨2, ![272, 1]⟩

abbrev nBuf : Space → Nat
  | .hbm => 8
  | .vmem => 13
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S4352x1024, .f32⟩
  | .hbm, ⟨6, _⟩ => ⟨S4352x1024, .f32⟩
  | .hbm, ⟨7, _⟩ => ⟨S4352x1024, .bf16⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4352x2816 : Shape := ⟨2, ![4352, 2816]⟩
abbrev S2816x1024 : Shape := ⟨2, ![2816, 1024]⟩
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 40
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4352x1024, .f32⟩
  | .hbm, ⟨7, _⟩ => ⟨S4352x1024, .f32⟩
  | .hbm, ⟨8, _⟩ => ⟨S4352x2816, .f32⟩
  | .hbm, ⟨9, _⟩ => ⟨S2816x1024, .f32⟩
  | .hbm, ⟨10, _⟩ => ⟨S4352x1024, .f32⟩
  | .hbm, ⟨11, _⟩ => ⟨S4352x1024, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S_, .f32⟩
  | .hbm, ⟨22, _⟩ => ⟨S4352, .f32⟩
  | .hbm, ⟨23, _⟩ => ⟨S4352x1, .f32⟩
  | .hbm, ⟨24, _⟩ => ⟨S_, .f32⟩
  | .hbm, ⟨25, _⟩ => ⟨S4352x1, .f32⟩
  | .hbm, ⟨26, _⟩ => ⟨S4352x1, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1, .f32⟩
  | .hbm, ⟨31, _⟩ => ⟨S4352x1, .f32⟩
  | .hbm, ⟨32, _⟩ => ⟨S4352x1, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel13.lean ====
abbrev S4352x1024 : Shape := ⟨2, ![4352, 1024]⟩
abbrev S1024x1024 : Shape := ⟨2, ![1024, 1024]⟩
abbrev S1x1024 : Shape := ⟨2, ![1, 1024]⟩
abbrev S544x1024 : Shape := ⟨2, ![544, 1024]⟩
abbrev S272x1024 : Shape := ⟨2, ![272, 1024]⟩
abbrev S272 : Shape := ⟨1, ![272]⟩
abbrev S272x1 : Shape := ⟨2, ![272, 1]⟩

abbrev nBuf : Space → Nat
  | .hbm => 8
  | .vmem => 13
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S4352x1024, .f32⟩
  | .hbm, ⟨6, _⟩ => ⟨S4352x1024, .f32⟩
  | .hbm, ⟨7, _⟩ => ⟨S4352x1024, .bf16⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S4352x1024 : Shape := ⟨2, ![4352, 1024]⟩
abbrev S1024x1024 : Shape := ⟨2, ![1024, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 40
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4352x1024, .f32⟩
  | .hbm, ⟨7, _⟩ => ⟨S4352x1024, .f32⟩
  | .hbm, ⟨8, _⟩ => ⟨S4352x1024, .f32⟩
  | .hbm, ⟨9, _⟩ => ⟨S1024x1024, .f32⟩
  | .hbm, ⟨10, _⟩ => ⟨S4352x1024, .f32⟩
  | .hbm, ⟨11, _⟩ => ⟨S4352x1024, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S_, .f32⟩
  | .hbm, ⟨22, _⟩ => ⟨S4352, .f32⟩
  | .hbm, ⟨23, _⟩ => ⟨S4352x1, .f32⟩
  | .hbm, ⟨24, _⟩ => ⟨S_, .f32⟩
  | .hbm, ⟨25, _⟩ => ⟨S4352x1, .f32⟩
  | .hbm, ⟨26, _⟩ => ⟨S4352x1, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1, .f32⟩
  | .hbm, ⟨31, _⟩ => ⟨S4352x1, .f32⟩
  | .hbm, ⟨32, _⟩ => ⟨S4352x1, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel14.lean ====
abbrev S4352x512 : Shape := ⟨2, ![4352, 512]⟩
abbrev S4x512x256 : Shape := ⟨3, ![4, 512, 256]⟩
abbrev S4352x3840 : Shape := ⟨2, ![4352, 3840]⟩
abbrev S4352x1024 : Shape := ⟨2, ![4352, 1024]⟩
abbrev S544x512 : Shape := ⟨2, ![544, 512]⟩
abbrev S544x1024 : Shape := ⟨2, ![544, 1024]⟩
abbrev S1x512x256 : Shape := ⟨3, ![1, 512, 256]⟩
abbrev S512x256 : Shape := ⟨2, ![512, 256]⟩
abbrev S544x256 : Shape := ⟨2, ![544, 256]⟩

abbrev nBuf : Space → Nat
  | .hbm => 8
  | .vmem => 16
  | .smem => 0
  | _ => 0

abbrev bufTy : (tb : Table) → Fin (tcTables nBuf tb) → BufTy
  | .hbm, ⟨0, _⟩ => ⟨S4352x512, .bf16⟩
  | .hbm, ⟨1, _⟩ => ⟨S4352x512, .bf16⟩
  | .hbm, ⟨2, _⟩ => ⟨S4x512x256, .bf16⟩
  | .hbm, ⟨3, _⟩ => ⟨S4x512x256, .bf16⟩
  | .hbm, ⟨4, _⟩ => ⟨S4352x3840, .f32⟩
  | .hbm, ⟨5, _⟩ => ⟨S4352x1024, .bf16⟩
  | .hbm, ⟨6, _⟩ => ⟨S4352x1024, .bf16⟩
  | .hbm, ⟨7, _⟩ => ⟨S4352x1024, .bf16⟩
  | .local _ .vmem, ⟨0, _⟩ => ⟨S544x512, .bf16⟩
  | .local _ .vmem, ⟨1, _⟩ => ⟨S544x512, .bf16⟩
  | .local _ .vmem, ⟨2, _⟩ => ⟨S544x512, .bf16⟩
  | .local _ .vmem, ⟨3, _⟩ => ⟨S544x512, .bf16⟩
  | .local _ .vmem, ⟨4, _⟩ => ⟨S4x512x256, .bf16⟩
  | .local _ .vmem, ⟨5, _⟩ => ⟨S4x512x256, .bf16⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .bf16⟩
  | .local _ .vmem, ⟨11, _⟩ => ⟨S544x1024, .bf16⟩
  | .local _ .vmem, ⟨12, _⟩ => ⟨S544x1024, .bf16⟩
  | .local _ .vmem, ⟨13, _⟩ => ⟨S544x1024, .bf16⟩
  | .local _ .vmem, ⟨14, _⟩ => ⟨S544x1024, .bf16⟩
  | .local _ .vmem, ⟨15, _⟩ => ⟨S544x1024, .bf16⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S4352x512 : Shape := ⟨2, ![4352, 512]⟩
abbrev S4x512x256 : Shape := ⟨3, ![4, 512, 256]⟩
abbrev S4352x3840 : Shape := ⟨2, ![4352, 3840]⟩
abbrev S4352x2048 : Shape := ⟨2, ![4352, 2048]⟩
abbrev S4352x1024 : Shape := ⟨2, ![4352, 1024]⟩
abbrev S512x4x256 : Shape := ⟨3, ![512, 4, 256]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x512, .bf16⟩
  | .hbm, ⟨2, _⟩ => ⟨S4x512x256, .bf16⟩
  | .hbm, ⟨3, _⟩ => ⟨S4x512x256, .bf16⟩
  | .hbm, ⟨4, _⟩ => ⟨S4352x3840, .f32⟩
  | .hbm, ⟨5, _⟩ => ⟨S4352x2048, .f32⟩
  | .hbm, ⟨6, _⟩ => ⟨S4352x1024, .f32⟩
  | .hbm, ⟨7, _⟩ => ⟨S4352x1024, .f32⟩
  | .hbm, ⟨8, _⟩ => ⟨S4352x512, .f32⟩
  | .hbm, ⟨9, _⟩ => ⟨S4x512x256, .f32⟩
  | .hbm, ⟨10, _⟩ => ⟨S512x4x256, .f32⟩
  | .hbm, ⟨11, _⟩ => ⟨S512x1024, .f32⟩
  | .hbm, ⟨12, _⟩ => ⟨S4352x1024, .f32⟩
  | .hbm, ⟨13, _⟩ => ⟨S4352x512, .f32⟩
  | .hbm, ⟨14, _⟩ => ⟨S4x512x256, .f32⟩
  | .hbm, ⟨15, _⟩ => ⟨S512x4x256, .f32⟩
  | .hbm, ⟨16, _⟩ => ⟨S512x1024, .f32⟩
  | .hbm, ⟨17, _⟩ => ⟨S4352x1024, .f32⟩
  | .hbm, ⟨18, _⟩ => ⟨S4352x1024, .f32⟩
  | .hbm, ⟨19, _⟩ => ⟨S4352x1024, .f32⟩
  | .hbm, ⟨20, _⟩ => ⟨S_, .f32⟩
  | .hbm, ⟨21, _⟩ => ⟨S4352x1024, .f32⟩
  | .hbm, ⟨22, _⟩ => ⟨S4352x1024, .f32⟩
  | .hbm, ⟨23, _⟩ => ⟨S_, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1024, .f32⟩
  | .hbm, ⟨31, _⟩ => ⟨S4352x1024, .f32⟩
  | .hbm, ⟨32, _⟩ => ⟨S_, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .bf16⟩
  | .hbm, ⟨38, _⟩ => ⟨S4352x1024, .bf16⟩
  | .hbm, ⟨39, _⟩ => ⟨S4352x1024, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel15.lean ====
abbrev S440x128 : Shape := ⟨2, ![440, 128]⟩

abbrev nBuf : Space → Nat
  | .hbm => 7
  | .vmem => 7
  | .smem => 0
  | _ => 0

abbrev bufTy : (tb : Table) → Fin (tcTables nBuf tb) → BufTy
  | .hbm, ⟨0, _⟩ => ⟨S440x128, .f32⟩
  | .hbm, ⟨1, _⟩ => ⟨S440x128, .f32⟩
  | .hbm, ⟨2, _⟩ => ⟨S440x128, .f32⟩
  | .hbm, ⟨3, _⟩ => ⟨S440x128, .f32⟩
  | .hbm, ⟨4, _⟩ => ⟨S440x128, .f32⟩
  | .hbm, ⟨5, _⟩ => ⟨S440x128, .f32⟩
  | .hbm, ⟨6, _⟩ => ⟨S440x128, .f32⟩
  | .local _ .vmem, ⟨0, _⟩ => ⟨S440x128, .f32⟩
  | .local _ .vmem, ⟨1, _⟩ => ⟨S440x128, .f32⟩
  | .local _ .vmem, ⟨2, _⟩ => ⟨S440x128, .f32⟩
  | .local _ .vmem, ⟨3, _⟩ => ⟨S440x128, .f32⟩
  | .local _ .vmem, ⟨4, _⟩ => ⟨S440x128, .f32⟩
  | .local _ .vmem, ⟨5, _⟩ => ⟨S440x128, .f32⟩
  | .local _ .vmem, ⟨6, _⟩ => ⟨S440x128, .f32⟩
  | _, _ => ⟨S440x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S440x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S440x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S440x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S440x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S440x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S440x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S440x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
variable {F : FTy → Type} [FloatOps F] [Named F]
def κ : String → Option EReal := fun
  | "first" => some (((5463681 / 8388608)⁻¹ : ℝ) : EReal)
  | "second" => some (((2672307 / 268435456)⁻¹ : ℝ) : EReal)
  | _ => none
-- ==== Reference15Ideal.lean ====
abbrev S440x128 : Shape := ⟨2, ![440, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S440x128, .f32⟩
  | .hbm, ⟨1, _⟩ => ⟨S440x128, .f32⟩
  | .hbm, ⟨2, _⟩ => ⟨S440x128, .f32⟩
  | .hbm, ⟨3, _⟩ => ⟨S440x128, .f32⟩
  | .hbm, ⟨4, _⟩ => ⟨S_, .f32⟩
  | .hbm, ⟨5, _⟩ => ⟨S440x128, .f32⟩
  | .hbm, ⟨6, _⟩ => ⟨S440x128, .f32⟩
  | .hbm, ⟨7, _⟩ => ⟨S_, .f32⟩
  | .hbm, ⟨8, _⟩ => ⟨S440x128, .f32⟩
  | .hbm, ⟨9, _⟩ => ⟨S440x128, .f32⟩
  | .hbm, ⟨10, _⟩ => ⟨S440x128, .f32⟩
  | .hbm, ⟨11, _⟩ => ⟨S_, .f32⟩
  | .hbm, ⟨12, _⟩ => ⟨S440x128, .f32⟩
  | .hbm, ⟨13, _⟩ => ⟨S440x128, .f32⟩
  | .hbm, ⟨14, _⟩ => ⟨S440x128, .f32⟩
  | .hbm, ⟨15, _⟩ => ⟨S_, .f32⟩
  | .hbm, ⟨16, _⟩ => ⟨S440x128, .f32⟩
  | .hbm, ⟨17, _⟩ => ⟨S440x128, .f32⟩
  | .hbm, ⟨18, _⟩ => ⟨S440x128, .f32⟩
  | .hbm, ⟨19, _⟩ => ⟨S_, .f32⟩
  | .hbm, ⟨20, _⟩ => ⟨S440x128, .f32⟩
  | .hbm, ⟨21, _⟩ => ⟨S440x128, .f32⟩
  | .hbm, ⟨22, _⟩ => ⟨S_, .f32⟩
  | .hbm, ⟨23, _⟩ => ⟨S440x128, .f32⟩
  | .hbm, ⟨24, _⟩ => ⟨S440x128, .f32⟩
  | .hbm, ⟨25, _⟩ => ⟨S440x128, .f32⟩
  | .hbm, ⟨26, _⟩ => ⟨S_, .f32⟩
  | .hbm, ⟨27, _⟩ => ⟨S440x128, .f32⟩
  | .hbm, ⟨28, _⟩ => ⟨S440x128, .f32⟩
  | .hbm, ⟨29, _⟩ => ⟨S440x128, .f32⟩
  | .hbm, ⟨30, _⟩ => ⟨S_, .f32⟩
  | .hbm, ⟨31, _⟩ => ⟨S440x128, .f32⟩
  | .hbm, ⟨32, _⟩ => ⟨S440x128, .f32⟩
  | .hbm, ⟨33, _⟩ => ⟨S440x128, .f32⟩
  | .hbm, ⟨34, _⟩ => ⟨S_, .f32⟩
  | .hbm, ⟨35, _⟩ => ⟨S440x128, .f32⟩
  | .hbm, ⟨36, _⟩ => ⟨S440x128, .f32⟩
  | _, _ => ⟨S440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x1024x960 : Shape := ⟨3, ![2, 1024, 960]⟩
abbrev S512x960 : Shape := ⟨2, ![512, 960]⟩
abbrev S1 : Shape := ⟨1, ![1]⟩
abbrev S1x512x960 : Shape := ⟨3, ![1, 512, 960]⟩

abbrev nBuf : Space → Nat
  | .hbm => 10
  | .vmem => 18
  | .smem => 1
  | _ => 0

abbrev bufTy : (tb : Table) → Fin (tcTables nBuf tb) → BufTy
  | .hbm, ⟨0, _⟩ => ⟨S2x1024x960, .f32⟩
  | .hbm, ⟨1, _⟩ => ⟨S2x1024x960, .f32⟩
  | .hbm, ⟨2, _⟩ => ⟨S512x960, .f32⟩
  | .hbm, ⟨3, _⟩ => ⟨S512x960, .f32⟩
  | .hbm, ⟨4, _⟩ => ⟨S2x1024x960, .f32⟩
  | .hbm, ⟨5, _⟩ => ⟨S2x1024x960, .f32⟩
  | .hbm, ⟨6, _⟩ => ⟨S2x1024x960, .f32⟩
  | .hbm, ⟨7, _⟩ => ⟨S2x1024x960, .f32⟩
  | .hbm, ⟨8, _⟩ => ⟨S2x1024x960, .f32⟩
  | .hbm, ⟨9, _⟩ => ⟨S2x1024x960, .f32⟩
  | .local _ .vmem, ⟨0, _⟩ => ⟨S1x512x960, .f32⟩
  | .local _ .vmem, ⟨1, _⟩ => ⟨S1x512x960, .f32⟩
  | .local _ .vmem, ⟨2, _⟩ => ⟨S1x512x960, .f32⟩
  | .local _ .vmem, ⟨3, _⟩ => ⟨S1x512x960, .f32⟩
  | .local _ .vmem, ⟨4, _⟩ => ⟨S512x960, .f32⟩
  | .local _ .vmem, ⟨5, _⟩ => ⟨S512x960, .f32⟩
  | .local _ .vmem, ⟨6, _⟩ => ⟨S1x512x960, .f32⟩
  | .local _ .vmem, ⟨7, _⟩ => ⟨S1x512x960, .f32⟩
  | .local _ .vmem, ⟨8, _⟩ => ⟨S1x512x960, .f32⟩
  | .local _ .vmem, ⟨9, _⟩ => ⟨S1x512x960, .f32⟩
  | .local _ .vmem, ⟨10, _⟩ => ⟨S1x512x960, .f32⟩
  | .local _ .vmem, ⟨11, _⟩ => ⟨S1x512x960, .f32⟩
  | .local _ .vmem, ⟨12, _⟩ => ⟨S1x512x960, .f32⟩
  | .local _ .vmem, ⟨13, _⟩ => ⟨S1x512x960, .f32⟩
  | .local _ .vmem, ⟨14, _⟩ => ⟨S1x512x960, .f32⟩
  | .local _ .vmem, ⟨15, _⟩ => ⟨S1x512x960, .f32⟩
  | .local _ .vmem, ⟨16, _⟩ => ⟨S1x512x960, .f32⟩
  | .local _ .vmem, ⟨17, _⟩ => ⟨S1x512x960, .f32⟩
  | .local _ .smem, ⟨0, _⟩ => ⟨S1, .i32⟩
  | _, _ => ⟨S2x1024x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi v2 arg2
  let c0_i32 : BitVec 32 := 0#32
  let c0_i32_1 : BitVec 32 := 0#32
  ![arg0.toNat, v3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x512x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S512x960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x960 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x960 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x960 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x960 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel16Ideal.lean ====
abbrev S2x1024x960 : Shape := ⟨3, ![2, 1024, 960]⟩
abbrev S512x960 : Shape := ⟨2, ![512, 960]⟩
abbrev S1 : Shape := ⟨1, ![1]⟩
abbrev S1x512x960 : Shape := ⟨3, ![1, 512, 960]⟩

abbrev nBuf : Space → Nat
  | .hbm => 10
  | .vmem => 18
  | .smem => 1
  | _ => 0

abbrev bufTy : (tb : Table) → Fin (tcTables nBuf tb) → BufTy
  | .hbm, ⟨0, _⟩ => ⟨S2x1024x960, .f32⟩
  | .hbm, ⟨1, _⟩ => ⟨S2x1024x960, .f32⟩
  | .hbm, ⟨2, _⟩ => ⟨S512x960, .f32⟩
  | .hbm, ⟨3, _⟩ => ⟨S512x960, .f32⟩
  | .hbm, ⟨4, _⟩ => ⟨S2x1024x960, .f32⟩
  | .hbm, ⟨5, _⟩ => ⟨S2x1024x960, .f32⟩
  | .hbm, ⟨6, _⟩ => ⟨S2x1024x960, .f32⟩
  | .hbm, ⟨7, _⟩ => ⟨S2x1024x960, .f32⟩
  | .hbm, ⟨8, _⟩ => ⟨S2x1024x960, .f32⟩
  | .hbm, ⟨9, _⟩ => ⟨S2x1024x960, .f32⟩
  | .local _ .vmem, ⟨0, _⟩ => ⟨S1x512x960, .f32⟩
  | .local _ .vmem, ⟨1, _⟩ => ⟨S1x512x960, .f32⟩
  | .local _ .vmem, ⟨2, _⟩ => ⟨S1x512x960, .f32⟩
  | .local _ .vmem, ⟨3, _⟩ => ⟨S1x512x960, .f32⟩
  | .local _ .vmem, ⟨4, _⟩ => ⟨S512x960, .f32⟩
  | .local _ .vmem, ⟨5, _⟩ => ⟨S512x960, .f32⟩
  | .local _ .vmem, ⟨6, _⟩ => ⟨S1x512x960, .f32⟩
  | .local _ .vmem, ⟨7, _⟩ => ⟨S1x512x960, .f32⟩
  | .local _ .vmem, ⟨8, _⟩ => ⟨S1x512x960, .f32⟩
  | .local _ .vmem, ⟨9, _⟩ => ⟨S1x512x960, .f32⟩
  | .local _ .vmem, ⟨10, _⟩ => ⟨S1x512x960, .f32⟩
  | .local _ .vmem, ⟨11, _⟩ => ⟨S1x512x960, .f32⟩
  | .local _ .vmem, ⟨12, _⟩ => ⟨S1x512x960, .f32⟩
  | .local _ .vmem, ⟨13, _⟩ => ⟨S1x512x960, .f32⟩
  | .local _ .vmem, ⟨14, _⟩ => ⟨S1x512x960, .f32⟩
  | .local _ .vmem, ⟨15, _⟩ => ⟨S1x512x960, .f32⟩
  | .local _ .vmem, ⟨16, _⟩ => ⟨S1x512x960, .f32⟩
  | .local _ .vmem, ⟨17, _⟩ => ⟨S1x512x960, .f32⟩
  | .local _ .smem, ⟨0, _⟩ => ⟨S1, .i32⟩
  | _, _ => ⟨S2x1024x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F] [Named F]

def κ : String → Option EReal := fun
  | "first" => some (((5463681 / 8388608)⁻¹ : ℝ) : EReal)
  | "second" => some (((2672307 / 268435456)⁻¹ : ℝ) : EReal)
  | _ => none

abbrev grid0 : Pipeline.Grid := ⟨3, ![2, 2, 1], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi v2 arg2
  let c0_i32 : BitVec 32 := 0#32
  let c0_i32_1 : BitVec 32 := 0#32
  ![arg0.toNat, v3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x512x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S512x960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x960 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x960 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x960 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x960 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference16Ideal.lean ====
abbrev S2x1024x960 : Shape := ⟨3, ![2, 1024, 960]⟩
abbrev S512x960 : Shape := ⟨2, ![512, 960]⟩
abbrev S1 : Shape := ⟨1, ![1]⟩
abbrev S1x512x960 : Shape := ⟨3, ![1, 512, 960]⟩
abbrev S2x512x960 : Shape := ⟨3, ![2, 512, 960]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2x1024x960, .f32⟩
  | .hbm, ⟨1, _⟩ => ⟨S2x1024x960, .f32⟩
  | .hbm, ⟨2, _⟩ => ⟨S512x960, .f32⟩
  | .hbm, ⟨3, _⟩ => ⟨S512x960, .f32⟩
  | .hbm, ⟨4, _⟩ => ⟨S2x1024x960, .f32⟩
  | .hbm, ⟨5, _⟩ => ⟨S2x1024x960, .f32⟩
  | .hbm, ⟨6, _⟩ => ⟨S1, .i32⟩
  | .hbm, ⟨7, _⟩ => ⟨S1x512x960, .f32⟩
  | .hbm, ⟨8, _⟩ => ⟨S1x512x960, .f32⟩
  | .hbm, ⟨9, _⟩ => ⟨S2x512x960, .f32⟩
  | .hbm, ⟨10, _⟩ => ⟨S2x512x960, .f32⟩
  | .hbm, ⟨11, _⟩ => ⟨S2x1024x960, .f32⟩
  | .hbm, ⟨12, _⟩ => ⟨S2x512x960, .f32⟩
  | .hbm, ⟨13, _⟩ => ⟨S2x1024x960, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S2x1024x960, .f32⟩
  | .hbm, ⟨18, _⟩ => ⟨S_, .f32⟩
  | .hbm, ⟨19, _⟩ => ⟨S2x1024x960, .f32⟩
  | .hbm, ⟨20, _⟩ => ⟨S2x1024x960, .f32⟩
  | .hbm, ⟨21, _⟩ => ⟨S_, .f32⟩
  | .hbm, ⟨22, _⟩ => ⟨S2x1024x960, .f32⟩
  | .hbm, ⟨23, _⟩ => ⟨S2x1024x960, .f32⟩
  | .hbm, ⟨24, _⟩ => ⟨S2x1024x960, .f32⟩
  | .hbm, ⟨25, _⟩ => ⟨S_, .f32⟩
  | .hbm, ⟨26, _⟩ => ⟨S2x1024x960, .f32⟩
  | .hbm, ⟨27, _⟩ => ⟨S2x1024x960, .f32⟩
  | .hbm, ⟨28, _⟩ => ⟨S2x1024x960, .f32⟩
  | .hbm, ⟨29, _⟩ => ⟨S_, .f32⟩
  | .hbm, ⟨30, _⟩ => ⟨S2x1024x960, .f32⟩
  | .hbm, ⟨31, _⟩ => ⟨S2x1024x960, .f32⟩
  | .hbm, ⟨32, _⟩ => ⟨S2x1024x960, .f32⟩
  | .hbm, ⟨33, _⟩ => ⟨S_, .f32⟩
  | .hbm, ⟨34, _⟩ => ⟨S2x1024x960, .f32⟩
  | .hbm, ⟨35, _⟩ => ⟨S2x1024x960, .f32⟩
  | .hbm, ⟨36, _⟩ => ⟨S_, .f32⟩
  | .hbm, ⟨37, _⟩ => ⟨S2x1024x960, .f32⟩
  | .hbm, ⟨38, _⟩ => ⟨S2x1024x960, .f32⟩
  | .hbm, ⟨39, _⟩ => ⟨S2x1024x960, .f32⟩
  | .hbm, ⟨40, _⟩ => ⟨S_, .f32⟩
  | .hbm, ⟨41, _⟩ => ⟨S2x1024x960, .f32⟩
  | .hbm, ⟨42, _⟩ => ⟨S2x1024x960, .f32⟩
  | .hbm, ⟨43, _⟩ => ⟨S2x1024x960, .f32⟩
  | .hbm, ⟨44, _⟩ => ⟨S_, .f32⟩
  | .hbm, ⟨45, _⟩ => ⟨S2x1024x960, .f32⟩
  | .hbm, ⟨46, _⟩ => ⟨S2x1024x960, .f32⟩
  | .hbm, ⟨47, _⟩ => ⟨S2x1024x960, .f32⟩
  | .hbm, ⟨48, _⟩ => ⟨S_, .f32⟩
  | .hbm, ⟨49, _⟩ => ⟨S2x1024x960, .f32⟩
  | .hbm, ⟨50, _⟩ => ⟨S2x1024x960, .f32⟩
  | _, _ => ⟨S2x1024x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel17.lean ====
abbrev S2x512x256 : Shape := ⟨3, ![2, 512, 256]⟩
abbrev S256x256 : Shape := ⟨2, ![256, 256]⟩
abbrev S1 : Shape := ⟨1, ![1]⟩
abbrev S1x256x256 : Shape := ⟨3, ![1, 256, 256]⟩

abbrev nBuf : Space → Nat
  | .hbm => 10
  | .vmem => 18
  | .smem => 1
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S256x256, .f32⟩
  | .hbm, ⟨3, _⟩ => ⟨S256x256, .f32⟩
  | .hbm, ⟨4, _⟩ => ⟨S2x512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .hbm, ⟨9, _⟩ => ⟨S2x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S256x256, .f32⟩
  | .local _ .vmem, ⟨5, _⟩ => ⟨S256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .smem, ⟨0, _⟩ => ⟨S1, .i32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi v2 arg2
  let c0_i32 : BitVec 32 := 0#32
  let c0_i32_1 : BitVec 32 := 0#32
  ![arg0.toNat, v3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel17Ideal.lean ====
abbrev S2x512x256 : Shape := ⟨3, ![2, 512, 256]⟩
abbrev S256x256 : Shape := ⟨2, ![256, 256]⟩
abbrev S1 : Shape := ⟨1, ![1]⟩
abbrev S1x256x256 : Shape := ⟨3, ![1, 256, 256]⟩

abbrev nBuf : Space → Nat
  | .hbm => 10
  | .vmem => 18
  | .smem => 1
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S256x256, .f32⟩
  | .hbm, ⟨3, _⟩ => ⟨S256x256, .f32⟩
  | .hbm, ⟨4, _⟩ => ⟨S2x512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .hbm, ⟨9, _⟩ => ⟨S2x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S256x256, .f32⟩
  | .local _ .vmem, ⟨5, _⟩ => ⟨S256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .smem, ⟨0, _⟩ => ⟨S1, .i32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F] [Named F]

def κ : String → Option EReal := fun
  | "first" => some (((5463681 / 8388608)⁻¹ : ℝ) : EReal)
  | "second" => some (((2672307 / 268435456)⁻¹ : ℝ) : EReal)
  | _ => none

abbrev grid0 : Pipeline.Grid := ⟨3, ![2, 2, 1], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi v2 arg2
  let c0_i32 : BitVec 32 := 0#32
  let c0_i32_1 : BitVec 32 := 0#32
  ![arg0.toNat, v3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference17Ideal.lean ====
abbrev S2x512x256 : Shape := ⟨3, ![2, 512, 256]⟩
abbrev S256x256 : Shape := ⟨2, ![256, 256]⟩
abbrev S1 : Shape := ⟨1, ![1]⟩
abbrev S1x256x256 : Shape := ⟨3, ![1, 256, 256]⟩
abbrev S2x256x256 : Shape := ⟨3, ![2, 256, 256]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S256x256, .f32⟩
  | .hbm, ⟨3, _⟩ => ⟨S256x256, .f32⟩
  | .hbm, ⟨4, _⟩ => ⟨S2x512x256, .f32⟩
  | .hbm, ⟨5, _⟩ => ⟨S2x512x256, .f32⟩
  | .hbm, ⟨6, _⟩ => ⟨S1, .i32⟩
  | .hbm, ⟨7, _⟩ => ⟨S1x256x256, .f32⟩
  | .hbm, ⟨8, _⟩ => ⟨S1x256x256, .f32⟩
  | .hbm, ⟨9, _⟩ => ⟨S2x256x256, .f32⟩
  | .hbm, ⟨10, _⟩ => ⟨S2x256x256, .f32⟩
  | .hbm, ⟨11, _⟩ => ⟨S2x512x256, .f32⟩
  | .hbm, ⟨12, _⟩ => ⟨S2x256x256, .f32⟩
  | .hbm, ⟨13, _⟩ => ⟨S2x512x256, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S2x512x256, .f32⟩
  | .hbm, ⟨18, _⟩ => ⟨S_, .f32⟩
  | .hbm, ⟨19, _⟩ => ⟨S2x512x256, .f32⟩
  | .hbm, ⟨20, _⟩ => ⟨S2x512x256, .f32⟩
  | .hbm, ⟨21, _⟩ => ⟨S_, .f32⟩
  | .hbm, ⟨22, _⟩ => ⟨S2x512x256, .f32⟩
  | .hbm, ⟨23, _⟩ => ⟨S2x512x256, .f32⟩
  | .hbm, ⟨24, _⟩ => ⟨S2x512x256, .f32⟩
  | .hbm, ⟨25, _⟩ => ⟨S_, .f32⟩
  | .hbm, ⟨26, _⟩ => ⟨S2x512x256, .f32⟩
  | .hbm, ⟨27, _⟩ => ⟨S2x512x256, .f32⟩
  | .hbm, ⟨28, _⟩ => ⟨S2x512x256, .f32⟩
  | .hbm, ⟨29, _⟩ => ⟨S_, .f32⟩
  | .hbm, ⟨30, _⟩ => ⟨S2x512x256, .f32⟩
  | .hbm, ⟨31, _⟩ => ⟨S2x512x256, .f32⟩
  | .hbm, ⟨32, _⟩ => ⟨S2x512x256, .f32⟩
  | .hbm, ⟨33, _⟩ => ⟨S_, .f32⟩
  | .hbm, ⟨34, _⟩ => ⟨S2x512x256, .f32⟩
  | .hbm, ⟨35, _⟩ => ⟨S2x512x256, .f32⟩
  | .hbm, ⟨36, _⟩ => ⟨S_, .f32⟩
  | .hbm, ⟨37, _⟩ => ⟨S2x512x256, .f32⟩
  | .hbm, ⟨38, _⟩ => ⟨S2x512x256, .f32⟩
  | .hbm, ⟨39, _⟩ => ⟨S2x512x256, .f32⟩
  | .hbm, ⟨40, _⟩ => ⟨S_, .f32⟩
  | .hbm, ⟨41, _⟩ => ⟨S2x512x256, .f32⟩
  | .hbm, ⟨42, _⟩ => ⟨S2x512x256, .f32⟩
  | .hbm, ⟨43, _⟩ => ⟨S2x512x256, .f32⟩
  | .hbm, ⟨44, _⟩ => ⟨S_, .f32⟩
  | .hbm, ⟨45, _⟩ => ⟨S2x512x256, .f32⟩
  | .hbm, ⟨46, _⟩ => ⟨S2x512x256, .f32⟩
  | .hbm, ⟨47, _⟩ => ⟨S2x512x256, .f32⟩
  | .hbm, ⟨48, _⟩ => ⟨S_, .f32⟩
  | .hbm, ⟨49, _⟩ => ⟨S2x512x256, .f32⟩
  | .hbm, ⟨50, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel18.lean ====
abbrev S2x256x1024 : Shape := ⟨3, ![2, 256, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 10
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S128x1024, .f32⟩
  | .hbm, ⟨3, _⟩ => ⟨S128x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi v2 arg2
  let c0_i32 : BitVec 32 := 0#32
  let c0_i32_1 : BitVec 32 := 0#32
  ![arg0.toNat, v3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel18Ideal.lean ====
abbrev S2x256x1024 : Shape := ⟨3, ![2, 256, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 10
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S128x1024, .f32⟩
  | .hbm, ⟨3, _⟩ => ⟨S128x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F] [Named F]

def κ : String → Option EReal := fun
  | "first" => some (((5463681 / 8388608)⁻¹ : ℝ) : EReal)
  | "second" => some (((2672307 / 268435456)⁻¹ : ℝ) : EReal)
  | _ => none

abbrev grid0 : Pipeline.Grid := ⟨3, ![2, 2, 1], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi v2 arg2
  let c0_i32 : BitVec 32 := 0#32
  let c0_i32_1 : BitVec 32 := 0#32
  ![arg0.toNat, v3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference18Ideal.lean ====
abbrev S2x256x1024 : Shape := ⟨3, ![2, 256, 1024]⟩
abbrev S128x1024 : Shape := ⟨2, ![128, 1024]⟩
abbrev S1 : Shape := ⟨1, ![1]⟩
abbrev S1x128x1024 : Shape := ⟨3, ![1, 128, 1024]⟩
abbrev S2x128x1024 : Shape := ⟨3, ![2, 128, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S128x1024, .f32⟩
  | .hbm, ⟨3, _⟩ => ⟨S128x1024, .f32⟩
  | .hbm, ⟨4, _⟩ => ⟨S2x256x1024, .f32⟩
  | .hbm, ⟨5, _⟩ => ⟨S2x256x1024, .f32⟩
  | .hbm, ⟨6, _⟩ => ⟨S1, .i32⟩
  | .hbm, ⟨7, _⟩ => ⟨S1x128x1024, .f32⟩
  | .hbm, ⟨8, _⟩ => ⟨S1x128x1024, .f32⟩
  | .hbm, ⟨9, _⟩ => ⟨S2x128x1024, .f32⟩
  | .hbm, ⟨10, _⟩ => ⟨S2x128x1024, .f32⟩
  | .hbm, ⟨11, _⟩ => ⟨S2x256x1024, .f32⟩
  | .hbm, ⟨12, _⟩ => ⟨S2x128x1024, .f32⟩
  | .hbm, ⟨13, _⟩ => ⟨S2x256x1024, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S2x256x1024, .f32⟩
  | .hbm, ⟨18, _⟩ => ⟨S_, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | .hbm, ⟨47, _⟩ => ⟨S2x256x1024, .f32⟩
  | .hbm, ⟨48, _⟩ => ⟨S_, .f32⟩
  | .hbm, ⟨49, _⟩ => ⟨S2x256x1024, .f32⟩
  | .hbm, ⟨50, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel19.lean ====
abbrev S2x1024x1408 : Shape := ⟨3, ![2, 1024, 1408]⟩
abbrev S512x1408 : Shape := ⟨2, ![512, 1408]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 10
  | .vmem => 20
  | .smem => 1
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S512x1408, .f32⟩
  | .hbm, ⟨3, _⟩ => ⟨S512x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .smem, ⟨0, _⟩ => ⟨S1, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 2, 2], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![arg0.toNat, v3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel19Ideal.lean ====
abbrev S2x1024x1408 : Shape := ⟨3, ![2, 1024, 1408]⟩
abbrev S512x1408 : Shape := ⟨2, ![512, 1408]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 10
  | .vmem => 20
  | .smem => 1
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S512x1408, .f32⟩
  | .hbm, ⟨3, _⟩ => ⟨S512x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .smem, ⟨0, _⟩ => ⟨S1, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F] [Named F]

def κ : String → Option EReal := fun
  | "first" => some (((5463681 / 8388608)⁻¹ : ℝ) : EReal)
  | "second" => some (((2672307 / 268435456)⁻¹ : ℝ) : EReal)
  | _ => none

abbrev grid0 : Pipeline.Grid := ⟨3, ![2, 2, 2], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![arg0.toNat, v3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference19Ideal.lean ====
abbrev S2x1024x1408 : Shape := ⟨3, ![2, 1024, 1408]⟩
abbrev S512x1408 : Shape := ⟨2, ![512, 1408]⟩
abbrev S1 : Shape := ⟨1, ![1]⟩
abbrev S1x512x1408 : Shape := ⟨3, ![1, 512, 1408]⟩
abbrev S2x512x1408 : Shape := ⟨3, ![2, 512, 1408]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S512x1408, .f32⟩
  | .hbm, ⟨3, _⟩ => ⟨S512x1408, .f32⟩
  | .hbm, ⟨4, _⟩ => ⟨S2x1024x1408, .f32⟩
  | .hbm, ⟨5, _⟩ => ⟨S2x1024x1408, .f32⟩
  | .hbm, ⟨6, _⟩ => ⟨S1, .i32⟩
  | .hbm, ⟨7, _⟩ => ⟨S1x512x1408, .f32⟩
  | .hbm, ⟨8, _⟩ => ⟨S1x512x1408, .f32⟩
  | .hbm, ⟨9, _⟩ => ⟨S2x512x1408, .f32⟩
  | .hbm, ⟨10, _⟩ => ⟨S2x512x1408, .f32⟩
  | .hbm, ⟨11, _⟩ => ⟨S2x1024x1408, .f32⟩
  | .hbm, ⟨12, _⟩ => ⟨S2x512x1408, .f32⟩
  | .hbm, ⟨13, _⟩ => ⟨S2x1024x1408, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S2x1024x1408, .f32⟩
  | .hbm, ⟨18, _⟩ => ⟨S_, .f32⟩
  | .hbm, ⟨19, _⟩ => ⟨S2x1024x1408, .f32⟩
  | .hbm, ⟨20, _⟩ => ⟨S2x1024x1408, .f32⟩
  | .hbm, ⟨21, _⟩ => ⟨S_, .f32⟩
  | .hbm, ⟨22, _⟩ => ⟨S2x1024x1408, .f32⟩
  | .hbm, ⟨23, _⟩ => ⟨S2x1024x1408, .f32⟩
  | .hbm, ⟨24, _⟩ => ⟨S2x1024x1408, .f32⟩
  | .hbm, ⟨25, _⟩ => ⟨S_, .f32⟩
  | .hbm, ⟨26, _⟩ => ⟨S2x1024x1408, .f32⟩
  | .hbm, ⟨27, _⟩ => ⟨S2x1024x1408, .f32⟩
  | .hbm, ⟨28, _⟩ => ⟨S2x1024x1408, .f32⟩
  | .hbm, ⟨29, _⟩ => ⟨S_, .f32⟩
  | .hbm, ⟨30, _⟩ => ⟨S2x1024x1408, .f32⟩
  | .hbm, ⟨31, _⟩ => ⟨S2x1024x1408, .f32⟩
  | .hbm, ⟨32, _⟩ => ⟨S2x1024x1408, .f32⟩
  | .hbm, ⟨33, _⟩ => ⟨S_, .f32⟩
  | .hbm, ⟨34, _⟩ => ⟨S2x1024x1408, .f32⟩
  | .hbm, ⟨35, _⟩ => ⟨S2x1024x1408, .f32⟩
  | .hbm, ⟨36, _⟩ => ⟨S_, .f32⟩
  | .hbm, ⟨37, _⟩ => ⟨S2x1024x1408, .f32⟩
  | .hbm, ⟨38, _⟩ => ⟨S2x1024x1408, .f32⟩
  | .hbm, ⟨39, _⟩ => ⟨S2x1024x1408, .f32⟩
  | .hbm, ⟨40, _⟩ => ⟨S_, .f32⟩
  | .hbm, ⟨41, _⟩ => ⟨S2x1024x1408, .f32⟩
  | .hbm, ⟨42, _⟩ => ⟨S2x1024x1408, .f32⟩
  | .hbm, ⟨43, _⟩ => ⟨S2x1024x1408, .f32⟩
  | .hbm, ⟨44, _⟩ => ⟨S_, .f32⟩
  | .hbm, ⟨45, _⟩ => ⟨S2x1024x1408, .f32⟩
  | .hbm, ⟨46, _⟩ => ⟨S2x1024x1408, .f32⟩
  | .hbm, ⟨47, _⟩ => ⟨S2x1024x1408, .f32⟩
  | .hbm, ⟨48, _⟩ => ⟨S_, .f32⟩
  | .hbm, ⟨49, _⟩ => ⟨S2x1024x1408, .f32⟩
  | .hbm, ⟨50, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel20.lean ====
abbrev S2x704x1024 : Shape := ⟨3, ![2, 704, 1024]⟩
abbrev S352x1024 : Shape := ⟨2, ![352, 1024]⟩
abbrev S1 : Shape := ⟨1, ![1]⟩
abbrev S1x352x1024 : Shape := ⟨3, ![1, 352, 1024]⟩

abbrev nBuf : Space → Nat
  | .hbm => 10
  | .vmem => 18
  | .smem => 1
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S352x1024, .f32⟩
  | .hbm, ⟨3, _⟩ => ⟨S352x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S352x1024, .f32⟩
  | .local _ .vmem, ⟨5, _⟩ => ⟨S352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi v2 arg2
  let c0_i32 : BitVec 32 := 0#32
  let c0_i32_1 : BitVec 32 := 0#32
  ![arg0.toNat, v3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel20Ideal.lean ====
variable {F : FTy → Type} [FloatOps F] [Named F]
def κ : String → Option EReal := fun
  | "first" => some (((5463681 / 8388608)⁻¹ : ℝ) : EReal)
  | "second" => some (((2672307 / 268435456)⁻¹ : ℝ) : EReal)
  | _ => none
-- ==== Reference20Ideal.lean ====
abbrev S2x704x1024 : Shape := ⟨3, ![2, 704, 1024]⟩
abbrev S352x1024 : Shape := ⟨2, ![352, 1024]⟩
abbrev S1 : Shape := ⟨1, ![1]⟩
abbrev S1x352x1024 : Shape := ⟨3, ![1, 352, 1024]⟩
abbrev S2x352x1024 : Shape := ⟨3, ![2, 352, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S352x1024, .f32⟩
  | .hbm, ⟨3, _⟩ => ⟨S352x1024, .f32⟩
  | .hbm, ⟨4, _⟩ => ⟨S2x704x1024, .f32⟩
  | .hbm, ⟨5, _⟩ => ⟨S2x704x1024, .f32⟩
  | .hbm, ⟨6, _⟩ => ⟨S1, .i32⟩
  | .hbm, ⟨7, _⟩ => ⟨S1x352x1024, .f32⟩
  | .hbm, ⟨8, _⟩ => ⟨S1x352x1024, .f32⟩
  | .hbm, ⟨9, _⟩ => ⟨S2x352x1024, .f32⟩
  | .hbm, ⟨10, _⟩ => ⟨S2x352x1024, .f32⟩
  | .hbm, ⟨11, _⟩ => ⟨S2x704x1024, .f32⟩
  | .hbm, ⟨12, _⟩ => ⟨S2x352x1024, .f32⟩
  | .hbm, ⟨13, _⟩ => ⟨S2x704x1024, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S2x704x1024, .f32⟩
  | .hbm, ⟨18, _⟩ => ⟨S_, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S2x704x1024, .f32⟩
  | .hbm, ⟨33, _⟩ => ⟨S_, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | .hbm, ⟨47, _⟩ => ⟨S2x704x1024, .f32⟩
  | .hbm, ⟨48, _⟩ => ⟨S_, .f32⟩
  | .hbm, ⟨49, _⟩ => ⟨S2x704x1024, .f32⟩
  | .hbm, ⟨50, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel21.lean ====
abbrev S8x976x128 : Shape := ⟨3, ![8, 976, 128]⟩
abbrev S976x128 : Shape := ⟨2, ![976, 128]⟩
abbrev S1x976x128 : Shape := ⟨3, ![1, 976, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x976x128, .f32⟩
  | .hbm, ⟨1, _⟩ => ⟨S976x128, .f32⟩
  | .local _ .vmem, ⟨0, _⟩ => ⟨S8x976x128, .f32⟩
  | .local _ .vmem, ⟨1, _⟩ => ⟨S976x128, .f32⟩
  | _, _ => ⟨S8x976x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x976x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S976x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel21Ideal.lean ====
abbrev S8x976x128 : Shape := ⟨3, ![8, 976, 128]⟩
abbrev S976x128 : Shape := ⟨2, ![976, 128]⟩
abbrev S1x976x128 : Shape := ⟨3, ![1, 976, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x976x128, .f32⟩
  | .hbm, ⟨1, _⟩ => ⟨S976x128, .f32⟩
  | .local _ .vmem, ⟨0, _⟩ => ⟨S8x976x128, .f32⟩
  | .local _ .vmem, ⟨1, _⟩ => ⟨S976x128, .f32⟩
  | _, _ => ⟨S8x976x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x976x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S976x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference21Ideal.lean ====
abbrev S8x976x128 : Shape := ⟨3, ![8, 976, 128]⟩
abbrev S_ : Shape := ⟨0, ![]⟩
abbrev S976x128 : Shape := ⟨2, ![976, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x976x128, .f32⟩
  | .hbm, ⟨1, _⟩ => ⟨S_, .f32⟩
  | .hbm, ⟨2, _⟩ => ⟨S976x128, .f32⟩
  | _, _ => ⟨S8x976x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S2x16x1024 : Shape := ⟨3, ![2, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2x16x1024, .f32⟩
  | .hbm, ⟨1, _⟩ => ⟨S16x1024, .f32⟩
  | .local _ .vmem, ⟨0, _⟩ => ⟨S2x16x1024, .f32⟩
  | .local _ .vmem, ⟨1, _⟩ => ⟨S16x1024, .f32⟩
  | _, _ => ⟨S2x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference22Ideal.lean ====
abbrev S2x16x1024 : Shape := ⟨3, ![2, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x16x1024, .f32⟩
  | .hbm, ⟨1, _⟩ => ⟨S_, .f32⟩
  | .hbm, ⟨2, _⟩ => ⟨S16x1024, .f32⟩
  | _, _ => ⟨S2x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S4352x1024 : Shape := ⟨2, ![4352, 1024]⟩
abbrev S2x2048x1024 : Shape := ⟨3, ![2, 2048, 1024]⟩
abbrev S8x1024 : Shape := ⟨2, ![8, 1024]⟩
abbrev S128x1024 : Shape := ⟨2, ![128, 1024]⟩
abbrev S1x128x1024 : Shape := ⟨3, ![1, 128, 1024]⟩
abbrev S16x8x1024 : Shape := ⟨3, ![16, 8, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S2x2048x1024, .f32⟩
  | .hbm, ⟨2, _⟩ => ⟨S4352x1024, .f32⟩
  | .hbm, ⟨3, _⟩ => ⟨S8x1024, .f32⟩
  | .local _ .vmem, ⟨0, _⟩ => ⟨S128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | .local _ .vmem, ⟨5, _⟩ => ⟨S128x1024, .f32⟩
  | .local _ .vmem, ⟨6, _⟩ => ⟨S8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference23Ideal.lean ====
abbrev S4352x1024 : Shape := ⟨2, ![4352, 1024]⟩
abbrev S2x2048x1024 : Shape := ⟨3, ![2, 2048, 1024]⟩
abbrev S2x2176x1024 : Shape := ⟨3, ![2, 2176, 1024]⟩
abbrev S_ : Shape := ⟨0, ![]⟩
abbrev S2x2048 : Shape := ⟨2, ![2, 2048]⟩
abbrev S512x8x1024 : Shape := ⟨3, ![512, 8, 1024]⟩
abbrev S8x1024 : Shape := ⟨2, ![8, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2x2048x1024, .f32⟩
  | .hbm, ⟨2, _⟩ => ⟨S2x2176x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2176x1024, .f32⟩
  | .hbm, ⟨29, _⟩ => ⟨S4352x1024, .f32⟩
  | .hbm, ⟨30, _⟩ => ⟨S2x2176x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S512x8x1024, .f32⟩
  | .hbm, ⟨35, _⟩ => ⟨S_, .f32⟩
  | .hbm, ⟨36, _⟩ => ⟨S8x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel24.lean ====
abbrev S2x2048x1024 : Shape := ⟨3, ![2, 2048, 1024]⟩
abbrev S16x1024 : Shape := ⟨2, ![16, 1024]⟩
abbrev S1024 : Shape := ⟨1, ![1024]⟩
abbrev S1x1024 : Shape := ⟨2, ![1, 1024]⟩
abbrev S4352x1024 : Shape := ⟨2, ![4352, 1024]⟩
abbrev S1x128x1024 : Shape := ⟨3, ![1, 128, 1024]⟩
abbrev S128x1024 : Shape := ⟨2, ![128, 1024]⟩
abbrev S112x1024 : Shape := ⟨2, ![112, 1024]⟩
abbrev S128 : Shape := ⟨1, ![128]⟩
abbrev S128x1 : Shape := ⟨2, ![128, 1]⟩

abbrev nBuf : Space → Nat
  | .hbm => 9
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4352x1024, .f32⟩
  | .hbm, ⟨7, _⟩ => ⟨S4352x1024, .f32⟩
  | .hbm, ⟨8, _⟩ => ⟨S4352x1024, .bf16⟩
  | .local _ .vmem, ⟨0, _⟩ => ⟨S1x128x1024, .f32⟩
  | .local _ .vmem, ⟨1, _⟩ => ⟨S1x128x1024, .f32⟩
  | .local _ .vmem, ⟨2, _⟩ => ⟨S16x1024, .f32⟩
  | .local _ .vmem, ⟨3, _⟩ => ⟨S1x1024, .f32⟩
  | .local _ .vmem, ⟨4, _⟩ => ⟨S1x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .bf16⟩
  | .local _ .vmem, ⟨10, _⟩ => ⟨S128x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S2x2048x1024 : Shape := ⟨3, ![2, 2048, 1024]⟩
abbrev S16x1024 : Shape := ⟨2, ![16, 1024]⟩
abbrev S1024 : Shape := ⟨1, ![1024]⟩
abbrev S1x16x1024 : Shape := ⟨3, ![1, 16, 1024]⟩
abbrev S2x16x1024 : Shape := ⟨3, ![2, 16, 1024]⟩
abbrev S_ : Shape := ⟨0, ![]⟩
abbrev S2x112x1024 : Shape := ⟨3, ![2, 112, 1024]⟩
abbrev S2x2176x1024 : Shape := ⟨3, ![2, 2176, 1024]⟩
abbrev S4352x1024 : Shape := ⟨2, ![4352, 1024]⟩
abbrev S4352 : Shape := ⟨1, ![4352]⟩
abbrev S4352x1 : Shape := ⟨2, ![4352, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x16x1024, .f32⟩
  | .hbm, ⟨5, _⟩ => ⟨S2x16x1024, .f32⟩
  | .hbm, ⟨6, _⟩ => ⟨S_, .f32⟩
  | .hbm, ⟨7, _⟩ => ⟨S2x112x1024, .f32⟩
  | .hbm, ⟨8, _⟩ => ⟨S2x2176x1024, .f32⟩
  | .hbm, ⟨9, _⟩ => ⟨S4352x1024, .f32⟩
  | .hbm, ⟨10, _⟩ => ⟨S_, .f32⟩
  | .hbm, ⟨11, _⟩ => ⟨S4352, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S_, .f32⟩
  | .hbm, ⟨20, _⟩ => ⟨S4352, .f32⟩
  | .hbm, ⟨21, _⟩ => ⟨S4352x1, .f32⟩
  | .hbm, ⟨22, _⟩ => ⟨S_, .f32⟩
  | .hbm, ⟨23, _⟩ => ⟨S4352x1, .f32⟩
  | .hbm, ⟨24, _⟩ => ⟨S4352x1, .f32⟩
  | .hbm, ⟨25, _⟩ => ⟨S4352x1024, .f32⟩
  | .hbm, ⟨26, _⟩ => ⟨S4352x1024, .f32⟩
  | .hbm, ⟨27, _⟩ => ⟨S_, .f32⟩
  | .hbm, ⟨28, _⟩ => ⟨S4352x1, .f32⟩
  | .hbm, ⟨29, _⟩ => ⟨S4352x1, .f32⟩
  | .hbm, ⟨30, _⟩ => ⟨S4352x1, .f32⟩
  | .hbm, ⟨31, _⟩ => ⟨S4352x1024, .f32⟩
  | .hbm, ⟨32, _⟩ => ⟨S4352x1024, .f32⟩
  | .hbm, ⟨33, _⟩ => ⟨S1x1024, .f32⟩
  | .hbm, ⟨34, _⟩ => ⟨S4352x1024, .f32⟩
  | .hbm, ⟨35, _⟩ => ⟨S4352x1024, .f32⟩
  | .hbm, ⟨36, _⟩ => ⟨S1x1024, .f32⟩
  | .hbm, ⟨37, _⟩ => ⟨S4352x1024, .f32⟩
  | .hbm, ⟨38, _⟩ => ⟨S4352x1024, .f32⟩
  | .hbm, ⟨39, _⟩ => ⟨S4352x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Tiles.lean ====
module

public import Idealize.ShloMosaic.Lib.Pipeline.ValueKit

/-!
What a list of stores leaves at one index, when the newest store is a box with unit steps: its payload inside
the box, the earlier stores outside it; and the same for a load of a box out of such a list.
-/

@[expose] public section

open Idealize.ShloMosaic

namespace Tiles

variable {S : Shape} {e : EltTy} {Val : EltTy → Type}

/-- Inside the newest box: its payload. -/
theorem canon_hit [∀ e, Nonempty (Val e)] (off size : Fin S.rank → Nat) {inb} (w : (Rect.unit off size inb).shape.Idx → Val e)
    (L : List (View.Piece Val S e)) (y : S.Idx) (x : (Rect.unit (s := S) off size inb).shape.Idx)
    (h : ∀ a, (y a : Nat) = off a + x a) : View.canon (⟨Rect.unit off size inb, w⟩ :: L) y = w x := by
  have : y = (Rect.unit off size inb).emb x :=
    funext fun a => Fin.ext ((h a).trans (Rect.idx_unit_val off size inb x a).symm)
  rw [this]; exact View.canon_cons_emb _ w L x

/-- Outside it along one axis: the earlier stores. -/
theorem canon_miss [∀ e, Nonempty (Val e)] (off size : Fin S.rank → Nat) {inb} (w : (Rect.unit off size inb).shape.Idx → Val e)
    (L : List (View.Piece Val S e)) (y : S.Idx) (a : Fin S.rank) (h : (y a : Nat) < off a ∨ off a + size a ≤ y a) :
    View.canon (⟨Rect.unit off size inb, w⟩ :: L) y = View.canon L y :=
  View.canon_cons_of_not_mem ⟨_, w⟩ L fun hm => by
    obtain ⟨x, rfl⟩ := (Rect.unit off size inb).exists_idx_of_mem hm
    have e := Rect.idx_unit_val off size inb x a
    have hx : (x a : Nat) < size a := (x a).isLt
    omega

/-- A load of a box reads what the stores left at the box's places. -/
theorem readCov_apply [∀ e, Nonempty (Val e)] {sig : RefSig} {κ : Kind} {sp : Space} (v : View sig κ sp S e)
    (L : List (View.Piece Val S e)) (off size : Fin S.rank → Nat) (inb) (x : (Rect.unit (s := S) off size inb).shape.Idx)
    (y : S.Idx) (h : ∀ a, (y a : Nat) = off a + x a) :
    v.readCov L (Rect.unit off size inb).toLoadRect x = View.canon L y := by
  rw [View.readCov_eq_canon']
  exact congrArg _ (funext fun a => Fin.ext ((Rect.idx_unit_val off size inb x a).trans (h a).symm))

/-- A sum of products with the factors in the other order. -/
theorem sum_mul_swap {n : ℕ} {f g f' g' : Fin n → EReal} (hf : ∀ k, f k = f' k) (hg : ∀ k, g k = g' k) :
    ∑ k, f k * g k = ∑ k, g' k * f' k :=
  Finset.sum_congr rfl fun k _ => by rw [hf, hg, mul_comm]

end Tiles
-- ==== Proof.GateValue.lean ====
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import proofs.«01_k».proof.Proof.Tiles

@[expose] public section

set_option maxRecDepth 16384

noncomputable section

namespace Cert.KernelIdeal.GateValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 1] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

theorem X4_apply (c : Dev nD) (t : Fin cfg0.N) (y : S544x1024.Idx) : ∃ z : (win0_4.xblock (grid0.coords t)).Idx, (∀ a, (z a).val = (y a).val) ∧ X0_4 m c t y = iblk m c 4 t z := by
  unfold X0_4 Pipeline.Window.fill
  rw [dif_pos (moved0_4 t y)]
  exact ⟨_, fun a => rfl, rfl⟩
theorem X5_apply (c : Dev nD) (t : Fin cfg0.N) (y : S544x1024.Idx) : ∃ z : (win0_5.xblock (grid0.coords t)).Idx, (∀ a, (z a).val = (y a).val) ∧ X0_5 m c t y = iblk m c 5 t z := by
  unfold X0_5 Pipeline.Window.fill
  rw [dif_pos (moved0_5 t y)]
  exact ⟨_, fun a => rfl, rfl⟩

open Cert.ReferenceIdeal.Read

theorem point6 (c : Dev nD) (t : Fin cfg0.N) (y : S544x1024.Idx) : k0_pay10 (iblk m c 0 t) (iblk m c 1 t) (X0_4 m c t) y =
    val_main_v37 (F := Ideal) (m (c.tc.loc main_arg0)) (m (c.tc.loc main_arg1)) (m (c.tc.loc main_arg4))
      (((View.whole main_v0_0).slice (win0_6.rect t)).emb y) := by
  pointwise [k0_pay10, k0_pay7, k0_pay8, val_main_v37, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4, val_main_cst_5]
  obtain ⟨z, hz, e⟩ := X4_apply m c t y
  rw [e]
  simp only [zero_sub]
  blk_point [iblk, V, idx0 t, idx1 t, idx4 t, idx6 t, hz]

theorem point7 (c : Dev nD) (t : Fin cfg0.N) (y : S544x1024.Idx) : k0_pay11 (iblk m c 0 t) (iblk m c 1 t) (X0_5 m c t) y =
    val_main_v38 (F := Ideal) (m (c.tc.loc main_arg0)) (m (c.tc.loc main_arg1)) (m (c.tc.loc main_arg4))
      (((View.whole main_v0_1).slice (win0_7.rect t)).emb y) := by
  pointwise [k0_pay11, k0_pay7, k0_pay9, val_main_v38, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4, val_main_cst_5]
  obtain ⟨z, hz, e⟩ := X5_apply m c t y
  rw [e]
  simp only [zero_sub]
  blk_point [iblk, V, idx0 t, idx1 t, idx5 t, idx7 t, hz]

theorem final6 (c : Dev nD) : (dats (F := Ideal) m 0 c).arrAt 6 cfg0.N
    = val_main_v37 (F := Ideal) (m ((c : Thread nD τ).loc main_arg0)) (m ((c : Thread nD τ).loc main_arg1)) (m ((c : Thread nD τ).loc main_arg4)) := by
  refine (dats m 0 c).arrAt_eq_of_covers 6 _ (by decide +kernel) fun t hf y => ?_
  blk_simp
  rw [after0_6]
  by_cases h0 : t.val % 8 = 0
  · rw [outsAt0_A m c t h0]; frame_out
    exact point6 m c t y
  · rw [outsAt0_B m c t h0]; frame_out
    exact point6 m c t y

theorem final7 (c : Dev nD) : (dats (F := Ideal) m 0 c).arrAt 7 cfg0.N
    = val_main_v38 (F := Ideal) (m ((c : Thread nD τ).loc main_arg0)) (m ((c : Thread nD τ).loc main_arg1)) (m ((c : Thread nD τ).loc main_arg4)) := by
  refine (dats m 0 c).arrAt_eq_of_covers 7 _ (by decide +kernel) fun t hf y => ?_
  blk_simp
  rw [after0_7]
  by_cases h0 : t.val % 8 = 0
  · rw [outsAt0_A m c t h0]; frame_out
    exact point7 m c t y
  · rw [outsAt0_B m c t h0]; frame_out
    exact point7 m c t y

theorem idx9 : ∀ t : Fin cfg0.N, win0_9.index t = ![0, 0] := (by decide +kernel : ∀ t : Fin grid0.N, _)

/-- The gate gradients before rounding, as one array. -/
abbrev dg (c : Dev nD) : S4352x2048.Idx → EReal := val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem point8a (c : Dev nD) (t : Fin cfg0.N) (x : S544x1024.Idx) (i : S4352x2048.Idx) (h0 : (i 0).val = t.val * 544 + (x 0).val) (h1 : (i 1).val = (x 1).val) :
    k0_pay12 (F := Ideal) (iblk m c 0 t) (iblk m c 1 t) (X0_4 m c t) (iblk m c 2 t) x = dg m c i := by
  pointwise [k0_pay12, k0_pay7, k0_pay8, val_main_v36, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4, val_main_cst_5]
  rw [dif_pos (by have := (x 1).isLt; simp only [h1]; exact this)]
  obtain ⟨z, hz, e⟩ := X4_apply m c t x
  rw [e]
  simp only [zero_sub, mul_assoc]
  blk_point [iblk, V, idx0 t, idx1 t, idx2 t, idx4 t, hz, h0, h1]

theorem point8b (c : Dev nD) (t : Fin cfg0.N) (x : S544x1024.Idx) (i : S4352x2048.Idx) (h0 : (i 0).val = t.val * 544 + (x 0).val) (h1 : (i 1).val = 1024 + (x 1).val) :
    k0_pay1 (F := Ideal) (k0_pay7 (iblk m c 0 t) (iblk m c 1 t)) (k0_pay9 (X0_5 m c t)) (iblk m c 3 t) x = dg m c i := by
  pointwise [k0_pay1, k0_pay7, k0_pay9, val_main_v36, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4, val_main_cst_5]
  rw [dif_neg (by simp only [h1]; omega)]
  obtain ⟨z, hz, e⟩ := X5_apply m c t x
  rw [e]
  simp only [zero_sub, mul_assoc]
  blk_point [iblk, V, idx0 t, idx1 t, idx3 t, idx5 t, hz, h0, h1]

theorem final8 (c : Dev nD) : (dats (F := Ideal) m 0 c).arrAt 8 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  by_cases hc : t.val % 8 = 0
  · rw [outsAt0_A m c t hc]; frame_out
    canon_tiles x h
    · exact point8b m c t x _ (by blk_simp [idx8 t]; omega) (by blk_simp [idx8 t]; omega)
    · exact point8a m c t x _ (by blk_simp [idx8 t]; omega) (by blk_simp [idx8 t]; omega)
  · rw [outsAt0_B m c t hc]; frame_out
    canon_tiles x h
    · exact point8b m c t x _ (by blk_simp [idx8 t]; omega) (by blk_simp [idx8 t]; omega)
    · exact point8a m c t x _ (by blk_simp [idx8 t]; omega) (by blk_simp [idx8 t]; omega)

/-- The column sums of one tile of rows. -/
def term9 (c : Dev nD) (t : Fin cfg0.N) (y : S1x2048.Idx) : EReal :=
  ∑ r : Fin 544, dg m c (ix2 ⟨t.val * 544 + r.val, by have := t.isLt; have := r.isLt; simp only [show cfg0.N = 8 from N_0] at *; omega⟩ (y 1))

theorem pay5_apply (c : Dev nD) (t : Fin cfg0.N) (o : Vec Ideal S1x1024 .f32) (x : S1x1024.Idx) (y : S1x2048.Idx) (h1 : (y 1).val = (x 1).val) :
    k0_pay5 (F := Ideal) (k0_pay12 (F := Ideal) (iblk m c 0 t) (iblk m c 1 t) (X0_4 m c t) (iblk m c 2 t)) o x = o x + term9 m c t y := by
  rw [term9, Finset.sum_congr rfl fun r _ => (point8a m c t (ix2 r (x 1)) _ rfl h1).symm]
  generalize hp : k0_pay12 (F := Ideal) (iblk m c 0 t) (iblk m c 1 t) (X0_4 m c t) (iblk m c 2 t) = p
  pointwise [k0_pay5]

theorem pay6_apply (c : Dev nD) (t : Fin cfg0.N) (o : Vec Ideal S1x1024 .f32) (x : S1x1024.Idx) (y : S1x2048.Idx) (h1 : (y 1).val = 1024 + (x 1).val) :
    k0_pay6 (F := Ideal) (k0_pay7 (iblk m c 0 t) (iblk m c 1 t)) (k0_pay9 (X0_5 m c t)) (iblk m c 3 t) o x = o x + term9 m c t y := by
  rw [term9, Finset.sum_congr rfl fun r _ => (point8b m c t (ix2 r (x 1)) _ rfl h1).symm]
  pointwise [k0_pay6, k0_pay1]

theorem stepA (c : Dev nD) (t : Fin cfg0.N) (hc : t.val % 8 = 0) (y : S1x2048.Idx) :
    (outsAt0 m c t.val t.isLt).2.2.2 y = 0 + term9 m c t y := by
  have h0 : (y 0).val = 0 := by have : (y 0).val < 1 := (y 0).isLt; omega
  have h1 : (y 1).val < 2048 := (y 1).isLt
  rw [outsAt0_A m c t hc]; frame_out
  by_cases hy : (y 1).val < 1024
  · rw [Tiles.canon_miss _ _ _ _ y 1 (Or.inl hy),
      Tiles.canon_hit (S := S1x2048) ![0, 0] ![1, 1024] _ _ y (ix2 0 ⟨(y 1).val, hy⟩) (by intro a; match a with | 0 => exact h0 | 1 => exact (Nat.zero_add _).symm),
      pay5_apply m c t _ _ y rfl,
      Tiles.readCov_apply (S := S1x2048) _ _ ![0, 0] ![1, 1024] _ _ y (by intro a; match a with | 0 => exact h0 | 1 => exact (Nat.zero_add _).symm),
      Tiles.canon_hit (S := S1x2048) ![0, 0] ![1, 2048] _ _ y y (by intro a; match a with | 0 => exact (Nat.zero_add _).symm | 1 => exact (Nat.zero_add _).symm)]
    congr 1
    pointwise [k0_pay4]
  · have hx : (y 1).val - 1024 < 1024 := by omega
    have hv : ∀ a : Fin 2, (y a : Nat) = (![0, 1024] : Fin 2 → Nat) a + (ix2 (0 : Fin 1) (⟨(y 1).val - 1024, hx⟩ : Fin 1024) : S1x1024.Idx) a := by
      intro a; match a with | 0 => exact h0 | 1 => exact (by show (y 1).val = 1024 + ((y 1).val - 1024); omega)
    rw [Tiles.canon_hit (S := S1x2048) ![0, 1024] ![1, 1024] _ _ y (ix2 0 ⟨(y 1).val - 1024, hx⟩) hv,
      pay6_apply m c t _ _ y (hv 1),
      Tiles.readCov_apply (S := S1x2048) _ _ ![0, 1024] ![1, 1024] _ _ y hv,
      Tiles.canon_miss _ _ _ _ y 1 (Or.inr (by show 0 + 1024 ≤ (y 1).val; omega)),
      Tiles.canon_hit (S := S1x2048) ![0, 0] ![1, 2048] _ _ y y (by intro a; match a with | 0 => exact (Nat.zero_add _).symm | 1 => exact (Nat.zero_add _).symm)]
    congr 1
    pointwise [k0_pay4]

theorem stepB (c : Dev nD) (t : Fin cfg0.N) (hc : ¬ t.val % 8 = 0) (y : S1x2048.Idx) :
    (outsAt0 m c t.val t.isLt).2.2.2 y = (outsAt0 m c (t.val - 1) (Nat.lt_of_le_of_lt (Nat.sub_le _ _) t.isLt)).2.2.2 y + term9 m c t y := by
  rw [outsAt0_B m c t hc]; frame_out
  canon_tiles x h
  · rw [pay6_apply m c t _ x y h1, View.ld_unit_apply_of _ ![0, 1024] ![1, 1024] _ x y (by
      intro a; match a with | 0 => exact h0.trans (Nat.zero_add _).symm | 1 => exact h1)]
  · rw [pay5_apply m c t _ x y h1, View.ld_unit_apply_of _ ![0, 0] ![1, 1024] _ x y (by
      intro a; match a with | 0 => exact h0.trans (Nat.zero_add _).symm | 1 => exact h1.trans (Nat.zero_add _).symm)]

theorem final9 (c : Dev nD) : (dats (F := Ideal) m 0 c).arrAt 9 cfg0.N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have ht : t.val + 1 = cfg0.N := by
    have := (flush0_9 t).mp hf
    have h2 : t.val < 8 := t.isLt
    show t.val + 1 = 8
    omega
  blk_simp
  rw [after0_9]
  have hs := Pipeline.eq_sum_fin_of_reset_step_apply_last (fun n (h : n < cfg0.N) => (outsAt0 m c n h).2.2.2) 8 (fun _ => 0) (term9 m c)
    (stepA m c) (stepB m c) (by decide +kernel) t ht y
  refine hs.trans ?_
  pointwise [val_main_v41, val_main_v40, val_main_cst_5]
  unfold term9
  refine Fin.sum_mul_add_congr (S := 8) (n := 544) (L := 4352) (fun p r hl => ?_) rfl
  refine congrArg (dg m c) (funext fun a => ?_)
  match a with
  | 0 => rfl
  | 1 =>
    refine Fin.ext ?_
    show (y 1).val = (((View.whole main_v0_3).slice (win0_9.rect t)).emb y 1).val
    blk_simp [idx9 t]

end Cert.KernelIdeal.GateValue

end
-- ==== Proof.Bias.lean ====
module

public import Idealize.ShloMosaic.PureOps.IdealRules
public import Idealize.ShloMosaic.Lib.Pipeline.ValueKit

@[expose] public section

noncomputable section

namespace Cert.Bias

open Idealize.ShloMosaic

/-! The two bias corrections: the kernels multiply by the inverse of the float the mathematics divides by. -/

theorem word_first : (FloatOps.ofBits (F := Ideal) .f32 0x3F26BD02#32 : EReal) = ((5463681 / 8388608 : ℝ) : EReal) := by
  rw [Ideal.ofBits_def]
  simp [Ideal.ofBits, Ideal.ieee, -EReal.coe_mul]
  norm_num

theorem word_second : (FloatOps.ofBits (F := Ideal) .f32 0x3C231ACC#32 : EReal) = ((2672307 / 268435456 : ℝ) : EReal) := by
  rw [Ideal.ofBits_def]
  simp [Ideal.ofBits, Ideal.ieee, -EReal.coe_mul]
  norm_num

theorem first {κ : String → Option EReal} (h : κ "first" = some (((5463681 / 8388608)⁻¹ : ℝ) : EReal)) (x : Ideal .f32) :
    FloatOps.mulf x (Named.named (F := Ideal) κ "first" (φ := .f32) 0x3FC48605#32) = FloatOps.hostDivf x (FloatOps.ofBits .f32 0x3F26BD02#32) := by
  rw [IdealRules.named_const.ideal_named_scalar κ "first" (φ := .f32) _ _ h, Ideal.hostDivf_def, word_first, Ideal.div_coe (by norm_num), one_div, Ideal.mulf_def]

theorem second {κ : String → Option EReal} (h : κ "second" = some (((2672307 / 268435456)⁻¹ : ℝ) : EReal)) (x : Ideal .f32) :
    FloatOps.mulf x (Named.named (F := Ideal) κ "second" (φ := .f32) 0x42C8E6D3#32) = FloatOps.hostDivf x (FloatOps.ofBits .f32 0x3C231ACC#32) := by
  rw [IdealRules.named_const.ideal_named_scalar κ "second" (φ := .f32) _ _ h, Ideal.hostDivf_def, word_second, Ideal.div_coe (by norm_num), one_div, Ideal.mulf_def]

end Cert.Bias

end
-- ==== Proof.Matrix.lean ====
module

public import Idealize.ShloMosaic.PureOps.IdealRules
public import proofs.«01_k».proof.Proof.Bias
public import Idealize.ShloMosaic.Lib.Pointwise
public import Idealize.ShloMosaic.Lib.StableHlo.Predicate
public import Idealize.ShloMosaic.Lib.Pipeline.Covers

@[expose] public section

noncomputable section

open Idealize.ShloMosaic Idealize.ShloMosaic.TcCoe Idealize.SL.Sem

/-! One step of the optimiser on a matrix, whose gradient is summed half on this core and half on the sibling: what does
not depend on the shape.  A matrix has two layers of `r = 2h` rows of `c`; a block has `q` rows. -/

namespace Cert.Matrix

theorem ix_one {s : Shape} (hs : s = ⟨1, ![1]⟩) (x y : s.Idx) : x = y := by
  subst hs
  exact funext fun a => by match a with | 0 => exact Subsingleton.elim (α := Fin 1) _ _

/-- The precondition says that the core's number is 0 or 1. -/
theorem core (x6 : (⟨1, ![1]⟩ : Shape).Idx → BitVec 32) (hs : (⟨1, ![1]⟩ : Shape).ShapeCasts ⟨0, ![]⟩)
    (h : ori (cmpi .eq (shapeCast ⟨0, ![]⟩ x6 hs) (constantI ⟨0, ![]⟩ 32 0#32)) (cmpi .eq (shapeCast ⟨0, ![]⟩ x6 hs) (constantI ⟨0, ![]⟩ 32 1#32)) = fun _ => 1#1) :
    x6 (ix1 (n0 := 1) 0) = 0#32 ∨ x6 (ix1 (n0 := 1) 0) = 1#32 := by
  have e := congrFun h (fun a => a.elim0)
  have cast (i : (⟨0, ![]⟩ : Shape).Idx) : shapeCast ⟨0, ![]⟩ x6 hs i = x6 (ix1 (n0 := 1) 0) := congrArg x6 (ix_one rfl _ _)
  simp only [ori, cmpi, cast, constantI] at e
  revert e
  generalize x6 (ix1 (n0 := 1) 0) = k
  intro e
  by_cases h0 : k = 0#32
  · exact Or.inl h0
  · refine Or.inr (StableHlo.Predicate.cmpi_eq_iff.mp ?_)
    have z : IntOp.cmpi .eq k 0#32 = 0#1 :=
      (BitVec.eq_zero_or_eq_one _).resolve_right fun z => h0 (StableHlo.Predicate.cmpi_eq_iff.mp z)
    rw [z] at e
    simpa [IntOp.ori] using e

variable {α : Type} {r h q c : ℕ}

abbrev Whole (r c : ℕ) : Shape := ⟨3, ![2, r, c]⟩
abbrev Slice (q c : ℕ) : Shape := ⟨3, ![1, q, c]⟩
abbrev Flat (q c : ℕ) : Shape := ⟨2, ![q, c]⟩

theorem layer_at (b : (Flat h c).BroadcastsInDim (Slice h c) ![1, 2]) (x : (Flat h c).Idx → α) (j : (Slice h c).Idx) (y : (Flat h c).Idx)
    (h1 : (y 0).val = (j 1).val) (h2 : (y 1).val = (j 2).val) : broadcastInDim (Slice h c) ![1, 2] b x j = x y := by
  refine broadcastInDim_apply _ b x j y fun a => ?_
  have l (n k : ℕ) (hk : k < n) : k = if n = 1 then 0 else k := by split <;> omega
  match a with
  | ⟨0, _⟩ => exact h1.trans (l h _ (j 1).isLt)
  | ⟨1, _⟩ => exact h2.trans (l c _ (j 2).isLt)

/-- The two layers of the own half stacked. -/
theorem own_at (b : (Flat h c).BroadcastsInDim (Slice h c) ![1, 2]) (hc : Shape.Concatenates [Slice h c, Slice h c] (Whole h c) 0)
    (x2 x3 : (Flat h c).Idx → α) (j : (Whole h c).Idx) (y : (Flat h c).Idx) (h1 : (y 0).val = (j 1).val) (h2 : (y 1).val = (j 2).val) :
    concatenate (Whole h c) 0 [⟨Slice h c, broadcastInDim (Slice h c) ![1, 2] b x2⟩, ⟨Slice h c, broadcastInDim (Slice h c) ![1, 2] b x3⟩] hc j
      = if (j 0).val = 0 then x2 y else x3 y := by
  have hj : (j 0).val < 2 := (j 0).isLt
  by_cases h0 : (j 0).val = 0
  · refine (concatenate_pair_apply_left 0 _ _ hc j rfl (ix3 0 (j 1) (j 2)) fun a => ?_).trans ((layer_at b x2 _ y h1 h2).trans (if_pos h0).symm)
    match a with | 0 => exact h0.symm | 1 => rfl | 2 => rfl
  · refine (concatenate_pair_apply_right 0 _ _ hc j rfl rfl (ix3 0 (j 1) (j 2)) (fun a ha => ?_) ?_).trans ((layer_at b x3 _ y h1 h2).trans (if_neg h0).symm)
    · match a with | 0 => exact absurd rfl ha | 1 => rfl | 2 => rfl
    · show 0 + 1 = (j 0).val
      omega

/-- The gradient put together: the own half first on core 0 and last on core 1. -/
theorem half_at (hr : r = 2 * h) (b : (Flat h c).BroadcastsInDim (Slice h c) ![1, 2]) (hc : Shape.Concatenates [Slice h c, Slice h c] (Whole h c) 0)
    (hd : Shape.Concatenates [Whole h c, Whole h c] (Whole r c) 1) (s3 : (Whole r c).Slices ![0, h, 0] (Whole h c)) (s5 : (Whole r c).Slices ![0, 0, 0] (Whole h c))
    (hs : (⟨1, ![1]⟩ : Shape).ShapeCasts ⟨0, ![]⟩) (hb : (⟨0, ![]⟩ : Shape).BroadcastsInDim (Whole r c) (![] : Fin 0 → Fin 3))
    (x1 : (Whole r c).Idx → α) (x2 x3 : (Flat h c).Idx → α) (x6 : (⟨1, ![1]⟩ : Shape).Idx → BitVec 32) (k : Fin 2) (hk : x6 (ix1 (n0 := 1) 0) = BitVec.ofNat 32 k.val)
    (i : (Whole r c).Idx) (y : (Flat h c).Idx) (h1 : (y 0).val = (i 1).val % h) (h2 : (y 1).val = (i 2).val) :
    select (broadcastInDim (Whole r c) ![] hb (cmpi .eq (shapeCast ⟨0, ![]⟩ x6 hs) (constantI ⟨0, ![]⟩ 32 0#32)))
        (concatenate (Whole r c) 1 [⟨Whole h c, concatenate (Whole h c) 0 [⟨Slice h c, broadcastInDim (Slice h c) ![1, 2] b x2⟩, ⟨Slice h c, broadcastInDim (Slice h c) ![1, 2] b x3⟩] hc⟩,
          ⟨Whole h c, extractStridedSlice (Whole h c) ![0, h, 0] x1 s3⟩] hd)
        (concatenate (Whole r c) 1 [⟨Whole h c, extractStridedSlice (Whole h c) ![0, 0, 0] x1 s5⟩,
          ⟨Whole h c, concatenate (Whole h c) 0 [⟨Slice h c, broadcastInDim (Slice h c) ![1, 2] b x2⟩, ⟨Slice h c, broadcastInDim (Slice h c) ![1, 2] b x3⟩] hc⟩] hd) i
      = if (i 1).val / h = k.val then (if (i 0).val = 0 then x2 y else x3 y) else x1 i := by
  have hi : (i 1).val < r := (i 1).isLt
  have h0 : 0 < h := by omega
  have hdiv : (i 1).val < h ∧ (i 1).val / h = 0 ∧ (i 1).val % h = (i 1).val ∨ h ≤ (i 1).val ∧ (i 1).val / h = 1 ∧ (i 1).val % h = (i 1).val - h := by
    by_cases hl : (i 1).val < h
    · exact Or.inl ⟨hl, Nat.div_eq_of_lt hl, Nat.mod_eq_of_lt hl⟩
    · refine Or.inr ⟨by omega, Nat.div_eq_of_lt_le (by omega) (by omega), ?_⟩
      rw [Nat.mod_eq_sub_mod (by omega), Nat.mod_eq_of_lt (by omega)]
  have e : ∀ u v : α, Scalar.select (IntOp.cmpi .eq (BitVec.ofNat 32 k.val) 0#32) u v = if k.val = 0 then u else v := fun u v => by
    match k with | 0 => rfl | 1 => rfl
  have ec : broadcastInDim (Whole r c) ![] hb (cmpi .eq (shapeCast ⟨0, ![]⟩ x6 hs) (constantI ⟨0, ![]⟩ 32 0#32)) i = IntOp.cmpi .eq (BitVec.ofNat 32 k.val) 0#32 :=
    congrArg (IntOp.cmpi .eq · 0#32) ((congrArg x6 (ix_one rfl _ _)).trans hk)
  refine (congrArg (Scalar.select · _ _) ec).trans ((e _ _).trans ?_)
  have hk2 : k.val < 2 := k.isLt
  rcases hdiv with ⟨hl, ed, em⟩ | ⟨hl, ed, em⟩
  · by_cases h2' : k.val = 0
    · refine (if_pos h2').trans (Eq.trans ?_ (if_pos (ed.trans h2'.symm)).symm)
      refine (concatenate_pair_apply_left 1 _ _ hd i rfl (ix3 (i 0) ⟨(i 1).val, hl⟩ (i 2)) fun a => ?_).trans (own_at b hc x2 x3 _ y (h1.trans em) h2)
      match a with | 0 => rfl | 1 => rfl | 2 => rfl
    · refine (if_neg h2').trans (Eq.trans ?_ (if_neg (by omega)).symm)
      refine (concatenate_pair_apply_left 1 _ _ hd i rfl (ix3 (i 0) ⟨(i 1).val, hl⟩ (i 2)) fun a => ?_).trans (extractStridedSlice_apply _ x1 s5 _ i fun a => ?_)
      · match a with | 0 => rfl | 1 => rfl | 2 => rfl
      · match a with | 0 => exact (Nat.zero_add _).symm | 1 => exact (Nat.zero_add _).symm | 2 => exact (Nat.zero_add _).symm
  · have hm : (i 1).val - h < h := by omega
    by_cases h2' : k.val = 0
    · refine (if_pos h2').trans (Eq.trans ?_ (if_neg (by omega)).symm)
      refine (concatenate_pair_apply_right 1 _ _ hd i rfl rfl (ix3 (i 0) ⟨(i 1).val - h, hm⟩ (i 2)) (fun a ha => ?_) ?_).trans (extractStridedSlice_apply _ x1 s3 _ i fun a => ?_)
      · match a with | 0 => rfl | 1 => exact absurd rfl ha | 2 => rfl
      · show (i 1).val - h + h = (i 1).val
        omega
      · match a with
        | 0 => exact (Nat.zero_add _).symm
        | 1 => show (i 1).val = h + ((i 1).val - h); omega
        | 2 => exact (Nat.zero_add _).symm
    · refine (if_neg h2').trans (Eq.trans ?_ (if_pos (show (i 1).val / h = k.val by omega)).symm)
      refine (concatenate_pair_apply_right 1 _ _ hd i rfl rfl (ix3 (i 0) ⟨(i 1).val - h, hm⟩ (i 2)) (fun a ha => ?_) ?_).trans (own_at b hc x2 x3 _ y (h1.trans em) h2)
      · match a with | 0 => rfl | 1 => exact absurd rfl ha | 2 => rfl
      · show (i 1).val - h + h = (i 1).val
        omega

/-- The new mean of the gradients from the old one and the gradient, -/
def meanOf (a g : Ideal .f32) : Ideal .f32 :=
  FloatOps.addf (FloatOps.mulf (FloatOps.ofBits .f32 0x3F666666#32) a) (FloatOps.mulf (FloatOps.ofBits .f32 0x3DCCCCCD#32) g)

/-- that of their squares, -/
def squareOf (a g : Ideal .f32) : Ideal .f32 :=
  FloatOps.addf (FloatOps.mulf (FloatOps.ofBits .f32 0x3F7FBE77#32) a) (FloatOps.mulf (FloatOps.ofBits .f32 0x3A83126F#32) (FloatOps.mulf g g))

/-- and the step from the two means and the weight, with the factors `u` and `v` for the bias corrections. -/
def stepBy (u v : Ideal .f32 → Ideal .f32) (a b w : Ideal .f32) : Ideal .f32 :=
  FloatOps.mulf (FloatOps.ofBits .f32 0xBA83126F#32) (FloatOps.addf (FloatOps.hostDivf (u a)
    (FloatOps.addf (FloatOps.hostUnary .sqrt (v b)) (FloatOps.ofBits .f32 0x322BCC77#32))) (FloatOps.mulf (FloatOps.ofBits .f32 0x3C23D70A#32) w))

def stepOf : Ideal .f32 → Ideal .f32 → Ideal .f32 → Ideal .f32 :=
  stepBy (FloatOps.hostDivf · (FloatOps.ofBits .f32 0x3F26BD02#32)) (FloatOps.hostDivf · (FloatOps.ofBits .f32 0x3C231ACC#32))

/-- The same as the kernel writes it. -/
def stepNamed (κ : String → Option EReal) : Ideal .f32 → Ideal .f32 → Ideal .f32 → Ideal .f32 :=
  stepBy (FloatOps.mulf · (Named.named (F := Ideal) κ "first" (φ := .f32) 0x3FC48605#32)) (FloatOps.mulf · (Named.named (F := Ideal) κ "second" (φ := .f32) 0x42C8E6D3#32))

theorem stepNamed_eq {κ : String → Option EReal} (h1 : κ "first" = some (((5463681 / 8388608)⁻¹ : ℝ) : EReal)) (h2 : κ "second" = some (((2672307 / 268435456)⁻¹ : ℝ) : EReal)) :
    stepNamed κ = stepOf :=
  congrArg₂ stepBy (funext (Bias.first h1)) (funext (Bias.second h2))

/-- The gradient that the kernel's body chooses, in layer `l` at part `p` on core `k`. -/
def gradOf (hs : (Slice q c).ShapeCasts (Flat q c)) (l p k : ℕ) (b1 : (Slice q c).Idx → α) (b2 b3 : (Flat q c).Idx → α) : (Flat q c).Idx → α :=
  Scalar.select (Scalar.cmpi .eq (BitVec.ofNat 32 p) (BitVec.ofNat 32 k)) (Scalar.select (Scalar.cmpi .eq (BitVec.ofNat 32 l) 0#32) b2 b3) (shapeCast (Flat q c) b1 hs)

theorem cast_in (hs : (Slice q c).ShapeCasts (Flat q c)) (v : (Slice q c).Idx → α) (y : (Flat q c).Idx) : shapeCast (Flat q c) v hs y = v (ix3 0 (y 0) (y 1)) :=
  (shapeCast_dropUnit_apply ![q, c] v hs y).trans (congrArg v (funext fun a => by match a with | 0 => rfl | 1 => rfl | 2 => rfl))

theorem cast_out (hs : (Flat q c).ShapeCasts (Slice q c)) (v : (Flat q c).Idx → α) (y : (Slice q c).Idx) : shapeCast (Slice q c) v hs y = v (ix2 (y 1) (y 2)) :=
  (shapeCast_addUnit_apply ![q, c] v hs y).trans (congrArg v (funext fun a => by match a with | 0 => rfl | 1 => rfl))

theorem sel_eq (a b : ℕ) (ha : a < 2) (hb : b < 2) {β : Type} (u v : β) : Scalar.select (Scalar.cmpi .eq (BitVec.ofNat 32 a) (BitVec.ofNat 32 b)) u v = if a = b then u else v := by
  match a, b with
  | 0, 0 => rfl
  | 0, 1 => rfl
  | 1, 0 => rfl
  | 1, 1 => rfl
  | a + 2, _ => omega
  | _, b + 2 => omega

/-- A block that is cut out of a matrix, from layer `l` and row `o` on, -/
def Cut (l o : ℕ) (b : (Slice q c).Idx → α) (x : (Whole r c).Idx → α) : Prop :=
  ∀ z i, (i 0).val = l → (i 1).val = o + (z 1).val → (i 2).val = (z 2).val → b z = x i

/-- and out of one half of one layer. -/
def Cut₂ (o : ℕ) (b : (Flat q c).Idx → α) (x : (Flat h c).Idx → α) : Prop :=
  ∀ z y, (y 0).val = o + (z 0).val → (y 1).val = (z 1).val → b z = x y

theorem off0 (c z : ℕ) : 0 * c + z = z := by rw [Nat.zero_mul, Nat.zero_add]

theorem tile (n q a b : ℕ) : (a * n + b) * q = a * (n * q) + b * q := by rw [Nat.add_mul, Nat.mul_assoc]

/-- A block whose place in its array is known holds what is cut out there, -/
theorem cut_of {p l o : ℕ} {n : Fin 3 → ℕ} (hn : n = ![l, p, 0]) (ho : p * q = o) {emb : (Slice q c).Idx → (Whole r c).Idx}
    (he : ∀ (z : (Slice q c).Idx) (a : Fin 3), (emb z a).val = n a * (Slice q c).size a + (z a).val) {b : (Slice q c).Idx → α} {v x : (Whole r c).Idx → α}
    (hx : v = x) (hb : ∀ z, b z = v (emb z)) : Cut l o b x := by
  subst hx hn ho
  refine fun z i h0 h1 h2 => (hb z).trans (congrArg v (funext fun (a : Fin 3) => Fin.ext ((he z a).trans ?_)))
  match a with
  | 0 => exact ((h0.trans (Nat.mul_one l).symm).trans (congrArg (l * 1 + ·) (Nat.lt_one_iff.mp (z 0).isLt).symm)).symm
  | 1 => exact h1.symm
  | 2 => exact (off0 c (z 2).val).trans h2.symm

theorem cut₂_of {o p : ℕ} {n : Fin 2 → ℕ} (hn : n = ![p, 0]) (ho : p * q = o) {emb : (Flat q c).Idx → (Flat h c).Idx}
    (he : ∀ (z : (Flat q c).Idx) (a : Fin 2), (emb z a).val = n a * (Flat q c).size a + (z a).val) {b : (Flat q c).Idx → α} {v x : (Flat h c).Idx → α}
    (hx : v = x) (hb : ∀ z, b z = v (emb z)) : Cut₂ o b x := by
  subst hx hn ho
  refine fun z i h0 h1 => (hb z).trans (congrArg v (funext fun (a : Fin 2) => Fin.ext ((he z a).trans ?_)))
  match a with
  | 0 => exact h0.symm
  | 1 => exact (off0 c (z 1).val).trans h1.symm

/-- and a block written there agrees with the array. -/
theorem at_emb {p l o : ℕ} {n : Fin 3 → ℕ} (hn : n = ![l, p, 0]) (ho : p * q = o) {emb : (Slice q c).Idx → (Whole r c).Idx}
    (he : ∀ (z : (Slice q c).Idx) (a : Fin 3), (emb z a).val = n a * (Slice q c).size a + (z a).val) {b : (Slice q c).Idx → α} {x : (Whole r c).Idx → α}
    (hc : Cut l o b x) (z : (Slice q c).Idx) : b z = x (emb z) := by
  subst hn ho
  refine hc z _ ((he z 0).trans ?_) (he z 1) ((he z 2).trans ?_)
  · exact (congrArg (l * 1 + ·) (Nat.lt_one_iff.mp (z 0).isLt)).trans (Nat.mul_one l)
  · exact off0 c (z 2).val

/-- The body's gradient, at a part's block that starts `o` rows into the half, is the one put together. -/
theorem grad_at (hs : (Slice q c).ShapeCasts (Flat q c)) {l p o : ℕ} {k : Fin 2} (hl : l < 2) (hp : p < 2) (ho : o + q ≤ h) {b1 : (Slice q c).Idx → α} {b2 b3 : (Flat q c).Idx → α}
    {x1 : (Whole r c).Idx → α} {x2 x3 : (Flat h c).Idx → α} (c1 : Cut l ((1 - k.val) * h + o) b1 x1) (c2 : Cut₂ o b2 x2) (c3 : Cut₂ o b3 x3)
    {g : (Whole r c).Idx → α} (hg : ∀ (i : (Whole r c).Idx) (y : (Flat h c).Idx), (y 0).val = (i 1).val % h → (y 1).val = (i 2).val → g i = if (i 1).val / h = k.val then (if (i 0).val = 0 then x2 y else x3 y) else x1 i)
    (z : (Flat q c).Idx) (i : (Whole r c).Idx) (h0 : (i 0).val = l) (h1 : (i 1).val = p * h + o + (z 0).val) (h2 : (i 2).val = (z 1).val) :
    gradOf hs l p k.val b1 b2 b3 z = g i := by
  have hz : (z 0).val < q := (z 0).isLt
  have hk2 : k.val < 2 := k.isLt
  have hh : 0 < h := by omega
  have ed : (i 1).val / h = p := by
    rw [h1, Nat.add_assoc, Nat.add_comm, Nat.add_mul_div_right _ _ hh, Nat.div_eq_of_lt (by omega), Nat.zero_add]
  have em : (i 1).val % h = o + (z 0).val := by
    rw [h1, Nat.add_assoc, Nat.add_comm, Nat.add_mul_mod_self_right, Nat.mod_eq_of_lt (by omega)]
  let y : (Flat h c).Idx := ix2 ⟨o + (z 0).val, by omega⟩ (z 1)
  refine Eq.trans ?_ (hg i y em.symm h2.symm).symm
  rw [ed, h0]
  unfold gradOf
  rw [sel_eq p k.val hp hk2, sel_eq l 0 hl (by omega)]
  by_cases hk : p = k.val
  · rw [if_pos hk, if_pos hk]
    by_cases hl0 : l = 0
    · rw [if_pos hl0, if_pos hl0]; exact c2 z y rfl rfl
    · rw [if_neg hl0, if_neg hl0]; exact c3 z y rfl rfl
  · rw [if_neg hk, if_neg hk]
    have ep : p = 1 - k.val := by omega
    exact (cast_in hs b1 z).trans (c1 _ i h0 (h1.trans (by rw [ep]; rfl)) h2)

variable (hi : (Slice q c).ShapeCasts (Flat q c)) (hs : (Flat q c).ShapeCasts (Slice q c))

/-- The four arrays that the body writes: the gradient, the step and the two new means. -/
def out6 (l p k : ℕ) (b1 : (Slice q c).Idx → Ideal .f32) (b2 b3 : (Flat q c).Idx → Ideal .f32) : (Slice q c).Idx → Ideal .f32 :=
  shapeCast (Slice q c) (gradOf hi l p k b1 b2 b3) hs
def mean (l p k : ℕ) (b1 : (Slice q c).Idx → Ideal .f32) (b2 b3 : (Flat q c).Idx → Ideal .f32) (b4 : (Slice q c).Idx → Ideal .f32) : (Flat q c).Idx → Ideal .f32 :=
  fun z => meanOf (shapeCast (Flat q c) b4 hi z) (gradOf hi l p k b1 b2 b3 z)
def square (l p k : ℕ) (b1 : (Slice q c).Idx → Ideal .f32) (b2 b3 : (Flat q c).Idx → Ideal .f32) (b5 : (Slice q c).Idx → Ideal .f32) : (Flat q c).Idx → Ideal .f32 :=
  fun z => squareOf (shapeCast (Flat q c) b5 hi z) (gradOf hi l p k b1 b2 b3 z)
def out8 (l p k : ℕ) (b1 : (Slice q c).Idx → Ideal .f32) (b2 b3 : (Flat q c).Idx → Ideal .f32) (b4 : (Slice q c).Idx → Ideal .f32) : (Slice q c).Idx → Ideal .f32 :=
  shapeCast (Slice q c) (mean hi l p k b1 b2 b3 b4) hs
def out9 (l p k : ℕ) (b1 : (Slice q c).Idx → Ideal .f32) (b2 b3 : (Flat q c).Idx → Ideal .f32) (b5 : (Slice q c).Idx → Ideal .f32) : (Slice q c).Idx → Ideal .f32 :=
  shapeCast (Slice q c) (square hi l p k b1 b2 b3 b5) hs
def out7 (κ : String → Option EReal) (a b : (Flat q c).Idx → Ideal .f32) (b0 : (Slice q c).Idx → Ideal .f32) : (Slice q c).Idx → Ideal .f32 :=
  shapeCast (Slice q c) (fun z => stepNamed κ (a z) (b z) (shapeCast (Flat q c) b0 hi z)) hs

/-- They are the reference's, at every index that the block covers. -/
theorem outs {κ : String → Option EReal} (e1 : κ "first" = some (((5463681 / 8388608)⁻¹ : ℝ) : EReal)) (e2 : κ "second" = some (((2672307 / 268435456)⁻¹ : ℝ) : EReal))
    {l p o : ℕ} {k : Fin 2} (hl : l < 2) (hp : p < 2) (ho : o + q ≤ h) {b0 b1 b4 b5 : (Slice q c).Idx → Ideal .f32} {b2 b3 : (Flat q c).Idx → Ideal .f32}
    {x0 x1 x4 x5 : (Whole r c).Idx → Ideal .f32} {x2 x3 : (Flat h c).Idx → Ideal .f32} (c0 : Cut l (p * h + o) b0 x0) (c1 : Cut l ((1 - k.val) * h + o) b1 x1) (c2 : Cut₂ o b2 x2) (c3 : Cut₂ o b3 x3)
    (c4 : Cut l (p * h + o) b4 x4) (c5 : Cut l (p * h + o) b5 x5)
    {g : (Whole r c).Idx → Ideal .f32} (hg : ∀ (i : (Whole r c).Idx) (y : (Flat h c).Idx), (y 0).val = (i 1).val % h → (y 1).val = (i 2).val → g i = if (i 1).val / h = k.val then (if (i 0).val = 0 then x2 y else x3 y) else x1 i) :
    Cut l (p * h + o) (out6 hi hs l p k.val b1 b2 b3) g
      ∧ Cut l (p * h + o) (out7 hi hs κ (mean hi l p k.val b1 b2 b3 b4) (square hi l p k.val b1 b2 b3 b5) b0) (fun i => stepOf (meanOf (x4 i) (g i)) (squareOf (x5 i) (g i)) (x0 i))
      ∧ Cut l (p * h + o) (out8 hi hs l p k.val b1 b2 b3 b4) (fun i => meanOf (x4 i) (g i))
      ∧ Cut l (p * h + o) (out9 hi hs l p k.val b1 b2 b3 b5) (fun i => squareOf (x5 i) (g i)) := by
  have hgrad (z : (Slice q c).Idx) (i : (Whole r c).Idx) (h0 : (i 0).val = l) (h1 : (i 1).val = p * h + o + (z 1).val) (h2 : (i 2).val = (z 2).val) :
      gradOf hi l p k.val b1 b2 b3 (ix2 (z 1) (z 2)) = g i := grad_at hi hl hp ho c1 c2 c3 hg _ i h0 h1 h2
  have hin {b : (Slice q c).Idx → Ideal .f32} {x : (Whole r c).Idx → Ideal .f32} (cb : Cut l (p * h + o) b x) (z : (Slice q c).Idx) (i : (Whole r c).Idx) (h0 : (i 0).val = l) (h1 : (i 1).val = p * h + o + (z 1).val) (h2 : (i 2).val = (z 2).val) :
      shapeCast (Flat q c) b hi (ix2 (z 1) (z 2)) = x i := (cast_in hi b _).trans (cb _ i h0 h1 h2)
  have hm (z : (Slice q c).Idx) (i : (Whole r c).Idx) (h0 : (i 0).val = l) (h1 : (i 1).val = p * h + o + (z 1).val) (h2 : (i 2).val = (z 2).val) : mean hi l p k.val b1 b2 b3 b4 (ix2 (z 1) (z 2)) = meanOf (x4 i) (g i) := congr (congrArg meanOf (hin c4 z i h0 h1 h2)) (hgrad z i h0 h1 h2)
  have hq (z : (Slice q c).Idx) (i : (Whole r c).Idx) (h0 : (i 0).val = l) (h1 : (i 1).val = p * h + o + (z 1).val) (h2 : (i 2).val = (z 2).val) : square hi l p k.val b1 b2 b3 b5 (ix2 (z 1) (z 2)) = squareOf (x5 i) (g i) := congr (congrArg squareOf (hin c5 z i h0 h1 h2)) (hgrad z i h0 h1 h2)
  refine ⟨fun z i h0 h1 h2 => (cast_out hs _ z).trans (hgrad z i h0 h1 h2), fun z i h0 h1 h2 => ?_,
    fun z i h0 h1 h2 => (cast_out hs _ z).trans (hm z i h0 h1 h2), fun z i h0 h1 h2 => (cast_out hs _ z).trans (hq z i h0 h1 h2)⟩
  refine (cast_out hs _ z).trans ?_
  rw [stepNamed_eq e1 e2]
  exact congr (congr (congrArg stepOf (hm z i h0 h1 h2)) (hq z i h0 h1 h2)) (hin c0 z i h0 h1 h2)

end Cert.Matrix

end
-- ==== Proof.Sums.lean ====
module

public import proofs.«01_k».proof.Proof.Gen.Kernel21Ideal.Value
public import proofs.«01_k».proof.Proof.Gen.Kernel22Ideal.Value
public import proofs.«01_k».proof.Proof.Gen.Reference21Ideal.Run
public import proofs.«01_k».proof.Proof.Gen.Reference22Ideal.Run
public import proofs.«01_k».proof.Proof.Gen.Reference21Ideal.Read
public import proofs.«01_k».proof.Proof.Gen.Reference22Ideal.Read
public import proofs.«01_k».proof.Proof.Matrix

@[expose] public section

set_option maxRecDepth 16384

noncomputable section

open Idealize.ShloMosaic Idealize.ShloMosaic.TcCoe Idealize.SL.Sem

/-! Sums of slabs. -/

namespace Cert.Sums

variable {n r c : ℕ}

/-- The `k`-th slab of a stack, loaded and laid flat, at an index. -/
theorem slab {k : ℕ} (x : (⟨3, ![n, r, c]⟩ : Shape).Idx → Ideal .f32)
    (inb : ∀ a, (![k, 0, 0] : Fin 3 → ℕ) a + (![1, r, c] : Fin 3 → ℕ) a ≤ (⟨3, ![n, r, c]⟩ : Shape).size a)
    (hs : (Matrix.Slice r c).ShapeCasts (Matrix.Flat r c)) (y : (Matrix.Flat r c).Idx)
    (i : (⟨3, ![n, r, c]⟩ : Shape).Idx) (h0 : (i 0).val = k) (h1 : (i 1).val = (y 0).val) (h2 : (i 2).val = (y 1).val) :
    shapeCast (Matrix.Flat r c) (View.ld (Val := Elt Ideal) (e' := .f32) x (Rect.unit (s := ⟨3, ![n, r, c]⟩) ![k, 0, 0] ![1, r, c] inb)) hs y = x i := by
  refine (Matrix.cast_in hs _ y).trans (congrArg x (funext fun a => Fin.ext ?_))
  match a with
  | 0 => show k + 1 * 0 = (i 0).val; omega
  | 1 => show 0 + 1 * (y 0).val = (i 1).val; omega
  | 2 => show 0 + 1 * (y 1).val = (i 2).val; omega

end Cert.Sums

namespace Cert.Kernel21Ideal.Sums

open Cert.Kernel21Ideal Cert.Kernel21Ideal.Gen Cert.Reference21Ideal.Read Cert.Sums

variable (m : (ℓ : Loc nD τ sig) → Buf (Elt Ideal) ℓ)

/-- The small gradients, summed over the eight devices. -/
theorem final1 (c : Dev nD) : (dats (F := Ideal) m 0 c).arrAt 1 cfg0.N = val_main_v0 (F := Ideal) (m ((c : Thread nD τ).loc main_arg0)) := by
  refine (Value.final1 m c).trans (funext fun y => ?_)
  generalize m ((c : Thread nD τ).loc main_arg0) = x
  have s (k : Fin 8) (inb) := slab (k := k.val) x inb shapeCasts_S1x976x128_S976x128 y (idx_main_v0 y k) rfl rfl rfl
  rw [val_main_v0_apply, Fin.sum_univ_eight, val_main_cst_apply]
  dsimp only [Value.G1]
  rw [Value.lay1_0_eq]
  refine (congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)).trans ?_
  exact (zero_add _).symm.trans (congrArg₂ (· + ·) Ideal.ofBits_zero_f32.symm rfl)

end Cert.Kernel21Ideal.Sums

namespace Cert.Kernel22Ideal.Sums

open Cert.Kernel22Ideal Cert.Kernel22Ideal.Gen Cert.Reference22Ideal.Read Cert.Sums

variable (m : (ℓ : Loc nD τ sig) → Buf (Elt Ideal) ℓ)

/-- The gradients of the meta tokens, summed over a device's two examples. -/
theorem final1 (c : Dev nD) : (dats (F := Ideal) m 0 c).arrAt 1 cfg0.N = val_main_v0 (F := Ideal) (m ((c : Thread nD τ).loc main_arg0)) := by
  refine (Value.final1 m c).trans (funext fun y => ?_)
  generalize m ((c : Thread nD τ).loc main_arg0) = x
  have s (k : Fin 2) (inb) := slab (k := k.val) x inb shapeCasts_S1x16x1024_S16x1024 y (idx_main_v0 y k) rfl rfl rfl
  rw [val_main_v0_apply, Fin.sum_univ_two, val_main_cst_apply]
  dsimp only [Value.G1]
  rw [Value.lay1_0_eq]
  refine (congrArg₂ (· + ·) (s 0 _) (s 1 _)).trans ?_
  exact (zero_add _).symm.trans (congrArg₂ (· + ·) Ideal.ofBits_zero_f32.symm rfl)

end Cert.Kernel22Ideal.Sums

end
-- ==== Proof.Norm.lean ====
module

public import Idealize.ShloMosaic.Lib.Pipeline.ValueKit

/-! The layer norm of one row over the extended reals, as a function of the row, its length `N` and the offset `ε`. -/

@[expose] public section

noncomputable section

open Idealize.ShloMosaic

namespace Norm

variable {n : ℕ}

def mean (N : EReal) (f : Fin n → EReal) : EReal := Ideal.div (∑ k, f k) N

/-- One over the deviation. -/
def rstd (N ε : EReal) (f : Fin n → EReal) : EReal :=
  Ideal.rsqrt (mean N (fun k => (f k - mean N f) * (f k - mean N f)) + ε)

/-- The normalized row. -/
def hat (N ε : EReal) (f : Fin n → EReal) (b : Fin n) : EReal := (f b - mean N f) * rstd N ε f

/-- The variance of a row. -/
def var (N : EReal) (f : Fin n → EReal) : EReal := mean N (fun k => (f k - mean N f) * (f k - mean N f))

theorem rstd_eq (N ε : EReal) (f : Fin n → EReal) : rstd N ε f = Ideal.rsqrt (var N f + ε) := rfl

/-- 1024, 512 and the offset 1e-5, as the programs write them. -/
abbrev n1024 : EReal := Ideal.ofBits FTy.f32 1149239296#32
abbrev n512 : EReal := Ideal.ofBits FTy.f32 1140850688#32
abbrev eps : EReal := Ideal.ofBits FTy.f32 925353388#32

theorem n1024_eq : n1024 = ((1024 : ℝ) : EReal) := by
  simp [n1024, Ideal.ofBits, Ideal.ieee, -EReal.coe_mul]; norm_num
theorem n512_eq : n512 = ((512 : ℝ) : EReal) := by
  simp [n512, Ideal.ofBits, Ideal.ieee, -EReal.coe_mul]; norm_num
theorem two_eq : Ideal.ofBits FTy.f32 0x40000000#32 = ((2 : ℝ) : EReal) := by
  simp [Ideal.ofBits, Ideal.ieee, -EReal.coe_mul]; norm_num
theorem half_eq : Ideal.ofBits FTy.f32 0xBF000000#32 = ((-(1 / 2) : ℝ) : EReal) := by
  simp [Ideal.ofBits, Ideal.ieee, -EReal.coe_mul, -EReal.coe_neg]; norm_num
theorem eps_eq : ∃ e : ℝ, 0 < e ∧ eps = (e : EReal) := by
  refine ⟨10995116 * (2 ^ 40 : ℝ)⁻¹, by positivity, ?_⟩
  simp [eps, Ideal.ofBits, Ideal.ieee, -EReal.coe_mul]; try norm_num

/-! ## Rows of real numbers -/

/-- An extended real that is a real. -/
def IsReal (x : EReal) : Prop := ∃ r : ℝ, x = (r : EReal)

theorem IsReal.add {x y : EReal} : IsReal x → IsReal y → IsReal (x + y) := by
  rintro ⟨a, rfl⟩ ⟨b, rfl⟩; exact ⟨a + b, by norm_cast⟩
theorem IsReal.mul {x y : EReal} : IsReal x → IsReal y → IsReal (x * y) := by
  rintro ⟨a, rfl⟩ ⟨b, rfl⟩; exact ⟨a * b, by norm_cast⟩

theorem coe_sum {ι : Type} (s : Finset ι) (g : ι → ℝ) : ((∑ k ∈ s, g k : ℝ) : EReal) = ∑ k ∈ s, (g k : EReal) := by
  classical
  refine Finset.induction_on s (by simp) fun a t ha h => ?_
  rw [Finset.sum_insert ha, Finset.sum_insert ha, EReal.coe_add, h]

theorem IsReal.sum {ι : Type} (s : Finset ι) {g : ι → EReal} (h : ∀ k, IsReal (g k)) : IsReal (∑ k ∈ s, g k) := by
  choose φ hφ using h
  exact ⟨∑ k ∈ s, φ k, by rw [coe_sum]; exact Finset.sum_congr rfl fun k _ => hφ k⟩

/-- The root of two, as the programs write it. -/
theorem alpha_real : IsReal (Ideal.ofBits FTy.f32 0x3FB504F3#32) := by
  refine ⟨11863283 * (2 ^ 23 : ℝ)⁻¹, ?_⟩
  simp [Ideal.ofBits, Ideal.ieee, -EReal.coe_mul]; try norm_num

/-- A number whose absolute value is below infinity is real. -/
theorem isReal_of_abs_lt (x : EReal) (h : max x (-x) < ⊤) : IsReal x := by
  induction x with
  | bot => simp at h
  | top => simp at h
  | coe r => exact ⟨r, rfl⟩

variable {N ε : ℝ} (hN : N ≠ 0) (hε : 0 < ε) (φ υ : Fin n → ℝ)
include hN

theorem mean_coe : mean (N : EReal) (fun k => (φ k : EReal)) = (((∑ k, φ k) * (1 / N) : ℝ) : EReal) := by
  rw [mean, Ideal.div_coe hN, ← coe_sum, EReal.coe_mul]

/-- The mean, the variance and one over the deviation over the reals. -/
def mu (N : ℝ) (φ : Fin n → ℝ) : ℝ := (∑ k, φ k) * (1 / N)
def vr (N : ℝ) (φ : Fin n → ℝ) : ℝ := mu N fun k => (φ k - mu N φ) * (φ k - mu N φ)
def rs (N ε : ℝ) (φ : Fin n → ℝ) : ℝ := (Real.sqrt (vr N φ + ε))⁻¹

theorem mean_eq : mean (N : EReal) (fun k => (φ k : EReal)) = (mu N φ : EReal) := mean_coe hN φ

theorem var_eq : var (N : EReal) (fun k => (φ k : EReal)) = (vr N φ : EReal) := by
  rw [var, mean_eq hN]
  exact (congrArg (mean (N : EReal)) (funext fun k => by push_cast; rfl)).trans (mean_eq hN fun k => (φ k - mu N φ) * (φ k - mu N φ))

omit hN in
theorem vr_nonneg (h : 0 < N) : 0 ≤ vr N φ :=
  mul_nonneg (Finset.sum_nonneg fun k _ => mul_self_nonneg _) (by positivity)

include hε in
theorem rstd_coe (h : 0 < N) : rstd (N : EReal) (ε : EReal) (fun k => (φ k : EReal)) = (rs N ε φ : EReal) := by
  have hv : 0 < vr N φ + ε := add_pos_of_nonneg_of_pos (vr_nonneg φ h) hε
  rw [rstd_eq, var_eq hN, ← EReal.coe_add, Ideal.rsqrt_coe, if_neg hv.le.not_gt, if_neg hv.ne']
  rfl

omit hN
/-- The gradient of a row's norm, from the row and the gradient of the normalized row, as the kernel writes it. -/
def back (N ε : EReal) (f u : Fin n → EReal) (b : Fin n) : EReal :=
  rstd N ε f * (u b - mean N u - hat N ε f b * mean N (fun k => u k * hat N ε f k))

/-- The gradient of the row's variance, and of the row, as differentiation writes them. -/
def vjpVar (N ε : EReal) (f u : Fin n → EReal) : EReal :=
  Ideal.div ((∑ k, (f k - mean N f) * u k) * (Ideal.ofBits FTy.f32 0xBF000000#32 * Ideal.div (rstd N ε f) (var N f + ε))) N
def vjp (N ε : EReal) (f u : Fin n → EReal) (b : Fin n) : EReal :=
  u b * rstd N ε f + vjpVar N ε f u * (Ideal.ofBits FTy.f32 0x40000000#32 * (f b - mean N f))
    + Ideal.div ((∑ k, -(u k * rstd N ε f)) + ∑ k, -(vjpVar N ε f u * (Ideal.ofBits FTy.f32 0x40000000#32 * (f k - mean N f)))) N

/-- Of real rows as long as `N` says both are the same. -/
theorem back_eq_vjp_real (hn : (n : ℝ) = N) (h : 0 < N) (hε : 0 < ε) (b : Fin n) :
    back (N : EReal) (ε : EReal) (fun k => (φ k : EReal)) (fun k => (υ k : EReal)) b
      = vjp (N : EReal) (ε : EReal) (fun k => (φ k : EReal)) (fun k => (υ k : EReal)) b := by
  have hN : N ≠ 0 := h.ne'
  have hv : 0 < vr N φ + ε := add_pos_of_nonneg_of_pos (vr_nonneg φ h) hε
  set s := rs N ε φ with hs
  have hss : s * s * (vr N φ + ε) = 1 := by
    rw [hs, rs, ← mul_inv, Real.mul_self_sqrt hv.le, inv_mul_cancel₀ hv.ne']
  have e1 : vjpVar (N : EReal) (ε : EReal) (fun k => (φ k : EReal)) (fun k => (υ k : EReal))
      = (((∑ k, (φ k - mu N φ) * υ k) * (-(1 / 2) * (s * (1 / (vr N φ + ε)))) * (1 / N) : ℝ) : EReal) := by
    simp only [vjpVar]
    rw [half_eq, mean_eq hN, var_eq hN, rstd_coe hN hε φ h, ← EReal.coe_add, Ideal.div_coe hv.ne', Ideal.div_coe hN]
    push_cast [coe_sum]
    rfl
  have e0 : ∑ k, (φ k - mu N φ) = 0 := by
    rw [Finset.sum_sub_distrib, Finset.sum_const, Finset.card_univ, Fintype.card_fin, nsmul_eq_mul, hn, mu]
    field_simp; ring
  have e2 : vjp (N : EReal) (ε : EReal) (fun k => (φ k : EReal)) (fun k => (υ k : EReal)) b
      = ((υ b * s + (∑ k, (φ k - mu N φ) * υ k) * (-(1 / 2) * (s * (1 / (vr N φ + ε)))) * (1 / N) * (2 * (φ b - mu N φ))
        + (∑ k, -(υ k * s) + ∑ k, -((∑ k, (φ k - mu N φ) * υ k) * (-(1 / 2) * (s * (1 / (vr N φ + ε)))) * (1 / N) * (2 * (φ k - mu N φ)))) * (1 / N) : ℝ) : EReal) := by
    simp only [vjp]
    rw [e1, two_eq, mean_eq hN, rstd_coe hN hε φ h, Ideal.div_coe hN]
    push_cast [coe_sum]
    rfl
  have e3 : back (N : EReal) (ε : EReal) (fun k => (φ k : EReal)) (fun k => (υ k : EReal)) b
      = ((s * (υ b - mu N υ - (φ b - mu N φ) * s * mu N (fun k => υ k * ((φ k - mu N φ) * s))) : ℝ) : EReal) := by
    simp only [back, hat]
    rw [mean_eq hN, mean_eq hN, rstd_coe hN hε φ h]
    have : (fun k => (υ k : EReal) * (((φ k : EReal) - (mu N φ : EReal)) * (s : EReal))) = fun k => ((υ k * ((φ k - mu N φ) * s) : ℝ) : EReal) := funext fun k => by push_cast; rfl
    rw [← hs, this, mean_eq hN]
    push_cast
    rfl
  rw [e2, e3]
  congr 1
  have hi : 1 / (vr N φ + ε) = s * s := by field_simp; linarith
  rw [hi]
  generalize hA : ∑ k, (φ k - mu N φ) * υ k = A
  have a1 : mu N (fun k => υ k * ((φ k - mu N φ) * s)) = A * s * (1 / N) := by
    rw [mu, ← hA, Finset.sum_mul, Finset.sum_mul, Finset.sum_mul]; exact Finset.sum_congr rfl fun k _ => by ring
  have a2 : ∑ k, -(υ k * s) = -(∑ k, υ k) * s := by
    rw [neg_mul, Finset.sum_mul, Finset.sum_neg_distrib]
  have a3 : ∑ k, -(A * (-(1 / 2) * (s * (s * s))) * (1 / N) * (2 * (φ k - mu N φ))) = 0 := by
    rw [Finset.sum_neg_distrib, ← Finset.mul_sum, ← Finset.mul_sum, e0]; simp
  rw [a1, a2, a3, mu]
  ring

/-- Of rows of real numbers both gradients are the same. -/
theorem back_eq_vjp {N : EReal} (hN : N = ((n : ℝ) : EReal)) (h : 0 < n) (f u : Fin n → EReal) (hf : ∀ k, IsReal (f k)) (hu : ∀ k, IsReal (u k)) (b : Fin n) :
    back N eps f u b = vjp N eps f u b := by
  choose φ hφ using hf
  choose υ hυ using hu
  obtain ⟨e, he, hε⟩ := eps_eq
  rw [hN, hε, funext hφ, funext hυ]
  exact back_eq_vjp_real φ υ rfl (by exact_mod_cast h) he b

/-- The norm of a row of reals is real. -/
theorem IsReal.hat {N : EReal} (hN : N = ((n : ℝ) : EReal)) (h : 0 < n) (f : Fin n → EReal) (hf : ∀ k, IsReal (f k)) (b : Fin n) :
    IsReal (Norm.hat N eps f b) := by
  choose φ hφ using hf
  obtain ⟨e, he, hε⟩ := eps_eq
  have h1 : (0 : ℝ) < n := by exact_mod_cast h
  rw [hN, hε, funext hφ, Norm.hat, mean_eq h1.ne', rstd_coe h1.ne' he φ h1]
  exact ⟨(φ b - mu n φ) * rs n e φ, by push_cast; rfl⟩

/-! ## The gradient of `h / (1 + exp (-h))` -/

def logistic (h : EReal) : EReal := Ideal.div 1 (1 + Ideal.exp (-h))

/-- From the gradient `d` of the value, as the kernel writes it and as differentiation does. -/
def siluBack (d h : EReal) : EReal := d * logistic h * (1 + h * (1 - logistic h))
def siluVjp (d h : EReal) : EReal := d * logistic h + h * d * (logistic h * (1 - logistic h))

theorem IsReal.logistic {h : EReal} : IsReal h → IsReal (Norm.logistic h) := by
  rintro ⟨r, rfl⟩
  have hp : 1 + Real.exp (-r) ≠ 0 := by positivity
  refine ⟨1 * (1 / (1 + Real.exp (-r))), ?_⟩
  rw [Norm.logistic, ← EReal.coe_neg, Ideal.exp_coe, ← EReal.coe_one, ← EReal.coe_add, Ideal.div_coe hp]
  push_cast
  rfl

theorem siluBack_eq {d h : EReal} (hd : IsReal d) (hh : IsReal h) : siluBack d h = siluVjp d h := by
  obtain ⟨s, hs⟩ := hh.logistic
  obtain ⟨a, rfl⟩ := hd
  obtain ⟨b, rfl⟩ := hh
  rw [siluBack, siluVjp, hs]
  norm_cast
  ring

theorem IsReal.siluVjp {d h : EReal} (hd : IsReal d) (hh : IsReal h) : IsReal (Norm.siluVjp d h) := by
  obtain ⟨s, hs⟩ := hh.logistic
  obtain ⟨a, rfl⟩ := hd
  obtain ⟨b, rfl⟩ := hh
  rw [Norm.siluVjp, hs]
  exact ⟨a * s + b * a * (s * (1 - s)), by norm_cast⟩

end Norm

end
-- ==== Proof.LossGrad.lean ====
module

public import proofs.«01_k».proof.Proof.Gen.Kernel23Ideal.Value
public import proofs.«01_k».proof.Proof.Gen.Reference23Ideal.Run
public import proofs.«01_k».proof.Proof.Gen.Reference23Ideal.Read
public import proofs.«01_k».proof.Proof.Norm
public import proofs.«01_k».proof.Proof.Tiles
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

/-! The loss of a device's examples, in eight rows, and its gradient.  An example has seventeen blocks of 128 rows, the
first of them the meta tokens'. -/

namespace Cert.Kernel23Ideal.Loss

open Cert.Kernel23Ideal Cert.Kernel23Ideal.Gen

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val / 17, t.val % 17 - 1, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)

open Cert.Reference23Ideal.Read

/-! ## The reference -/

/-- The scale of the gradient. -/
theorem scale (e : EReal) : Ideal.div (Ideal.ofBits .f32 0x3F000000#32 * Ideal.ofBits .f32 0x3F800000#32) (Ideal.ofBits .f32 0x44800000#32) * (Ideal.ofBits .f32 0x40000000#32 * e)
    = e * Ideal.ofBits .f32 0x3A800000#32 := by
  have h : Ideal.ofBits .f32 0x3F000000#32 = ((1 / 2 : ℝ) : EReal) := by simp [Ideal.ofBits, Ideal.ieee, -EReal.coe_mul]; norm_num
  have o : Ideal.ofBits .f32 0x3F800000#32 = ((1 : ℝ) : EReal) := by simp [Ideal.ofBits, Ideal.ieee, -EReal.coe_mul, -EReal.coe_one]; norm_num
  have d : Ideal.ofBits .f32 0x3A800000#32 = ((1 / 1024 : ℝ) : EReal) := by simp [Ideal.ofBits, Ideal.ieee, -EReal.coe_mul]; norm_num
  have q : Ideal.div (((1 / 2 : ℝ) : EReal) * ((1 : ℝ) : EReal)) ((1024 : ℝ) : EReal) = ((1 / 2048 : ℝ) : EReal) := by
    rw [Ideal.div_coe (y := (1024 : ℝ)) (by norm_num), ← EReal.coe_mul, ← EReal.coe_mul]
    norm_num
  rw [h, o, d, Norm.two_eq, show Ideal.ofBits .f32 0x44800000#32 = _ from Norm.n1024_eq, q, ← mul_assoc, ← EReal.coe_mul, mul_comm]
  norm_num

/-- The rows of the meta tokens' blocks have no gradient. -/
theorem grad_meta (x0 x1) (i : S4352x1024.Idx) (h : (i 0).val % 2176 < 128) : val_main_v18 (F := Ideal) x0 x1 i = 0 := by
  have h1 : (i 1).val < 1024 := (i 1).isLt
  rw [val_main_v18_apply]
  unfold val_main_v17
  refine (pad_apply_of_not_inside _ _ _ _ _ _ _ _ (1 : Fin 3) fun a => ?_).trans Ideal.ofBits_zero_f32
  have a : 128 ≤ ((i 0).val * 1024 + (i 1).val) / 1024 % 2176 := a.1
  omega

/-- The other rows have the scaled error. -/
theorem grad_row (x0 x1) (i : S4352x1024.Idx) (k : Cert.Reference23Ideal.S2x2048x1024.Idx) (h0 : (i 0).val = (k 0).val * 2176 + (128 + (k 1).val)) (h1 : (i 1).val = (k 2).val) :
    val_main_v18 (F := Ideal) x0 x1 i = val_main_v21 (F := Ideal) x0 x1 k * Ideal.ofBits .f32 0x3A800000#32 := by
  have k0 : (k 0).val < 2 := (k 0).isLt
  have k1 : (k 1).val < 2048 := (k 1).isLt
  have k2 : (k 2).val < 1024 := (k 2).isLt
  rw [val_main_v18_apply]
  unfold val_main_v17
  refine (pad_apply_of_inside _ _ _ _ _ _ _ _ k fun a => ?_).trans (scale _)
  match a with
  | 0 => show ((i 0).val * 1024 + (i 1).val) / 2228224 = 0 + (k 0).val * (0 + 1); omega
  | 1 => show ((i 0).val * 1024 + (i 1).val) / 1024 % 2176 = 128 + (k 1).val * (0 + 1); omega
  | 2 => show ((i 0).val * 1024 + (i 1).val) % 1024 = 0 + (k 2).val * (0 + 1); omega

/-! ## The kernel -/

/-- Where row `x` of the block of point `t` lies among the rows behind the meta tokens. -/
abbrev at_ (t : Fin cfg0.N) (h : ¬t.val % 17 = 0) (x : S128x1024.Idx) : Cert.Reference23Ideal.S2x2048x1024.Idx :=
  ix3 ⟨t.val / 17, by have : t.val < 34 := t.isLt; omega⟩ ⟨(t.val % 17 - 1) * 128 + (x 0).val, by have : (x 0).val < 128 := (x 0).isLt; omega⟩ (x 1)

theorem at_0 (t : Fin cfg0.N) (h : ¬t.val % 17 = 0) (x : S128x1024.Idx) : (at_ t h x 0).val = t.val / 17 := rfl
theorem at_1 (t : Fin cfg0.N) (h : ¬t.val % 17 = 0) (x : S128x1024.Idx) : (at_ t h x 1).val = (t.val % 17 - 1) * 128 + (x 0).val := rfl
theorem at_2 (t : Fin cfg0.N) (h : ¬t.val % 17 = 0) (x : S128x1024.Idx) : (at_ t h x 2).val = (x 1).val := rfl

/-- The error. -/
theorem error (c : Dev nD) (t : Fin cfg0.N) (h : ¬t.val % 17 = 0) (x : S128x1024.Idx) :
    k0_pay3 (F := Ideal) (iblk m c 0 t) (iblk m c 1 t) x = val_main_v21 (F := Ideal) (m ((c : Thread nD τ).loc main_arg0)) (m ((c : Thread nD τ).loc main_arg1)) (at_ t h x) := by
  have h1 : (x 1).val < 1024 := (x 1).isLt
  rw [val_main_v21_apply, val_main_v20_apply, val_main_v19_apply]
  pointwise [k0_pay3]
  refine congrArg₂ (· - ·) ?_ ?_
  · blk_point [iblk, V, idx0 t, at_0, at_1, at_2] <;> rw [at_0, at_1, at_2] <;> omega
  · blk_point [iblk, V, idx1 t, at_0, at_1, at_2] <;> first | rw [at_0]; rfl | rw [at_1] | rw [at_2]

/-- What a point leaves of the gradient. -/
theorem left (c : Dev nD) (t : Fin cfg0.N) (y : S128x1024.Idx) : (outsAt0 m c t.val t.isLt).1 y
    = if h : t.val % 17 = 0 then 0 else val_main_v21 (F := Ideal) (m ((c : Thread nD τ).loc main_arg0)) (m ((c : Thread nD τ).loc main_arg1)) (at_ t h y) * Ideal.ofBits .f32 0x3A800000#32 := by
  have ht : t.val < 34 := t.isLt
  by_cases h : t.val % 17 = 0
  · rw [dif_pos h]
    by_cases h0 : t.val % 34 = 0
    · rw [outsAt0_A m c t h0 h (by omega)]; frame_out
      exact Ideal.ofBits_zero_f32
    · rw [outsAt0_C m c t h0 h (by omega)]; frame_out
      exact Ideal.ofBits_zero_f32
  · rw [dif_neg h, outsAt0_B m c t (by omega) h (by omega), ← error]; frame_out
    rfl

/-- The gradient. -/
theorem final2 (c : Dev nD) : (dats (F := Ideal) m 0 c).arrAt 2 cfg0.N
    = val_main_v18 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (left m c t y).trans ?_
  have ht : t.val < 34 := t.isLt
  have hy : (y 0).val < 128 := (y 0).isLt
  split
  next h => exact (grad_meta _ _ _ (by blk_simp [idx2 t]; omega)).symm
  next h => exact (grad_row _ _ _ (at_ t h y) (by blk_simp [idx2 t]; rw [at_0, at_1]; omega) (by blk_simp [idx2 t]; rw [at_2])).symm

/-! ## The sums of squares -/

/-- The squares of the errors of one block, summed in eight rows. -/
def term (c : Dev nD) (t : Fin cfg0.N) (y : S8x1024.Idx) : EReal :=
  if h : t.val % 17 = 0 then 0 else ∑ p : Fin 16, val_main_v22 (F := Ideal) (m ((c : Thread nD τ).loc main_arg0)) (m ((c : Thread nD τ).loc main_arg1))
    (at_ t h (ix2 ⟨p.val * 8 + (y 0).val, by have : (y 0).val < 8 := (y 0).isLt; omega⟩ (y 1)))

/-- The blocks of the meta tokens have none. -/
theorem term_meta (c : Dev nD) (t : Fin cfg0.N) (h : t.val % 17 = 0) (y : S8x1024.Idx) : term m c t y = 0 := by rw [term, dif_pos h]

/-- One block's step. -/
theorem step (c : Dev nD) (t : Fin cfg0.N) (h : ¬t.val % 17 = 0) (o : Vec Ideal S8x1024 .f32) (y : S8x1024.Idx) :
    k0_pay5 (F := Ideal) (iblk m c 0 t) (iblk m c 1 t) o y = o y + term m c t y := by
  rw [term, dif_neg h]
  simp only [val_main_v22_apply, ← error]
  unfold k0_pay5
  generalize k0_pay3 (F := Ideal) (iblk m c 0 t) (iblk m c 1 t) = e
  pointwise []

/-- The squares in eight rows, of the reference. -/
abbrev rows (c : Dev nD) (y : S8x1024.Idx) (k : Fin 512) : EReal :=
  val_main_v23 (F := Ideal) (m ((c : Thread nD τ).loc main_arg0)) (m ((c : Thread nD τ).loc main_arg1)) (idx_main_v24 y k)

/-- One block's squares among all. -/
theorem term_at (c : Dev nD) (b : Fin 2) (j : Fin 16) (h : b.val * 17 + (j.val + 1) < cfg0.N) (y : S8x1024.Idx) :
    term m c ⟨b.val * 17 + (j.val + 1), h⟩ y = ∑ p : Fin 16, rows m c y ⟨b.val * 256 + (j.val * 16 + p.val), by omega⟩ := by
  have hn : ¬(b.val * 17 + (j.val + 1)) % 17 = 0 := by omega
  have h0 : (y 0).val < 8 := (y 0).isLt
  have h1 : (y 1).val < 1024 := (y 1).isLt
  rw [term, dif_neg hn]
  refine Finset.sum_congr rfl fun p _ => ?_
  rw [rows, val_main_v23_apply]
  refine congrArg _ (funext fun a => Fin.ext ?_)
  match a with
  | 0 => show (b.val * 17 + (j.val + 1)) / 17 = (((b.val * 256 + (j.val * 16 + p.val)) * 8 + (y 0).val) * 1024 + (y 1).val) / 2097152; omega
  | 1 => show ((b.val * 17 + (j.val + 1)) % 17 - 1) * 128 + (p.val * 8 + (y 0).val) = (((b.val * 256 + (j.val * 16 + p.val)) * 8 + (y 0).val) * 1024 + (y 1).val) / 1024 % 2048; omega
  | 2 => show (y 1).val = (((b.val * 256 + (j.val * 16 + p.val)) * 8 + (y 0).val) * 1024 + (y 1).val) % 1024; omega

/-- All blocks' squares. -/
theorem terms (c : Dev nD) (y : S8x1024.Idx) : ∑ t : Fin cfg0.N, term m c t y = ∑ k : Fin 512, rows m c y k := by
  refine (Fin.sum_mul_add_congr (S := 2) (n := 17) (L := 34) (F := fun b j => term m c ⟨b.val * 17 + j.val, by show _ < 34; omega⟩ y) (fun _ _ _ => rfl) rfl).symm.trans
    (Eq.trans (Finset.sum_congr rfl fun b _ => ?_)
      (Fin.sum_mul_add_congr (S := 2) (n := 256) (L := 512) (F := fun b q => rows m c y ⟨b.val * 256 + q.val, by omega⟩) (fun _ _ _ => rfl) rfl))
  rw [Fin.sum_univ_succ]
  refine (congrArg (· + _) (term_meta m c _ (show (b.val * 17 + 0) % 17 = 0 by omega) y)).trans ((zero_add _).trans ?_)
  exact (Finset.sum_congr rfl fun j _ => term_at m c b j _ y).trans
    (Fin.sum_mul_add_congr (S := 16) (n := 16) (L := 256) (f := fun q => rows m c y ⟨b.val * 256 + q.val, by omega⟩) (fun _ _ _ => rfl) rfl)

theorem total (c : Dev nD) (y : S8x1024.Idx) : ∑ t : Fin cfg0.N, term m c t y
    = val_main_v24 (F := Ideal) (m ((c : Thread nD τ).loc main_arg0)) (m ((c : Thread nD τ).loc main_arg1)) y := by
  rw [terms, val_main_v24_apply, val_main_cst_8_apply]
  exact (zero_add _).symm.trans (congrArg₂ (· + ·) Ideal.ofBits_zero_f32.symm rfl)

theorem last (t : Fin cfg0.N) (h : t.val % 34 = 33) : t.val + 1 = cfg0.N := by
  have h2 : t.val < 34 := t.isLt
  show t.val + 1 = 34
  omega

/-- The sums. -/
theorem final3 (c : Dev nD) : (dats (F := Ideal) m 0 c).arrAt 3 cfg0.N
    = val_main_v24 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  refine (Pipeline.eq_sum_fin_of_reset_step_apply_last (fun n (h : n < cfg0.N) => (outsAt0 m c n h).2) 34 (fun _ => 0) (term m c)
    (fun t hc y => ?_) (fun t hc y => ?_) (by decide +kernel) t (last t ((flush0_3 t).mp hf)) y).trans ((zero_add _).trans ?_)
  · have h : t.val % 17 = 0 := by omega
    rw [outsAt0_A m c t hc h (by omega), term_meta m c t h, add_zero]; frame_out
    exact Ideal.ofBits_zero_f32
  · by_cases h : t.val % 17 = 0
    · rw [outsAt0_C m c t hc h (by omega), term_meta m c t h, add_zero]; frame_out
      rfl
    · rw [outsAt0_B m c t hc h (by omega)]; frame_out
      exact step m c t h _ y
  · refine (total m c y).trans (congrArg _ (funext fun a => Fin.ext ?_))
    match a with | 0 => blk_simp [idx3 t] | 1 => blk_simp [idx3 t]

end Cert.Kernel23Ideal.Loss

end
-- ==== Proof.Embed.lean ====
module

public import proofs.«01_k».proof.Proof.Gen.Kernel24Ideal.Value
public import proofs.«01_k».proof.Proof.Gen.Reference24Ideal.Run
public import proofs.«01_k».proof.Proof.Gen.Reference24Ideal.Read
public import proofs.«01_k».proof.Proof.Norm
public import proofs.«01_k».proof.Proof.Matrix
public import proofs.«01_k».proof.Proof.Tiles
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

/-! The rows of the examples behind the meta tokens, and their norm. -/

namespace Cert.Kernel24Ideal.Embed

open Cert.Kernel24Ideal Cert.Kernel24Ideal.Gen

variable (m : (ℓ : Loc nD τ sig) → Buf (Elt Ideal) ℓ)

theorem idx0 : ∀ t : Fin cfg0.N, win0_0.index t = ![t.val / 17, t.val % 17 - 1, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

open Cert.Reference24Ideal.Read

/-- The rows, of the reference. -/
abbrev rowsR (c : Dev nD) : S4352x1024.Idx → EReal := val_main_v4 (F := Ideal) (m ((c : Thread nD τ).loc main_arg0)) (m ((c : Thread nD τ).loc main_arg1))

/-- The three pieces the rows of the examples are put together of. -/
abbrev parts (c : Dev nD) : List ((s : Shape) × (s.Idx → EReal)) :=
  [⟨Cert.Reference24Ideal.S2x112x1024, val_main_v2 (F := Ideal)⟩, ⟨Cert.Reference24Ideal.S2x16x1024, val_main_v1 (F := Ideal) (m ((c : Thread nD τ).loc main_arg1))⟩,
    ⟨Cert.Reference24Ideal.S2x2048x1024, m ((c : Thread nD τ).loc main_arg0)⟩]

/-- A row of one of them. -/
theorem rows_at (c : Dev nD) (i : S4352x1024.Idx) {s : Shape} (x : s.Idx → EReal) (n : ℕ) (hn : n < (parts m c).length) (hx : (parts m c)[n] = ⟨s, x⟩) (hr : s.rank = 3) (pre : ℕ)
    (hpre : ((((parts m c).take n).map (·.1)).map fun s => if h : s.rank = 3 then s.size ((1 : Fin 3).cast h.symm) else 0).sum = pre) (k : s.Idx)
    (h0 : (i 0).val = (k (Fin.cast hr.symm 0)).val * 2176 + (pre + (k (Fin.cast hr.symm 1)).val)) (h1 : (i 1).val = (k (Fin.cast hr.symm 2)).val) (hb : pre + (k (Fin.cast hr.symm 1)).val < 2176) :
    rowsR m c i = x k := by
  have i0 : (i 0).val < 4352 := (i 0).isLt
  have i1 : (i 1).val < 1024 := (i 1).isLt
  rw [rowsR, val_main_v4_apply]
  unfold val_main_v3
  refine concatenate_apply_piece _ _ _ _ n hn s x hx hr pre hpre k (fun b hb => ?_) ?_
  · obtain ⟨b, rfl⟩ : ∃ b', b = Fin.cast hr.symm b' := ⟨Fin.cast hr b, rfl⟩
    match b with
    | 0 => show _ = ((i 0).val * 1024 + (i 1).val) / 2228224; omega
    | 1 => exact absurd rfl hb
    | 2 => show _ = ((i 0).val * 1024 + (i 1).val) % 1024; omega
  · show _ = ((i 0).val * 1024 + (i 1).val) / 1024 % 2176
    show pre + (k (Fin.cast hr.symm 1)).val = _
    omega

/-- The rows of a block of the meta tokens, in two pieces. -/
theorem pieces (c : Dev nD) (t : Fin cfg0.N) (h : t.val % 17 = 0) (y : S128x1024.Idx) (i : S4352x1024.Idx) (h0 : (i 0).val = t.val * 128 + (y 0).val) (h1 : (i 1).val = (y 1).val) :
    View.canon [⟨Rect.unit (s := S128x1024) ![112, 0] ![16, 1024] inb_S128x1024_S16x1024_112_0, iblk m c 1 t⟩,
      ⟨Rect.unit (s := S128x1024) ![0, 0] ![112, 1024] inb_S128x1024_S112x1024_0_0, k0_pay1 (F := Ideal)⟩] y = rowsR m c i := by
  have ht : t.val < 34 := t.isLt
  have hy : (y 0).val < 128 := (y 0).isLt
  canon_tiles x h using (View.cover_of_tiledBy _ ![16, 1024] (by sl_kernel_rfl) y)
  · have hx : (x 0).val < 16 := x0_lt
    refine Eq.trans ?_ (rows_at m c i (val_main_v1 (F := Ideal) (m ((c : Thread nD τ).loc main_arg1))) 1 (show 1 < 3 by decide) rfl rfl 112 rfl (ix3 ⟨t.val / 17, by omega⟩ ⟨(x 0).val, hx⟩ ⟨(x 1).val, x1_lt⟩)
      (by show (i 0).val = t.val / 17 * 2176 + (112 + (x 0).val); omega) (by show (i 1).val = (x 1).val; omega) (by show 112 + (x 0).val < 2176; omega)).symm
    pointwise [val_main_v0, val_main_v1]
    blk_point [iblk, V, idx1 t]
  · exact (rows_at m c i (val_main_v2 (F := Ideal)) 0 (show 0 < 3 by decide) rfl rfl 0 rfl (ix3 ⟨t.val / 17, by omega⟩ ⟨(x 0).val, x0_lt⟩ ⟨(x 1).val, x1_lt⟩)
      (by show (i 0).val = t.val / 17 * 2176 + (0 + (x 0).val); omega) (by show (i 1).val = (x 1).val; omega) (by show 0 + (x 0).val < 2176; omega)).symm

/-- The padding and the meta tokens. -/
theorem left_a (c : Dev nD) (t : Fin cfg0.N) (h : t.val % 17 = 0) (y : S128x1024.Idx) (i : S4352x1024.Idx) (h0 : (i 0).val = t.val * 128 + (y 0).val) (h1 : (i 1).val = (y 1).val) :
    (outsAt0 m c t.val t.isLt).1 y = rowsR m c i := by
  rw [outsAt0_A m c t h (by omega)]; frame_out
  exact pieces m c t h y i h0 h1

/-- The rows of the sequence. -/
theorem left_b (c : Dev nD) (t : Fin cfg0.N) (h : ¬t.val % 17 = 0) (y : S128x1024.Idx) (i : S4352x1024.Idx) (h0 : (i 0).val = t.val * 128 + (y 0).val) (h1 : (i 1).val = (y 1).val) :
    (outsAt0 m c t.val t.isLt).1 y = rowsR m c i := by
  have ht : t.val < 34 := t.isLt
  have hy : (y 0).val < 128 := (y 0).isLt
  rw [outsAt0_B m c t h (by omega)]; frame_out
  refine Eq.trans ?_ (rows_at m c i (m ((c : Thread nD τ).loc main_arg0)) 2 (show 2 < 3 by decide) rfl rfl 128 rfl (ix3 ⟨t.val / 17, by omega⟩ ⟨(t.val % 17 - 1) * 128 + (y 0).val, by omega⟩ (y 1)) (by show (i 0).val = t.val / 17 * 2176 + (128 + ((t.val % 17 - 1) * 128 + (y 0).val)); omega) h1 (by show 128 + ((t.val % 17 - 1) * 128 + (y 0).val) < 2176; omega)).symm
  pointwise [k0_pay2]
  blk_point [iblk, V, idx0 t]

/-- The norm is of the rows a point leaves. -/
theorem norm_a (c : Dev nD) (t : Fin cfg0.N) :
    (outsAt0 m c t.val t.isLt).2 = (k0_pay3 (F := Ideal) (outsAt0 m c t.val t.isLt).1 (iblk m c 2 t) (iblk m c 3 t), k0_pay4 (F := Ideal) (outsAt0 m c t.val t.isLt).1 (iblk m c 2 t) (iblk m c 3 t)) := by
  by_cases h : t.val % 17 = 0
  · rw [outsAt0_A m c t h (by omega)]
    frame_out
    have e := funext fun y => Tiles.readCov_apply (S := S128x1024) (ms0_4 t).view [⟨Rect.unit (s := S128x1024) ![112, 0] ![16, 1024] inb_S128x1024_S16x1024_112_0, iblk m c 1 t⟩,
      ⟨Rect.unit (s := S128x1024) ![0, 0] ![112, 1024] inb_S128x1024_S112x1024_0_0, k0_pay1 (F := Ideal)⟩] ![0, 0] ![128, 1024] inb_S128x1024_S128x1024_0_0 y y (by intro a; match a with | 0 => exact (Nat.zero_add _).symm | 1 => exact (Nat.zero_add _).symm)
    exact congrArg (fun p => (k0_pay3 (F := Ideal) p (iblk m c 2 t) (iblk m c 3 t), k0_pay4 (F := Ideal) p (iblk m c 2 t) (iblk m c 3 t))) e
  · rw [outsAt0_B m c t h (by omega)]
    frame_out

theorem norm_R (x0 x1) (x2 x3) (a : Fin 4352) (b : Fin 1024) :
    val_main_v28 (F := Ideal) x0 x1 x2 x3 (ix2 a b) = Norm.hat Norm.n1024 Norm.eps (fun k => val_main_v4 (F := Ideal) x0 x1 (ix2 a k)) b * x2 (ix1 b) + x3 (ix1 b) := by
  pointwise [val_main_cst_0, val_main_v5, val_main_v6, val_main_v7, val_main_cst_1, val_main_v8, val_main_v9, val_main_v10, val_main_v11, val_main_v12, val_main_cst_2, val_main_v13, val_main_v14, val_main_cst_3, val_main_v15, val_main_v16, val_main_v17, val_main_v18, val_main_cst_4, val_main_v19, val_main_v20, val_main_v21, val_main_v22, val_main_v23, val_main_v24, val_main_v25, val_main_v26, val_main_v27, val_main_v28]
  rfl

theorem norm_K (p) (g b : Vec Ideal S1x1024 .f32) (x : Fin 128) (y : Fin 1024) :
    k0_pay3 (F := Ideal) p g b (ix2 x y) = Norm.hat Norm.n1024 Norm.eps (fun k => p (ix2 x k)) y * g (ix2 0 y) + b (ix2 0 y) := by
  pointwise [k0_pay3]
  rfl

theorem left (c : Dev nD) (t : Fin cfg0.N) (y : S128x1024.Idx) (i : S4352x1024.Idx) (h0 : (i 0).val = t.val * 128 + (y 0).val) (h1 : (i 1).val = (y 1).val) :
    (outsAt0 m c t.val t.isLt).1 y = rowsR m c i := by
  by_cases h : t.val % 17 = 0
  · exact left_a m c t h y i h0 h1
  · exact left_b m c t h y i h0 h1

/-- The norm, of the reference. -/
abbrev normR (c : Dev nD) : S4352x1024.Idx → EReal := val_main_v28 (F := Ideal) (m ((c : Thread nD τ).loc main_arg0)) (m ((c : Thread nD τ).loc main_arg1)) (m ((c : Thread nD τ).loc main_arg2)) (m ((c : Thread nD τ).loc main_arg3))

theorem gain (c : Dev nD) (t : Fin cfg0.N) (b : Fin 1024) : iblk m c 2 t (ix2 (n0 := 1) (n1 := 1024) 0 b) = m ((c : Thread nD τ).loc main_arg2) (ix1 b) := by
  blk_point [iblk, V, idx2 t]

theorem shift (c : Dev nD) (t : Fin cfg0.N) (b : Fin 1024) : iblk m c 3 t (ix2 (n0 := 1) (n1 := 1024) 0 b) = m ((c : Thread nD τ).loc main_arg3) (ix1 b) := by
  blk_point [iblk, V, idx3 t]

theorem norm_at (c : Dev nD) (t : Fin cfg0.N) (x : S128x1024.Idx) (i : S4352x1024.Idx) (h0 : (i 0).val = t.val * 128 + (x 0).val) (h1 : (i 1).val = (x 1).val) :
    k0_pay3 (F := Ideal) (outsAt0 m c t.val t.isLt).1 (iblk m c 2 t) (iblk m c 3 t) x = normR m c i := by
  obtain ⟨a, b, rfl⟩ : ∃ a b, x = ix2 a b := ⟨x 0, x 1, eq_ix2 x⟩
  obtain ⟨p, q, rfl⟩ : ∃ p q, i = ix2 p q := ⟨i 0, i 1, eq_ix2 i⟩
  obtain rfl : q = b := Fin.ext h1
  rw [norm_K, normR, norm_R, gain m c t, shift m c t]
  congr 3
  exact funext fun k => left m c t _ _ h0 rfl

/-- The rows, -/
theorem final4 (c : Dev nD) : (dats (F := Ideal) m 0 c).arrAt 4 cfg0.N = rowsR m c := by
  refine (dats m 0 c).arrAt_eq_of_covers 4 _ (by decide +kernel) fun t hf y => ?_
  blk_simp
  rw [after0_4]
  exact left m c t y _ (by blk_simp [idx4 t]) (by blk_simp [idx4 t])

/-- their norm -/
theorem final5 (c : Dev nD) : (dats (F := Ideal) m 0 c).arrAt 5 cfg0.N = normR m c := by
  refine (dats m 0 c).arrAt_eq_of_covers 5 _ (by decide +kernel) fun t hf y => ?_
  blk_simp
  rw [after0_5, norm_a]
  exact norm_at m c t y _ (by blk_simp [idx5 t]) (by blk_simp [idx5 t])

/-- and the narrowed norm. -/
theorem final6 (c : Dev nD) : (dats (F := Ideal) m 0 c).arrAt 6 cfg0.N
    = val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, norm_a]
  exact norm_at m c t y _ (by blk_simp [idx6 t]) (by blk_simp [idx6 t])

end Cert.Kernel24Ideal.Embed

end
-- ==== Proof.Finite.lean ====
module

public import proofs.«01_k».proof.Pre_finite2
public import proofs.«01_k».proof.Pre_finite3
public import proofs.«01_k».proof.Pre_finite4
public import Idealize.ShloMosaic.Lib.Pipeline.ValueKit
public import proofs.«01_k».proof.Proof.Norm

/-! The preconditions: their side conditions, and what an array of ones says of the array tested. -/

@[expose] public section

noncomputable section

open Idealize.ShloMosaic

namespace Finite

instance facts2 : Cert.Pre_finite2.Facts where
  bitsLt_bf16_f32 := by decide
  bcast_S_S4352x1024 := by decide
  bcast_S_S4x512x256 := by decide
  bcast_S_S4352x512 := by decide
  bcast_S_S1x512 := by decide

instance facts3 : Cert.Pre_finite3.Facts where
  bitsLt_bf16_f32 := by decide
  bcast_S_S4352x1024 := by decide
  bcast_S_S1x1024 := by decide
  bcast_S_S2x4352x2816 := by decide
  bcast_S_S4x1024x1408 := by decide

instance facts4 : Cert.Pre_finite4.Facts where
  bitsLt_bf16_f32 := by decide
  bcast_S_S4352x1024 := by decide
  bcast_S_S1x1024 := by decide
  bcast_S_S4352x2048 := by decide
  bcast_S_S4352x768 := by decide
  bcast_S_S1024x3840 := by decide

theorem inf_eq : Ideal.ofBits FTy.f32 0x7F800000#32 = ⊤ := by
  simp [Ideal.ofBits, Ideal.ieee]

/-- Where the test of `|x| < ∞` answers one, the entry is a real number. -/
theorem isReal {S : Shape} (x : FVec Ideal S .f32) (y : FVec Ideal S .f32) (hy : ∀ i, y i = Ideal.ofBits FTy.f32 0x7F800000#32)
    (h : cmpf .olt (Host.absf x) y = fun _ => 1#1) (i : S.Idx) : Norm.IsReal (x i) := by
  have h1 : Ideal.cmp CmpFPredicate.olt (max (x i) (-(x i))) (y i) = 1#1 := congrFun h i
  rw [hy, inf_eq] at h1
  refine Norm.isReal_of_abs_lt _ ?_
  by_contra hc
  have h2 : Ideal.cmp CmpFPredicate.olt (max (x i) (-(x i))) ⊤ = 0#1 := by
    unfold Ideal.cmp; dsimp only; rw [decide_eq_false hc]; rfl
  rw [h2] at h1
  exact absurd h1 (by decide)

end Finite

end
-- ==== Proof.ConvBack.lean ====
module

public import proofs.«01_k».proof.Proof.Gen.Kernel2Ideal.Value
public import proofs.«01_k».proof.Proof.Gen.Reference2Ideal.Run
public import proofs.«01_k».proof.Proof.Gen.Reference2Ideal.Read
public import proofs.«01_k».proof.Defs
public import proofs.«01_k».proof.Proof.Norm
public import proofs.«01_k».proof.Proof.Finite
public import proofs.«01_k».proof.Proof.Tiles

@[expose] public section

set_option maxRecDepth 16384

noncomputable section

open Idealize.ShloMosaic Idealize.ShloMosaic.TcCoe Idealize.SL.Sem
open Idealize.ShloMosaic.Pipeline (Dat)

/-! The convolution branch's output product, activation and norm backwards. -/

namespace Cert.Kernel2Ideal.ConvBack

open Cert.Kernel2Ideal Cert.Kernel2Ideal.Gen

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

open Cert.Reference2Ideal.Read

/-! ## One row of the reference and of the kernel -/

theorem hat_R (x2) (a : Fin 4352) (b : Fin 512) :
    val_main_v28 (F := Ideal) x2 (ix2 a b) = Norm.hat Norm.n512 Norm.eps (fun k => x2 (ix2 a k)) b := by
  pointwise [val_main_cst, val_main_v3, val_main_v4, val_main_v5, val_main_cst_0, val_main_cst_1, val_main_v6, val_main_v7, val_main_v8, val_main_v9, val_main_v10, val_main_v11, val_main_v12, val_main_cst_3, val_main_cst_4, val_main_cst_5, val_main_cst_6, val_main_v15, val_main_v16, val_main_v17, val_main_v18, val_main_v19, val_main_v20, val_main_v21, val_main_v22, val_main_v23, val_main_v24, val_main_v25, val_main_v26, val_main_v27, val_main_v28]
  rfl

theorem hat_K (r) (a : Fin 544) (b : Fin 512) :
    k0_pay12 (F := Ideal) (k0_pay9 r) (k0_pay10 r) (ix2 a b) = Norm.hat Norm.n512 Norm.eps (fun k => r (ix2 a k)) b := by
  pointwise [k0_pay12, k0_pay11, k0_pay10, k0_pay9]
  rfl

theorem dz_K (d r) (g b : Vec Ideal S1x512 .f32) (a : Fin 544) (q : Fin 512) :
    k0_pay13 (F := Ideal) d (k0_pay9 r) (k0_pay10 r) g b (ix2 a q)
      = Norm.siluBack (d (ix2 a q)) (Norm.hat Norm.n512 Norm.eps (fun k => r (ix2 a k)) q * g (ix2 0 q) + b (ix2 0 q)) := by
  rw [← hat_K]
  unfold k0_pay13
  generalize k0_pay12 (F := Ideal) (k0_pay9 r) (k0_pay10 r) = h
  pointwise [Norm.siluBack, Norm.logistic]
  simp only [zero_sub]

theorem dz_R (x0 x1 x2 x3 x4) (a : Fin 4352) (q : Fin 512) :
    val_main_v37 (F := Ideal) x0 x1 x2 x3 x4 (ix2 a q)
      = Norm.siluVjp (val_main_v36 (F := Ideal) x0 x1 (ix2 a q)) (Norm.hat Norm.n512 Norm.eps (fun k => x2 (ix2 a k)) q * x3 (ix2 0 q) + x4 (ix2 0 q)) := by
  rw [← hat_R]
  pointwise [Norm.siluVjp, Norm.logistic, val_main_v29, val_main_v30, val_main_v31, val_main_v32, val_main_call0_v0, val_main_call0_v1, val_main_call0_cst, val_main_call0_v2, val_main_call0_v3, val_main_call0_cst_0, val_main_call0_v4, val_main_v33_2, val_main_call0_cst_1, val_main_call0_v6, val_main_call0_v7, val_main_v33_1, val_main_call1_v0, val_main_call1_v1, val_main_call1_v2, val_main_v37]

theorem back_K (d r) (g b : Vec Ideal S1x512 .f32) (a : Fin 544) (q : Fin 512) :
    k0_pay1 (F := Ideal) (k0_pay11 (k0_pay10 r)) (k0_pay12 (k0_pay9 r) (k0_pay10 r)) (k0_pay15 d (k0_pay9 r) (k0_pay10 r) g b g) (k0_pay16 d (k0_pay9 r) (k0_pay10 r) g b g) (ix2 a q)
      = Norm.back Norm.n512 Norm.eps (fun k => r (ix2 a k)) (fun k => k0_pay13 (F := Ideal) d (k0_pay9 r) (k0_pay10 r) g b (ix2 a k) * g (ix2 0 k)) q := by
  simp only [Norm.back, ← hat_K]
  unfold k0_pay15 k0_pay16 k0_pay14
  generalize k0_pay13 (F := Ideal) d (k0_pay9 r) (k0_pay10 r) g b = u
  generalize k0_pay12 (F := Ideal) (k0_pay9 r) (k0_pay10 r) = h
  pointwise [k0_pay1, k0_pay11, k0_pay10, k0_pay9]
  rfl

theorem back_R (x0 x1 x2 x3 x4) (a : Fin 4352) (b : Fin 512) :
    val_main_v68 (F := Ideal) x0 x1 x2 x3 x4 (ix2 a b)
      = Norm.vjp Norm.n512 Norm.eps (fun k => x2 (ix2 a k)) (fun k => val_main_v37 (F := Ideal) x0 x1 x2 x3 x4 (ix2 a k) * x3 (ix2 0 k)) b := by
  pointwise [val_main_cst, val_main_v3, val_main_v4, val_main_v5, val_main_cst_0, val_main_cst_1, val_main_cst_2, val_main_cst_3, val_main_cst_4, val_main_cst_5, val_main_cst_6, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_cst_9, val_main_cst_10, val_main_cst_11, val_main_cst_12, val_main_cst_13, val_main_cst_14, val_main_cst_15]
  simp only [Fin.sum_univ_one]
  rfl

/-! ## The product with the joined weight -/

theorem v2_R (x1) (j : Cert.Reference2Ideal.S512x1024.Idx) :
    val_main_v2 (F := Ideal) x1 j = x1 (ix3 ⟨(j 1).val / 256, by have : (j 1).val < 1024 := (j 1).isLt; omega⟩ (j 0) ⟨(j 1).val % 256, by omega⟩) := by
  have h1 : (j 1).val < 1024 := (j 1).isLt
  pointwise [val_main_v0, val_main_v1, val_main_v2]

theorem v36_R (x0 x1) (i : S4352x512.Idx) :
    val_main_v36 (F := Ideal) x0 x1 i = ∑ h : Fin 4, ∑ q : Fin 256, x0 (ix2 (i 0) ⟨h.val * 256 + q.val, by omega⟩) * x1 (ix3 h (i 1) q) := by
  rw [val_main_v36_apply]
  refine (Fin.sum_mul_add_congr (S := 4) (n := 256) (L := 1024) (fun h q hl => ?_) rfl).symm
  rw [v2_R]
  pointwise [val_main_v35]
  refine congrArg₂ (· * ·) (congrArg x0 (funext fun a => by match a with | 0 => rfl | 1 => rfl)) ?_
  exact congrArg x1 (funext fun a => by
    match a with
    | 0 => exact Fin.ext (show h.val = (h.val * 256 + q.val) / 256 by omega)
    | 1 => rfl
    | 2 => exact Fin.ext (show q.val = (h.val * 256 + q.val) % 256 by omega))

/-- The gradient of the activation's value on the kernel's tile. -/
abbrev doK (c : Dev nD) (t : Fin cfg0.N) : FVec Ideal S544x512 .f32 :=
  k0_pay8 (F := Ideal) (View.ld (iblk m c 0 t) (Rect.unit ![0, 0] ![544, 256] inb_S544x1024_S544x256_0_0))
    (View.ld (iblk m c 1 t) (Rect.unit ![0, 0, 0] ![1, 512, 256] inb_S4x512x256_S1x512x256_0_0_0))
    (View.ld (iblk m c 0 t) (Rect.unit ![0, 256] ![544, 256] inb_S544x1024_S544x256_0_256))
    (View.ld (iblk m c 1 t) (Rect.unit ![1, 0, 0] ![1, 512, 256] inb_S4x512x256_S1x512x256_1_0_0))
    (View.ld (iblk m c 0 t) (Rect.unit ![0, 512] ![544, 256] inb_S544x1024_S544x256_0_512))
    (View.ld (iblk m c 1 t) (Rect.unit ![2, 0, 0] ![1, 512, 256] inb_S4x512x256_S1x512x256_2_0_0))
    (View.ld (iblk m c 0 t) (Rect.unit ![0, 768] ![544, 256] inb_S544x1024_S544x256_0_768))
    (View.ld (iblk m c 1 t) (Rect.unit ![3, 0, 0] ![1, 512, 256] inb_S4x512x256_S1x512x256_3_0_0))

theorem do_eq (c : Dev nD) (t : Fin cfg0.N) (x : S544x512.Idx) (i : S4352x512.Idx) (h0 : (i 0).val = t.val * 544 + (x 0).val) (h1 : (i 1).val = (x 1).val) :
    doK m c t x = val_main_v36 (F := Ideal) (m ((c : Thread nD τ).loc main_arg0)) (m ((c : Thread nD τ).loc main_arg1)) i := by
  rw [v36_R, Fin.sum_univ_four]
  pointwise [k0_pay8]
  blk_point [iblk, V, idx0 t, idx1 t, h0, h1]

theorem row (c : Dev nD) (t : Fin cfg0.N) (x : S544x512.Idx) (i : S4352x512.Idx) (h0 : (i 0).val = t.val * 544 + (x 0).val) (h1 : (i 1).val = (x 1).val) :
    iblk m c 2 t x = m ((c : Thread nD τ).loc main_arg2) i := by
  blk_point [iblk, V, idx2 t, h0, h1]

theorem gain (c : Dev nD) (t : Fin cfg0.N) (b : Fin 512) : iblk m c 3 t (ix2 (n0 := 1) (n1 := 512) 0 b) = m ((c : Thread nD τ).loc main_arg3) (ix2 0 b) := by
  blk_point [iblk, V, idx3 t]
theorem shift (c : Dev nD) (t : Fin cfg0.N) (b : Fin 512) : iblk m c 4 t (ix2 (n0 := 1) (n1 := 512) 0 b) = m ((c : Thread nD τ).loc main_arg4) (ix2 0 b) := by
  blk_point [iblk, V, idx4 t]

/-! ## The gradient behind the activation -/

/-- What the precondition says: every entry of every argument is a real number. -/
theorem real_args (hp : Cert.Pre_Kernel2Ideal_finite2 m) (c : Dev nD) :
    (∀ i, Norm.IsReal (m ((c : Thread nD τ).loc main_arg0) i)) ∧ (∀ i, Norm.IsReal (m ((c : Thread nD τ).loc main_arg1) i))
    ∧ (∀ i, Norm.IsReal (m ((c : Thread nD τ).loc main_arg2) i)) ∧ (∀ i, Norm.IsReal (m ((c : Thread nD τ).loc main_arg3) i))
    ∧ (∀ i, Norm.IsReal (m ((c : Thread nD τ).loc main_arg4) i)) := by
  obtain ⟨h0, h1, h2, h3, h4⟩ := hp c
  exact ⟨Finite.isReal _ _ (fun _ => rfl) h0, Finite.isReal _ _ (fun _ => rfl) h1, Finite.isReal _ _ (fun _ => rfl) h2,
    Finite.isReal _ _ (fun _ => rfl) h3, Finite.isReal _ _ (fun _ => rfl) h4⟩

theorem do_real (hp : Cert.Pre_Kernel2Ideal_finite2 m) (c : Dev nD) (i : S4352x512.Idx) :
    Norm.IsReal (val_main_v36 (F := Ideal) (m ((c : Thread nD τ).loc main_arg0)) (m ((c : Thread nD τ).loc main_arg1)) i) := by
  obtain ⟨h0, h1, -⟩ := real_args m hp c
  rw [v36_R]
  exact Norm.IsReal.sum _ fun h => Norm.IsReal.sum _ fun q => (h0 _).mul (h1 _)

theorem act_real (hp : Cert.Pre_Kernel2Ideal_finite2 m) (c : Dev nD) (a : Fin 4352) (q : Fin 512) :
    Norm.IsReal (Norm.hat Norm.n512 Norm.eps (fun k => m ((c : Thread nD τ).loc main_arg2) (ix2 a k)) q * m ((c : Thread nD τ).loc main_arg3) (ix2 0 q)
      + m ((c : Thread nD τ).loc main_arg4) (ix2 0 q)) := by
  obtain ⟨-, -, h2, h3, h4⟩ := real_args m hp c
  exact ((Norm.IsReal.hat Norm.n512_eq (by decide) _ (fun k => h2 _) _).mul (h3 _)).add (h4 _)

abbrev dzK (c : Dev nD) (t : Fin cfg0.N) : FVec Ideal S544x512 .f32 :=
  k0_pay13 (F := Ideal) (doK m c t) (k0_pay9 (iblk m c 2 t)) (k0_pay10 (iblk m c 2 t)) (iblk m c 3 t) (iblk m c 4 t)
abbrev dzR (c : Dev nD) : S4352x512.Idx → EReal :=
  val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem dz_eq (hp : Cert.Pre_Kernel2Ideal_finite2 m) (c : Dev nD) (t : Fin cfg0.N) (x : S544x512.Idx) (i : S4352x512.Idx) (h0 : (i 0).val = t.val * 544 + (x 0).val) (h1 : (i 1).val = (x 1).val) :
    dzK m c t x = dzR m c i := by
  obtain ⟨a, b, rfl⟩ : ∃ a b, x = ix2 a b := ⟨x 0, x 1, eq_ix2 x⟩
  obtain ⟨p, q, rfl⟩ : ∃ p q, i = ix2 p q := ⟨i 0, i 1, eq_ix2 i⟩
  obtain rfl : q = b := Fin.ext h1
  refine (dz_K _ _ _ _ a q).trans (Eq.trans ?_ (dz_R _ _ _ _ _ p q).symm)
  rw [← Norm.siluBack_eq (do_real m hp c _) (act_real m hp c p q), do_eq m c t (ix2 a q) (ix2 p q) h0 rfl, gain, shift,
    funext fun k => row m c t (ix2 a k) (ix2 p k) h0 rfl]

theorem dz_real (hp : Cert.Pre_Kernel2Ideal_finite2 m) (c : Dev nD) (a : Fin 4352) (q : Fin 512) : Norm.IsReal (dzR m c (ix2 a q)) := by
  rw [show dzR m c (ix2 a q) = _ from dz_R _ _ _ _ _ a q]
  exact Norm.IsReal.siluVjp (do_real m hp c _) (act_real m hp c a q)

/-! ## The gradient of the row -/

abbrev dcK (c : Dev nD) (t : Fin cfg0.N) : FVec Ideal S544x512 .f32 :=
  k0_pay1 (F := Ideal) (k0_pay11 (k0_pay10 (iblk m c 2 t))) (k0_pay12 (k0_pay9 (iblk m c 2 t)) (k0_pay10 (iblk m c 2 t)))
    (k0_pay15 (doK m c t) (k0_pay9 (iblk m c 2 t)) (k0_pay10 (iblk m c 2 t)) (iblk m c 3 t) (iblk m c 4 t) (iblk m c 3 t))
    (k0_pay16 (doK m c t) (k0_pay9 (iblk m c 2 t)) (k0_pay10 (iblk m c 2 t)) (iblk m c 3 t) (iblk m c 4 t) (iblk m c 3 t))
abbrev dcR (c : Dev nD) : S4352x512.Idx → EReal :=
  val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem dc_eq (hp : Cert.Pre_Kernel2Ideal_finite2 m) (c : Dev nD) (t : Fin cfg0.N) (x : S544x512.Idx) (i : S4352x512.Idx) (h0 : (i 0).val = t.val * 544 + (x 0).val) (h1 : (i 1).val = (x 1).val) :
    dcK m c t x = dcR m c i := by
  obtain ⟨-, -, hr, hg, -⟩ := real_args m hp c
  obtain ⟨a, b, rfl⟩ : ∃ a b, x = ix2 a b := ⟨x 0, x 1, eq_ix2 x⟩
  obtain ⟨p, q, rfl⟩ : ∃ p q, i = ix2 p q := ⟨i 0, i 1, eq_ix2 i⟩
  obtain rfl : q = b := Fin.ext h1
  refine (back_K _ _ _ _ a q).trans (Eq.trans ?_ (back_R _ _ _ _ _ p q).symm)
  rw [← Norm.back_eq_vjp (N := Norm.n512) Norm.n512_eq (by decide) _ _ (fun k => hr _) (fun k => (dz_real m hp c _ _).mul (hg _))]
  congr 1
  · exact funext fun k => row m c t _ _ h0 rfl
  · exact funext fun k => congrArg₂ (· * ·) (dz_eq m hp c t (ix2 a k) (ix2 p k) h0 rfl) (gain m c t k)

theorem final5 (hp : Cert.Pre_Kernel2Ideal_finite2 m) (c : Dev nD) : (dats (F := Ideal) m 0 c).arrAt 5 cfg0.N = dcR m c := by
  refine (dats m 0 c).arrAt_eq_of_covers 5 _ (by decide +kernel) fun t hf y => ?_
  blk_simp
  rw [after0_5]
  by_cases hc : t.val % 8 = 0
  · rw [outsAt0_A m c t hc]; frame_out
    exact dc_eq m hp c t y _ (by blk_simp [idx5 t]) (by blk_simp [idx5 t])
  · rw [outsAt0_B m c t hc]; frame_out
    exact dc_eq m hp c t y _ (by blk_simp [idx5 t]) (by blk_simp [idx5 t])

/-! ## The column sums: the gradients of the gain, the shift and the bias -/

/-- The products whose column sums are the gradient of the gain. -/
def prodR (c : Dev nD) (i : S4352x512.Idx) : EReal := val_main_v28 (F := Ideal) (m ((c : Thread nD τ).loc main_arg2)) i * dzR m c i

theorem last (t : Fin cfg0.N) (h : t.val % 8 = 7) : t.val + 1 = cfg0.N := by
  have h2 : t.val < 8 := t.isLt
  show t.val + 1 = 8
  omega

/-- A row of a tile among all rows. -/
abbrev rowAt (t : Fin cfg0.N) (r : Fin 544) : Fin 4352 := ⟨t.val * 544 + r.val, by have : t.val < 8 := t.isLt; have := r.isLt; omega⟩

/-- The column sums of one tile of rows. -/
def tileSum (f : S4352x512.Idx → EReal) (t : Fin cfg0.N) (y : S1x512.Idx) : EReal := ∑ r : Fin 544, f (ix2 (rowAt t r) (y 1))

theorem tiles_sum (f : S4352x512.Idx → EReal) (y : S1x512.Idx) (g : Fin 4352 → EReal) (h : ∀ k, f (ix2 k (y 1)) = g k) :
    ∑ t : Fin cfg0.N, tileSum f t y = ∑ k, g k :=
  Fin.sum_mul_add_congr (S := 8) (n := 544) (L := 4352) (fun p r hl => h _) rfl

theorem gain_step (hp : Cert.Pre_Kernel2Ideal_finite2 m) (c : Dev nD) (t : Fin cfg0.N) (o : Vec Ideal S1x512 .f32) (y : S1x512.Idx) :
    k0_pay5 (F := Ideal) (k0_pay12 (k0_pay9 (iblk m c 2 t)) (k0_pay10 (iblk m c 2 t))) (dzK m c t) o y = o y + tileSum (prodR m c) t y := by
  have e : ∀ (r : Fin 544) (b : Fin 512), dzK m c t (ix2 r b) * k0_pay12 (F := Ideal) (k0_pay9 (iblk m c 2 t)) (k0_pay10 (iblk m c 2 t)) (ix2 r b)
      = prodR m c (ix2 (rowAt t r) b) := fun r b => by
    rw [prodR, hat_K, hat_R, dz_eq m hp c t (ix2 r b) (ix2 (rowAt t r) b) rfl rfl, mul_comm]
    congr 2
    exact funext fun k => row m c t _ _ rfl rfl
  rw [tileSum, Finset.sum_congr rfl fun r _ => (e r (y 1)).symm]
  generalize dzK m c t = d
  generalize k0_pay12 (F := Ideal) (k0_pay9 (iblk m c 2 t)) (k0_pay10 (iblk m c 2 t)) = h
  pointwise [k0_pay5]

theorem shift_step (hp : Cert.Pre_Kernel2Ideal_finite2 m) (c : Dev nD) (t : Fin cfg0.N) (o : Vec Ideal S1x512 .f32) (y : S1x512.Idx) :
    k0_pay6 (F := Ideal) (dzK m c t) o y = o y + tileSum (dzR m c) t y := by
  rw [tileSum, Finset.sum_congr rfl fun r _ => (dz_eq m hp c t (ix2 r (y 1)) (ix2 (rowAt t r) (y 1)) rfl rfl).symm]
  generalize dzK m c t = d
  pointwise [k0_pay6]

theorem bias_step (hp : Cert.Pre_Kernel2Ideal_finite2 m) (c : Dev nD) (t : Fin cfg0.N) (o : Vec Ideal S1x512 .f32) (y : S1x512.Idx) :
    k0_pay7 (F := Ideal) (k0_pay11 (k0_pay10 (iblk m c 2 t))) (k0_pay12 (k0_pay9 (iblk m c 2 t)) (k0_pay10 (iblk m c 2 t)))
      (k0_pay15 (doK m c t) (k0_pay9 (iblk m c 2 t)) (k0_pay10 (iblk m c 2 t)) (iblk m c 3 t) (iblk m c 4 t) (iblk m c 3 t))
      (k0_pay16 (doK m c t) (k0_pay9 (iblk m c 2 t)) (k0_pay10 (iblk m c 2 t)) (iblk m c 3 t) (iblk m c 4 t) (iblk m c 3 t)) o y
      = o y + tileSum (dcR m c) t y := by
  rw [tileSum, Finset.sum_congr rfl fun r _ => (dc_eq m hp c t (ix2 r (y 1)) (ix2 (rowAt t r) (y 1)) rfl rfl).symm]
  pointwise [k0_pay7]

theorem final6 (hp : Cert.Pre_Kernel2Ideal_finite2 m) (c : Dev nD) : (dats (F := Ideal) m 0 c).arrAt 6 cfg0.N
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (Pipeline.eq_sum_fin_of_reset_step_apply_last (fun n (h : n < cfg0.N) => (outsAt0 m c n h).2.1) 8 (fun _ => 0) (tileSum (prodR m c))
    (fun t hc y => ?_) (fun t hc y => ?_) (by decide +kernel) t (last t ((flush0_6 t).mp hf)) y).trans ?_
  · rw [outsAt0_A m c t hc]; frame_out
    refine (gain_step m hp c t (k0_pay2 (F := Ideal)) y).trans ?_
    congr 1
    pointwise [k0_pay2]
  · rw [outsAt0_B m c t hc]; frame_out
    exact gain_step m hp c t _ y
  · pointwise [val_main_v42, val_main_v41, val_main_v40, val_main_cst_8]
    refine tiles_sum _ y _ fun k => ?_
    blk_point [prodR, idx6 t]

theorem final7 (hp : Cert.Pre_Kernel2Ideal_finite2 m) (c : Dev nD) : (dats (F := Ideal) m 0 c).arrAt 7 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  refine (Pipeline.eq_sum_fin_of_reset_step_apply_last (fun n (h : n < cfg0.N) => (outsAt0 m c n h).2.2.1) 8 (fun _ => 0) (tileSum (dzR m c))
    (fun t hc y => ?_) (fun t hc y => ?_) (by decide +kernel) t (last t ((flush0_7 t).mp hf)) y).trans ?_
  · rw [outsAt0_A m c t hc]; frame_out
    refine (shift_step m hp c t (k0_pay3 (F := Ideal)) y).trans ?_
    congr 1
    pointwise [k0_pay3]
  · rw [outsAt0_B m c t hc]; frame_out
    exact shift_step m hp c t _ y
  · pointwise [val_main_v39, val_main_v38, val_main_cst_7]
    refine tiles_sum _ y _ fun k => ?_
    blk_point [idx7 t]

theorem final8 (hp : Cert.Pre_Kernel2Ideal_finite2 m) (c : Dev nD) : (dats (F := Ideal) m 0 c).arrAt 8 cfg0.N
    = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  refine (Pipeline.eq_sum_fin_of_reset_step_apply_last (fun n (h : n < cfg0.N) => (outsAt0 m c n h).2.2.2) 8 (fun _ => 0) (tileSum (dcR m c))
    (fun t hc y => ?_) (fun t hc y => ?_) (by decide +kernel) t (last t ((flush0_8 t).mp hf)) y).trans ?_
  · rw [outsAt0_A m c t hc]; frame_out
    refine (bias_step m hp c t (k0_pay4 (F := Ideal)) y).trans ?_
    congr 1
    pointwise [k0_pay4]
  · rw [outsAt0_B m c t hc]; frame_out
    exact bias_step m hp c t _ y
  · pointwise [val_main_v70, val_main_v69, val_main_cst_16]
    refine tiles_sum _ y _ fun k => ?_
    blk_point [idx8 t]

end Cert.Kernel2Ideal.ConvBack

end
-- ==== Proof.Ln1Back.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import proofs.«01_k».proof.Proof.Norm
public import proofs.«01_k».proof.Proof.Finite
public import proofs.«01_k».proof.Proof.Tiles

@[expose] public section

set_option maxRecDepth 16384

noncomputable section

open Idealize.ShloMosaic Idealize.ShloMosaic.TcCoe Idealize.SL.Sem
open Idealize.ShloMosaic.Pipeline (Dat)

/-! The first norm backwards, behind the product with the transposed feed-forward weight. -/

namespace Cert.Kernel3Ideal.Ln1Back

open Cert.Kernel3Ideal Cert.Kernel3Ideal.Gen

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

open Cert.Reference3Ideal.Read

/-! ## One row of the reference and of the kernel -/

theorem hat_R (x1) (a : Fin 4352) (b : Fin 1024) :
    val_main_v33 (F := Ideal) x1 (ix2 a b) = Norm.hat Norm.n1024 Norm.eps (fun k => x1 (ix2 a k)) b := by
  pointwise [val_main_cst_0, val_main_v11, val_main_v12, val_main_cst_1, val_main_v13, val_main_v14, val_main_v15, val_main_v16, val_main_v17, val_main_cst_2, val_main_v18, val_main_v19, val_main_cst_3, val_main_v20, val_main_v21, val_main_cst_4, val_main_v22, val_main_v23, val_main_v24, val_main_v25, val_main_cst_5, val_main_v26, val_main_v27, val_main_v28, val_main_v29, val_main_cst_6, val_main_v30, val_main_v31, val_main_v32, val_main_v33]
  rfl

theorem hat_K (r) (a : Fin 272) (b : Fin 1024) :
    k0_pay8 (F := Ideal) r (ix2 a b) = Norm.hat Norm.n1024 Norm.eps (fun k => r (ix2 a k)) b := by
  pointwise [k0_pay8, k0_pay7, k0_pay6]
  rfl

theorem back_K (u r) (g : Vec Ideal S1x1024 .f32) (a : Fin 272) (b : Fin 1024) :
    k0_pay9 (F := Ideal) u r g (ix2 a b) = Norm.back Norm.n1024 Norm.eps (fun k => r (ix2 a k)) (fun k => u (ix2 a k) * g (ix2 0 k)) b := by
  simp only [Norm.back, ← hat_K]
  pointwise [k0_pay9, k0_pay7, k0_pay6]
  rfl

theorem back_R (x0 x1 x2 x3 x4) (a : Fin 4352) (b : Fin 1024) :
    val_main_v75 (F := Ideal) x0 x1 x2 x3 x4 (ix2 a b)
      = Norm.vjp Norm.n1024 Norm.eps (fun k => x1 (ix2 a k)) (fun k => val_main_v44 (F := Ideal) x0 x3 x4 (ix2 a k) * x2 (ix2 0 k)) b := by
  pointwise [val_main_cst_0, val_main_v11, val_main_v12, val_main_cst_1, val_main_v13, val_main_v14, val_main_v15, val_main_v16, val_main_v17, val_main_cst_2, val_main_v18, val_main_v19, val_main_cst_3, val_main_v20, val_main_v21, val_main_cst_4, val_main_v22, val_main_v23, val_main_v24, val_main_v25, val_main_cst_5, val_main_v26, val_main_v27, val_main_v28, val_main_v29, val_main_cst_6, val_main_v30, val_main_v31, val_main_v50, val_main_v51, val_main_v52, val_main_cst_11, val_main_v53, val_main_v54, val_main_v55, val_main_v56, val_main_v57, val_main_v58, val_main_cst_12, val_main_v59, val_main_v60, val_main_cst_13, val_main_v61, val_main_v62, val_main_cst_14, val_main_v63, val_main_v64, val_main_v65, val_main_v66, val_main_cst_15, val_main_v67, val_main_v68, val_main_v69, val_main_v70, val_main_cst_16, val_main_v71, val_main_v72, val_main_cst_17, val_main_v73, val_main_v74, val_main_v75]
  simp only [Fin.sum_univ_one]
  rfl

theorem v9_R (x3) (j : Cert.Reference3Ideal.S4352x5632.Idx) :
    val_main_v9 (F := Ideal) x3 j = x3 (ix3 ⟨(j 1).val / 2816, by have : (j 1).val < 5632 := (j 1).isLt; omega⟩ (j 0) ⟨(j 1).val % 2816, by omega⟩) := by
  have h1 : (j 1).val < 5632 := (j 1).isLt
  by_cases hl : (j 1).val < 2816
  · pointwise [val_main_v3, val_main_v4, val_main_v5, val_main_v6, val_main_v7, val_main_v8, val_main_v9]
    rw [dif_pos hl]
    blk_point [hl]
  · pointwise [val_main_v3, val_main_v4, val_main_v5, val_main_v6, val_main_v7, val_main_v8, val_main_v9]
    rw [dif_neg hl]
    blk_point [hl]

theorem v2_R (x4) (j : Cert.Reference3Ideal.S1024x5632.Idx) :
    val_main_v2 (F := Ideal) x4 j = x4 (ix3 ⟨(j 1).val / 1408, by have : (j 1).val < 5632 := (j 1).isLt; omega⟩ (j 0) ⟨(j 1).val % 1408, by omega⟩) := by
  have h1 : (j 1).val < 5632 := (j 1).isLt
  pointwise [val_main_v0, val_main_v1, val_main_v2]

/-- The product with the joined weight, half by half and slab by slab. -/
theorem v41_R (x3 x4) (i : S4352x1024.Idx) :
    val_main_v41 (F := Ideal) x3 x4 i = ∑ h : Fin 4, ∑ q : Fin 1408, x3 (ix3 ⟨h.val / 2, by omega⟩ (i 0) ⟨h.val % 2 * 1408 + q.val, by omega⟩) * x4 (ix3 h (i 1) q) := by
  rw [val_main_v41_apply]
  refine (Fin.sum_mul_add_congr (S := 4) (n := 1408) (L := 5632) (fun h q hl => ?_) rfl).symm
  rw [v9_R, v2_R]
  congr 2
  · congr 1 <;> refine Fin.ext ?_ <;> dsimp only <;> omega
  · congr 1 <;> refine Fin.ext ?_ <;> dsimp only <;> omega

/-- The gradient of the norm's output on the kernel's tile, and the reference's. -/
abbrev dhK (c : Dev nD) (t : Fin cfg0.N) : FVec Ideal S272x1024 .f32 :=
  k0_pay5 (F := Ideal) (iblk m c 0 t)
    (View.ld (iblk m c 3 t) (Rect.unit ![0, 0, 0] ![1, 272, 1408] inb_S2x272x2816_S1x272x1408_0_0_0))
    (View.ld (iblk m c 4 t) (Rect.unit ![0, 0, 0] ![1, 1024, 1408] inb_S4x1024x1408_S1x1024x1408_0_0_0))
    (View.ld (iblk m c 3 t) (Rect.unit ![0, 0, 1408] ![1, 272, 1408] inb_S2x272x2816_S1x272x1408_0_0_1408))
    (View.ld (iblk m c 4 t) (Rect.unit ![1, 0, 0] ![1, 1024, 1408] inb_S4x1024x1408_S1x1024x1408_1_0_0))
    (View.ld (iblk m c 3 t) (Rect.unit ![1, 0, 0] ![1, 272, 1408] inb_S2x272x2816_S1x272x1408_1_0_0))
    (View.ld (iblk m c 4 t) (Rect.unit ![2, 0, 0] ![1, 1024, 1408] inb_S4x1024x1408_S1x1024x1408_2_0_0))
    (View.ld (iblk m c 3 t) (Rect.unit ![1, 0, 1408] ![1, 272, 1408] inb_S2x272x2816_S1x272x1408_1_0_1408))
    (View.ld (iblk m c 4 t) (Rect.unit ![3, 0, 0] ![1, 1024, 1408] inb_S4x1024x1408_S1x1024x1408_3_0_0))
abbrev dhR (c : Dev nD) : S4352x1024.Idx → EReal :=
  val_main_v44 (F := Ideal) (m ((c : Thread nD τ).loc main_arg0)) (m ((c : Thread nD τ).loc main_arg3)) (m ((c : Thread nD τ).loc main_arg4))

theorem dh_eq (c : Dev nD) (t : Fin cfg0.N) (x : S272x1024.Idx) (i : S4352x1024.Idx) (h0 : (i 0).val = t.val * 272 + (x 0).val) (h1 : (i 1).val = (x 1).val) :
    dhK m c t x = dhR m c i := by
  pointwise [k0_pay5, val_main_v44, val_main_v43, val_main_v42, val_main_cst_8]
  rw [v41_R, Fin.sum_univ_four, add_comm (_ + _) (_ * _)]
  simp only [← add_assoc]
  blk_point [iblk, V, idx0 t, idx3 t, idx4 t, h0, h1]

theorem row (c : Dev nD) (t : Fin cfg0.N) (x : S272x1024.Idx) (i : S4352x1024.Idx) (h0 : (i 0).val = t.val * 272 + (x 0).val) (h1 : (i 1).val = (x 1).val) :
    iblk m c 1 t x = m ((c : Thread nD τ).loc main_arg1) i := by
  blk_point [iblk, V, idx1 t, h0, h1]

theorem gain (c : Dev nD) (t : Fin cfg0.N) (b : Fin 1024) : iblk m c 2 t (ix2 (n0 := 1) (n1 := 1024) 0 b) = m ((c : Thread nD τ).loc main_arg2) (ix2 0 b) := by
  blk_point [iblk, V, idx2 t]

/-! ## The gradient of the row -/

/-- What the precondition says: every entry of every argument is a real number. -/
theorem real_args (hp : Cert.Pre_Kernel3Ideal_finite3 m) (c : Dev nD) :
    (∀ i, Norm.IsReal (m ((c : Thread nD τ).loc main_arg0) i)) ∧ (∀ i, Norm.IsReal (m ((c : Thread nD τ).loc main_arg1) i))
    ∧ (∀ i, Norm.IsReal (m ((c : Thread nD τ).loc main_arg2) i)) ∧ (∀ i, Norm.IsReal (m ((c : Thread nD τ).loc main_arg3) i))
    ∧ (∀ i, Norm.IsReal (m ((c : Thread nD τ).loc main_arg4) i)) := by
  obtain ⟨h0, h1, h2, h3, h4⟩ := hp c
  exact ⟨Finite.isReal _ _ (fun _ => rfl) h0, Finite.isReal _ _ (fun _ => rfl) h1, Finite.isReal _ _ (fun _ => rfl) h2,
    Finite.isReal _ _ (fun _ => rfl) h3, Finite.isReal _ _ (fun _ => rfl) h4⟩

theorem dh_real (hp : Cert.Pre_Kernel3Ideal_finite3 m) (c : Dev nD) (i : S4352x1024.Idx) : Norm.IsReal (dhR m c i) := by
  obtain ⟨h0, -, -, h3, h4⟩ := real_args m hp c
  have e : dhR m c i = val_main_v41 (F := Ideal) (m ((c : Thread nD τ).loc main_arg3)) (m ((c : Thread nD τ).loc main_arg4)) i
      + Ideal.ofBits FTy.f32 0x3FB504F3#32 * m ((c : Thread nD τ).loc main_arg0) i := by
    pointwise [val_main_v44, val_main_v43, val_main_v42, val_main_cst_8]
  rw [e, v41_R]
  exact (Norm.IsReal.sum _ fun h => Norm.IsReal.sum _ fun q => (h3 _).mul (h4 _)).add (Norm.alpha_real.mul (h0 _))

abbrev drR (c : Dev nD) : S4352x1024.Idx → EReal :=
  val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem dr_eq (hp : Cert.Pre_Kernel3Ideal_finite3 m) (c : Dev nD) (t : Fin cfg0.N) (x : S272x1024.Idx) (i : S4352x1024.Idx) (h0 : (i 0).val = t.val * 272 + (x 0).val) (h1 : (i 1).val = (x 1).val) :
    k0_pay9 (F := Ideal) (dhK m c t) (iblk m c 1 t) (iblk m c 2 t) x = drR m c i := by
  obtain ⟨-, hr, hg, -, -⟩ := real_args m hp c
  obtain ⟨a, b, rfl⟩ : ∃ a b, x = ix2 a b := ⟨x 0, x 1, eq_ix2 x⟩
  obtain ⟨p, q, rfl⟩ : ∃ p q, i = ix2 p q := ⟨i 0, i 1, eq_ix2 i⟩
  obtain rfl : q = b := Fin.ext h1
  refine (back_K _ _ _ a q).trans (Eq.trans ?_ (back_R _ _ _ _ _ p q).symm)
  rw [← Norm.back_eq_vjp (N := Norm.n1024) Norm.n1024_eq (by decide) _ _ (fun k => hr _) (fun k => (dh_real m hp c _).mul (hg _))]
  congr 1
  · exact funext fun k => row m c t _ _ h0 rfl
  · exact funext fun k => by rw [dh_eq m c t (ix2 a k) (ix2 p k) h0 rfl, gain]

/-- The gradient of the norm's argument. -/
theorem final5 (hp : Cert.Pre_Kernel3Ideal_finite3 m) (c : Dev nD) : (dats (F := Ideal) m 0 c).arrAt 5 cfg0.N = drR m c := by
  refine (dats m 0 c).arrAt_eq_of_covers 5 _ (by decide +kernel) fun t hf y => ?_
  blk_simp
  rw [after0_5]
  by_cases hc : t.val % 16 = 0
  · rw [outsAt0_A m c t hc]; frame_out
    exact dr_eq m hp c t y _ (by blk_simp [idx5 t]) (by blk_simp [idx5 t])
  · rw [outsAt0_B m c t hc]; frame_out
    exact dr_eq m hp c t y _ (by blk_simp [idx5 t]) (by blk_simp [idx5 t])

/-- The same, rounded. -/
theorem final6 (hp : Cert.Pre_Kernel3Ideal_finite3 m) (c : Dev nD) : (dats (F := Ideal) m 0 c).arrAt 6 cfg0.N
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases hc : t.val % 16 = 0
  · rw [outsAt0_A m c t hc]; frame_out
    exact dr_eq m hp c t y _ (by blk_simp [idx6 t]) (by blk_simp [idx6 t])
  · rw [outsAt0_B m c t hc]; frame_out
    exact dr_eq m hp c t y _ (by blk_simp [idx6 t]) (by blk_simp [idx6 t])

/-! ## The gradients of the gain and the shift -/

/-- The products whose column sums are the gradient of the gain. -/
def prodR (c : Dev nD) (i : S4352x1024.Idx) : EReal := val_main_v33 (F := Ideal) (m ((c : Thread nD τ).loc main_arg1)) i * dhR m c i

theorem last (t : Fin cfg0.N) (h : t.val % 16 = 15) : t.val + 1 = cfg0.N := by
  have h2 : t.val < 16 := t.isLt
  show t.val + 1 = 16
  omega

/-- The column sums of one tile of rows. -/
def tileSum (f : S4352x1024.Idx → EReal) (t : Fin cfg0.N) (y : S1x1024.Idx) : EReal :=
  ∑ r : Fin 272, f (ix2 ⟨t.val * 272 + r.val, by have : t.val < 16 := t.isLt; have := r.isLt; omega⟩ (y 1))

theorem tiles_sum (f : S4352x1024.Idx → EReal) (y : S1x1024.Idx) (g : Fin 4352 → EReal) (h : ∀ k, f (ix2 k (y 1)) = g k) :
    ∑ t : Fin cfg0.N, tileSum f t y = ∑ k, g k :=
  Fin.sum_mul_add_congr (S := 16) (n := 272) (L := 4352) (fun p r hl => h _) rfl

theorem gain_step (c : Dev nD) (t : Fin cfg0.N) (o : Vec Ideal S1x1024 .f32) (y : S1x1024.Idx) :
    k0_pay3 (F := Ideal) (k0_pay11 (F := Ideal) (dhK m c t) (iblk m c 1 t)) o y = o y + tileSum (prodR m c) t y := by
  have e : ∀ (r : Fin 272) (b : Fin 1024), dhK m c t (ix2 r b) * k0_pay8 (F := Ideal) (iblk m c 1 t) (ix2 r b)
      = prodR m c (ix2 ⟨t.val * 272 + r.val, by have : t.val < 16 := t.isLt; have := r.isLt; omega⟩ b) := fun r b => by
    rw [prodR, hat_K, hat_R, dh_eq m c t (ix2 r b) (ix2 ⟨t.val * 272 + r.val, by have : t.val < 16 := t.isLt; have := r.isLt; omega⟩ b) rfl rfl, mul_comm]
    congr 2
    exact funext fun k => row m c t _ _ rfl rfl
  rw [tileSum, Finset.sum_congr rfl fun r _ => (e r (y 1)).symm]
  generalize dhK m c t = d
  pointwise [k0_pay3, k0_pay11]

theorem shift_step (c : Dev nD) (t : Fin cfg0.N) (o : Vec Ideal S1x1024 .f32) (y : S1x1024.Idx) :
    k0_pay4 (F := Ideal) (dhK m c t) o y = o y + tileSum (dhR m c) t y := by
  rw [tileSum, Finset.sum_congr rfl fun r _ => (dh_eq m c t (ix2 r (y 1)) _ rfl rfl).symm]
  generalize dhK m c t = d
  pointwise [k0_pay4]

theorem final7 (c : Dev nD) : (dats (F := Ideal) m 0 c).arrAt 7 cfg0.N
    = val_main_v49 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  refine (Pipeline.eq_sum_fin_of_reset_step_apply_last (fun n (h : n < cfg0.N) => (outsAt0 m c n h).2.2.1) 16 (fun _ => 0) (tileSum (prodR m c))
    (fun t hc y => ?_) (fun t hc y => ?_) (by decide +kernel) t (last t ((flush0_7 t).mp hf)) y).trans ?_
  · rw [outsAt0_A m c t hc]; frame_out
    refine (gain_step m c t _ y).trans ?_
    congr 1
    pointwise [k0_pay1]
  · rw [outsAt0_B m c t hc]; frame_out
    exact gain_step m c t _ y
  · pointwise [val_main_v49, val_main_v48, val_main_v47, val_main_cst_10]
    refine tiles_sum _ y _ fun k => ?_
    blk_point [prodR, idx7 t]

theorem final8 (c : Dev nD) : (dats (F := Ideal) m 0 c).arrAt 8 cfg0.N
    = val_main_v46 (F := Ideal) (m ((c : Thread nD τ).loc main_arg0)) (m ((c : Thread nD τ).loc main_arg3)) (m ((c : Thread nD τ).loc main_arg4)) := by
  refine (dats m 0 c).arrAt_eq_of_covers 8 _ (by decide +kernel) fun t hf y => ?_
  blk_simp
  rw [after0_8]
  refine (Pipeline.eq_sum_fin_of_reset_step_apply_last (fun n (h : n < cfg0.N) => (outsAt0 m c n h).2.2.2) 16 (fun _ => 0) (tileSum (dhR m c))
    (fun t hc y => ?_) (fun t hc y => ?_) (by decide +kernel) t (last t ((flush0_8 t).mp hf)) y).trans ?_
  · rw [outsAt0_A m c t hc]; frame_out
    refine (shift_step m c t _ y).trans ?_
    congr 1
    pointwise [k0_pay2]
  · rw [outsAt0_B m c t hc]; frame_out
    exact shift_step m c t _ y
  · pointwise [val_main_v46, val_main_v45, val_main_cst_9]
    refine tiles_sum _ y _ fun k => ?_
    blk_point [idx8 t]

end Cert.Kernel3Ideal.Ln1Back

end
-- ==== Proof.InLnBack.lean ====
module

public import proofs.«01_k».proof.Proof.Gen.Kernel4Ideal.Value
public import proofs.«01_k».proof.Proof.Gen.Reference4Ideal.Run
public import proofs.«01_k».proof.Proof.Gen.Reference4Ideal.Read
public import proofs.«01_k».proof.Defs
public import proofs.«01_k».proof.Proof.Norm
public import proofs.«01_k».proof.Proof.Finite
public import proofs.«01_k».proof.Proof.Tiles

@[expose] public section

set_option maxRecDepth 16384

noncomputable section

open Idealize.ShloMosaic Idealize.ShloMosaic.TcCoe Idealize.SL.Sem
open Idealize.ShloMosaic.Pipeline (Dat)

/-! The norm before a layer backwards, behind the products with the transposed input weight, in two bands of rows. -/

namespace Cert.Kernel4Ideal.InLnBack

open Cert.Kernel4Ideal Cert.Kernel4Ideal.Gen

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

open Cert.Reference4Ideal.Read

/-! ## One row of the reference and of the kernel -/

theorem hat_R (x1) (a : Fin 4352) (b : Fin 1024) :
    val_main_v28 (F := Ideal) x1 (ix2 a b) = Norm.hat Norm.n1024 Norm.eps (fun k => x1 (ix2 a k)) b := by
  pointwise [val_main_cst_0, val_main_v6, val_main_v7, val_main_cst_1, val_main_v8, val_main_v9, val_main_v10, val_main_v11, val_main_v12, val_main_cst_3, val_main_v15, val_main_v16, val_main_cst_4, val_main_v17, val_main_v18, val_main_v19, val_main_v20, val_main_cst_5, val_main_v21, val_main_v22, val_main_v23, val_main_v27, val_main_v28]
  rfl

theorem hat_K (r) (a : Fin 272) (b : Fin 1024) :
    k0_pay6 (F := Ideal) r (ix2 a b) = Norm.hat Norm.n1024 Norm.eps (fun k => r (ix2 a k)) b := by
  pointwise [k0_pay6, k0_pay5, k0_pay4]
  rfl

theorem back_K (u r) (g : Vec Ideal S1x1024 .f32) (a : Fin 272) (b : Fin 1024) :
    k0_pay11 (F := Ideal) (k0_pay5 r) (k0_pay6 r) (k0_pay10 u g) (ix2 a b)
      = Norm.back Norm.n1024 Norm.eps (fun k => r (ix2 a k)) (fun k => u (ix2 a k) * g (ix2 0 k)) b := by
  simp only [Norm.back, ← hat_K]
  generalize hh : k0_pay6 (F := Ideal) r = h
  pointwise [k0_pay11, k0_pay10, k0_pay5, k0_pay4]
  rfl

theorem back_R (x0 x1 x2 x3 x4 x5 x6) (a : Fin 4352) (b : Fin 1024) :
    val_main_v70 (F := Ideal) x0 x1 x2 x3 x4 x5 x6 (ix2 a b)
      = Norm.vjp Norm.n1024 Norm.eps (fun k => x1 (ix2 a k)) (fun k => val_main_v39 (F := Ideal) x0 x3 x4 x5 x6 (ix2 a k) * x2 (ix2 0 k)) b := by
  pointwise [val_main_cst_0, val_main_v6, val_main_v7, val_main_cst_1, val_main_v8, val_main_v9, val_main_v10, val_main_v11, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v24, val_main_cst_6, val_main_v25, val_main_v26, val_main_v45, val_main_v46, val_main_v47, val_main_cst_11, val_main_v48, val_main_v49, val_main_v50, val_main_v51, val_main_v52, val_main_v53, val_main_cst_12, val_main_v54, val_main_v55, val_main_cst_13, val_main_v56, val_main_v57, val_main_cst_14, val_main_v58, val_main_v59, val_main_v60, val_main_v61, val_main_cst_15, val_main_v62, val_main_v63, val_main_v64, val_main_v65, val_main_cst_16, val_main_v66, val_main_v67, val_main_cst_17, val_main_v68, val_main_v69, val_main_v70]
  simp only [Fin.sum_univ_one]
  rfl

/-! ## The product with the joined weight -/

theorem sum_three (f : Fin 3840 → EReal) : ∑ k, f k = ∑ k : Fin 2048, f ⟨k.val, by omega⟩ + ∑ k : Fin 1024, f ⟨2048 + k.val, by omega⟩ + ∑ k : Fin 768, f ⟨3072 + k.val, by omega⟩ := by
  rw [show ∑ k, f k = ∑ k : Fin (2048 + 1024 + 768), f k from rfl, Fin.sum_univ_add, Fin.sum_univ_add]
  rfl

theorem join0 (x3 x4 x5) (j : Cert.Reference4Ideal.S4352x3840.Idx) (i : Cert.Reference4Ideal.S4352x2048.Idx) (h0 : (i 0).val = (j 0).val) (h1 : (j 1).val = (i 1).val) :
    val_main_v3 (F := Ideal) x3 x4 x5 j = x3 i := by
  have hi : (i 1).val < 2048 := (i 1).isLt
  pointwise [val_main_v0, val_main_v1, val_main_v2, val_main_v3]
  rw [dif_pos (by omega)]
  blk_point [h0, h1]

theorem join1 (x3 x4 x5) (j : Cert.Reference4Ideal.S4352x3840.Idx) (i : S4352x1024.Idx) (h0 : (i 0).val = (j 0).val) (h1 : (j 1).val = 2048 + (i 1).val) :
    val_main_v3 (F := Ideal) x3 x4 x5 j = x4 i := by
  have hi : (i 1).val < 1024 := (i 1).isLt
  pointwise [val_main_v0, val_main_v1, val_main_v2, val_main_v3]
  rw [dif_neg (by omega), dif_pos (by omega)]
  blk_point [h0, h1]

theorem join2 (x3 x4 x5) (j : Cert.Reference4Ideal.S4352x3840.Idx) (i : Cert.Reference4Ideal.S4352x768.Idx) (h0 : (i 0).val = (j 0).val) (h1 : (j 1).val = 3072 + (i 1).val) :
    val_main_v3 (F := Ideal) x3 x4 x5 j = x5 i := by
  have hi : (i 1).val < 768 := (i 1).isLt
  pointwise [val_main_v0, val_main_v1, val_main_v2, val_main_v3]
  rw [dif_neg (by omega), dif_neg (by omega)]
  blk_point [h0, h1]

/-- The product with the joined weight, part by part. -/
theorem v36_R (x3 x4 x5 x6) (i : S4352x1024.Idx) :
    val_main_v36 (F := Ideal) x3 x4 x5 x6 i = ∑ k : Fin 2048, x3 (ix2 (i 0) k) * x6 (ix2 (i 1) ⟨k.val, by omega⟩)
      + ∑ k : Fin 1024, x4 (ix2 (i 0) k) * x6 (ix2 (i 1) ⟨2048 + k.val, by omega⟩)
      + ∑ k : Fin 768, x5 (ix2 (i 0) k) * x6 (ix2 (i 1) ⟨3072 + k.val, by omega⟩) := by
  rw [val_main_v36_apply]
  refine (sum_three _).trans ?_
  refine congrArg₂ (· + ·) (congrArg₂ (· + ·) ?_ ?_) ?_ <;> refine Finset.sum_congr rfl fun k _ => congrArg₂ (· * ·) ?_ ?_
  · exact join0 _ _ _ _ _ rfl rfl
  · exact congrArg x6 (funext fun a => by match a with | 0 => rfl | 1 => rfl)
  · exact join1 _ _ _ _ _ rfl rfl
  · exact congrArg x6 (funext fun a => by match a with | 0 => rfl | 1 => rfl)
  · exact join2 _ _ _ _ _ rfl rfl
  · exact congrArg x6 (funext fun a => by match a with | 0 => rfl | 1 => rfl)

/-! ## A band of rows -/

/-- `A` is the band of the rows of `f` from row `p`. -/
def Band {n k : ℕ} (f : (⟨2, ![4352, n]⟩ : Shape).Idx → EReal) (p : ℕ) (A : (⟨2, ![k, n]⟩ : Shape).Idx → EReal) : Prop :=
  ∀ (x : (⟨2, ![k, n]⟩ : Shape).Idx) (i : (⟨2, ![4352, n]⟩ : Shape).Idx), (i 0).val = p + (x 0).val → (i 1).val = (x 1).val → A x = f i

/-- The gradient of the norm's output, of the reference, and of the kernel on a band with what it loads. -/
abbrev dhR (c : Dev nD) : S4352x1024.Idx → EReal :=
  val_main_v39 (F := Ideal) (m ((c : Thread nD τ).loc main_arg0)) (m ((c : Thread nD τ).loc main_arg3)) (m ((c : Thread nD τ).loc main_arg4)) (m ((c : Thread nD τ).loc main_arg5)) (m ((c : Thread nD τ).loc main_arg6))
abbrev dhK (c : Dev nD) (t : Fin cfg0.N) (A : Vec Ideal S272x1024 .f32) (Z : Vec Ideal S272x2048 .bf16) (C : Vec Ideal S272x1024 .bf16) (Q : Vec Ideal S272x768 .bf16) : FVec Ideal S272x1024 .f32 :=
  k0_pay2 (F := Ideal) A Z (View.ld (iblk m c 6 t) (Rect.unit ![0, 0] ![1024, 2048] inb_S1024x3840_S1024x2048_0_0))
    C (View.ld (iblk m c 6 t) (Rect.unit ![0, 2048] ![1024, 1024] inb_S1024x3840_S1024x1024_0_2048))
    Q (View.ld (iblk m c 6 t) (Rect.unit ![0, 3072] ![1024, 768] inb_S1024x3840_S1024x768_0_3072))

theorem dh_band (c : Dev nD) (t : Fin cfg0.N) (p : ℕ) {A Z C Q} (hA : Band (m ((c : Thread nD τ).loc main_arg0)) p A) (hZ : Band (m ((c : Thread nD τ).loc main_arg3)) p Z)
    (hC : Band (m ((c : Thread nD τ).loc main_arg4)) p C) (hQ : Band (m ((c : Thread nD τ).loc main_arg5)) p Q) : Band (dhR m c) p (dhK m c t A Z C Q) := by
  intro x i h0 h1
  pointwise [k0_pay2, val_main_v39, val_main_v38, val_main_v37, val_main_cst_8]
  rw [v36_R, add_comm (_ + _) (_ * _), hA x i h0 h1]
  simp only [← add_assoc]
  refine congrArg₂ (· + ·) (congrArg₂ (· + ·) (congrArg₂ (· + ·) rfl ?_) ?_) ?_ <;> refine Finset.sum_congr rfl fun k _ => congrArg₂ (· * ·) ?_ ?_
  · exact hZ _ _ h0 rfl
  · blk_point [iblk, V, idx6 t, h1]
  · exact hC _ _ h0 rfl
  · blk_point [iblk, V, idx6 t, h1]
  · exact hQ _ _ h0 rfl
  · blk_point [iblk, V, idx6 t, h1]

/-- The bands that a grid point loads. -/
theorem band0a (c : Dev nD) (t : Fin cfg0.N) : Band (m ((c : Thread nD τ).loc main_arg0)) (t.val * 544) (View.ld (iblk m c 0 t) (Rect.unit ![0, 0] ![272, 1024] inb_S544x1024_S272x1024_0_0)) :=
  fun x i h0 h1 => by blk_point [iblk, V, idx0 t, h0, h1]
theorem band0b (c : Dev nD) (t : Fin cfg0.N) : Band (m ((c : Thread nD τ).loc main_arg0)) (t.val * 544 + 272) (View.ld (iblk m c 0 t) (Rect.unit ![272, 0] ![272, 1024] inb_S544x1024_S272x1024_272_0)) :=
  fun x i h0 h1 => by blk_point [iblk, V, idx0 t, h0, h1]
theorem band1a (c : Dev nD) (t : Fin cfg0.N) : Band (m ((c : Thread nD τ).loc main_arg1)) (t.val * 544) (View.ld (iblk m c 1 t) (Rect.unit ![0, 0] ![272, 1024] inb_S544x1024_S272x1024_0_0)) :=
  fun x i h0 h1 => by blk_point [iblk, V, idx1 t, h0, h1]
theorem band1b (c : Dev nD) (t : Fin cfg0.N) : Band (m ((c : Thread nD τ).loc main_arg1)) (t.val * 544 + 272) (View.ld (iblk m c 1 t) (Rect.unit ![272, 0] ![272, 1024] inb_S544x1024_S272x1024_272_0)) :=
  fun x i h0 h1 => by blk_point [iblk, V, idx1 t, h0, h1]

/-- The gradient of the norm's output on the two bands of a grid point. -/
abbrev dhA (c : Dev nD) (t : Fin cfg0.N) : FVec Ideal S272x1024 .f32 :=
  dhK m c t (View.ld (iblk m c 0 t) (Rect.unit ![0, 0] ![272, 1024] inb_S544x1024_S272x1024_0_0))
    (View.ld (iblk m c 3 t) (Rect.unit ![0, 0] ![272, 2048] inb_S544x2048_S272x2048_0_0))
    (View.ld (iblk m c 4 t) (Rect.unit ![0, 0] ![272, 1024] inb_S544x1024_S272x1024_0_0))
    (View.ld (iblk m c 5 t) (Rect.unit ![0, 0] ![272, 768] inb_S544x768_S272x768_0_0))
abbrev dhB (c : Dev nD) (t : Fin cfg0.N) : FVec Ideal S272x1024 .f32 :=
  dhK m c t (View.ld (iblk m c 0 t) (Rect.unit ![272, 0] ![272, 1024] inb_S544x1024_S272x1024_272_0))
    (View.ld (iblk m c 3 t) (Rect.unit ![272, 0] ![272, 2048] inb_S544x2048_S272x2048_272_0))
    (View.ld (iblk m c 4 t) (Rect.unit ![272, 0] ![272, 1024] inb_S544x1024_S272x1024_272_0))
    (View.ld (iblk m c 5 t) (Rect.unit ![272, 0] ![272, 768] inb_S544x768_S272x768_272_0))

theorem dhA_band (c : Dev nD) (t : Fin cfg0.N) : Band (dhR m c) (t.val * 544) (dhA m c t) :=
  dh_band m c t _ (band0a m c t) (fun x i h0 h1 => by blk_point [iblk, V, idx3 t, h0, h1])
    (fun x i h0 h1 => by blk_point [iblk, V, idx4 t, h0, h1]) (fun x i h0 h1 => by blk_point [iblk, V, idx5 t, h0, h1])
theorem dhB_band (c : Dev nD) (t : Fin cfg0.N) : Band (dhR m c) (t.val * 544 + 272) (dhB m c t) :=
  dh_band m c t _ (band0b m c t) (fun x i h0 h1 => by blk_point [iblk, V, idx3 t, h0, h1])
    (fun x i h0 h1 => by blk_point [iblk, V, idx4 t, h0, h1]) (fun x i h0 h1 => by blk_point [iblk, V, idx5 t, h0, h1])

theorem gain (c : Dev nD) (t : Fin cfg0.N) (b : Fin 1024) : iblk m c 2 t (ix2 (n0 := 1) (n1 := 1024) 0 b) = m ((c : Thread nD τ).loc main_arg2) (ix2 0 b) := by
  blk_point [iblk, V, idx2 t]

/-! ## The gradient of the row -/

/-- What the precondition says: every entry of every argument is a real number. -/
theorem real_args (hp : Cert.Pre_Kernel4Ideal_finite4 m) (c : Dev nD) :
    (∀ i, Norm.IsReal (m ((c : Thread nD τ).loc main_arg0) i)) ∧ (∀ i, Norm.IsReal (m ((c : Thread nD τ).loc main_arg1) i))
    ∧ (∀ i, Norm.IsReal (m ((c : Thread nD τ).loc main_arg2) i)) ∧ (∀ i, Norm.IsReal (m ((c : Thread nD τ).loc main_arg3) i))
    ∧ (∀ i, Norm.IsReal (m ((c : Thread nD τ).loc main_arg4) i)) ∧ (∀ i, Norm.IsReal (m ((c : Thread nD τ).loc main_arg5) i))
    ∧ (∀ i, Norm.IsReal (m ((c : Thread nD τ).loc main_arg6) i)) := by
  obtain ⟨h0, h1, h2, h3, h4, h5, h6⟩ := hp c
  exact ⟨Finite.isReal _ _ (fun _ => rfl) h0, Finite.isReal _ _ (fun _ => rfl) h1, Finite.isReal _ _ (fun _ => rfl) h2,
    Finite.isReal _ _ (fun _ => rfl) h3, Finite.isReal _ _ (fun _ => rfl) h4, Finite.isReal _ _ (fun _ => rfl) h5, Finite.isReal _ _ (fun _ => rfl) h6⟩

theorem dh_real (hp : Cert.Pre_Kernel4Ideal_finite4 m) (c : Dev nD) (i : S4352x1024.Idx) : Norm.IsReal (dhR m c i) := by
  obtain ⟨h0, -, -, h3, h4, h5, h6⟩ := real_args m hp c
  have e : dhR m c i = val_main_v36 (F := Ideal) (m ((c : Thread nD τ).loc main_arg3)) (m ((c : Thread nD τ).loc main_arg4)) (m ((c : Thread nD τ).loc main_arg5)) (m ((c : Thread nD τ).loc main_arg6)) i
      + Ideal.ofBits FTy.f32 0x3FB504F3#32 * m ((c : Thread nD τ).loc main_arg0) i := by
    pointwise [val_main_v39, val_main_v38, val_main_v37, val_main_cst_8]
  rw [e, v36_R]
  exact (((Norm.IsReal.sum _ fun k => (h3 _).mul (h6 _)).add (Norm.IsReal.sum _ fun k => (h4 _).mul (h6 _))).add
    (Norm.IsReal.sum _ fun k => (h5 _).mul (h6 _))).add (Norm.alpha_real.mul (h0 _))

abbrev drR (c : Dev nD) : S4352x1024.Idx → EReal :=
  val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem dr_band (hp : Cert.Pre_Kernel4Ideal_finite4 m) (c : Dev nD) (t : Fin cfg0.N) (p : ℕ) {u r} (hu : Band (dhR m c) p u) (hr : Band (m ((c : Thread nD τ).loc main_arg1)) p r) :
    Band (drR m c) p (k0_pay11 (F := Ideal) (k0_pay5 r) (k0_pay6 r) (k0_pay10 u (iblk m c 2 t))) := by
  intro x i h0 h1
  obtain ⟨-, h1r, hg, -⟩ := real_args m hp c
  obtain ⟨a, b, rfl⟩ : ∃ a b, x = ix2 a b := ⟨x 0, x 1, eq_ix2 x⟩
  obtain ⟨s, q, rfl⟩ : ∃ s q, i = ix2 s q := ⟨i 0, i 1, eq_ix2 i⟩
  obtain rfl : q = b := Fin.ext h1
  refine (back_K _ _ _ a q).trans (Eq.trans ?_ (back_R _ _ _ _ _ _ _ s q).symm)
  rw [← Norm.back_eq_vjp (N := Norm.n1024) Norm.n1024_eq (by decide) _ _ (fun k => h1r _) (fun k => (dh_real m hp c _).mul (hg _))]
  congr 1
  · exact funext fun k => hr _ _ h0 rfl
  · exact funext fun k => by rw [hu (ix2 a k) (ix2 s k) h0 rfl, gain]

/-- The gradient of the norm's argument. -/
theorem final7 (hp : Cert.Pre_Kernel4Ideal_finite4 m) (c : Dev nD) : (dats (F := Ideal) m 0 c).arrAt 7 cfg0.N = drR m c := by
  refine (dats m 0 c).arrAt_eq_of_covers 7 _ (by decide +kernel) fun t hf y => ?_
  have ka := dr_band m hp c t _ (dhA_band m c t) (band1a m c t)
  have kb := dr_band m hp c t _ (dhB_band m c t) (band1b m c t)
  blk_simp
  rw [after0_7]
  by_cases hc : t.val % 8 = 0
  · rw [outsAt0_A m c t hc]; frame_out
    canon_tiles x h
    · exact kb x _ (by blk_simp [idx7 t]; omega) (by blk_simp [idx7 t]; omega)
    · exact ka x _ (by blk_simp [idx7 t]; omega) (by blk_simp [idx7 t]; omega)
  · rw [outsAt0_B m c t hc]; frame_out
    canon_tiles x h
    · exact kb x _ (by blk_simp [idx7 t]; omega) (by blk_simp [idx7 t]; omega)
    · exact ka x _ (by blk_simp [idx7 t]; omega) (by blk_simp [idx7 t]; omega)

/-- The same, rounded. -/
theorem final8 (hp : Cert.Pre_Kernel4Ideal_finite4 m) (c : Dev nD) : (dats (F := Ideal) m 0 c).arrAt 8 cfg0.N
    = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  have ka := dr_band m hp c t _ (dhA_band m c t) (band1a m c t)
  have kb := dr_band m hp c t _ (dhB_band m c t) (band1b m c t)
  blk_simp
  rw [after0_8]
  by_cases hc : t.val % 8 = 0
  · rw [outsAt0_A m c t hc]; frame_out
    canon_tiles x h
    · exact kb x _ (by blk_simp [idx8 t]; omega) (by blk_simp [idx8 t]; omega)
    · exact ka x _ (by blk_simp [idx8 t]; omega) (by blk_simp [idx8 t]; omega)
  · rw [outsAt0_B m c t hc]; frame_out
    canon_tiles x h
    · exact kb x _ (by blk_simp [idx8 t]; omega) (by blk_simp [idx8 t]; omega)
    · exact ka x _ (by blk_simp [idx8 t]; omega) (by blk_simp [idx8 t]; omega)

/-! ## The gradients of the gain and the shift -/

/-- The products whose column sums are the gradient of the gain. -/
def prodR (c : Dev nD) (i : S4352x1024.Idx) : EReal := val_main_v28 (F := Ideal) (m ((c : Thread nD τ).loc main_arg1)) i * dhR m c i

theorem last (t : Fin cfg0.N) (h : t.val % 8 = 7) : t.val + 1 = cfg0.N := by
  have h2 : t.val < 8 := t.isLt
  show t.val + 1 = 8
  omega

/-- The column sums of one tile of rows, band by band. -/
def tileSum (f : S4352x1024.Idx → EReal) (t : Fin cfg0.N) (y : S1x1024.Idx) : EReal :=
  (∑ r : Fin 272, f (ix2 ⟨t.val * 544 + r.val, by have : t.val < 8 := t.isLt; have := r.isLt; omega⟩ (y 1)))
  + ∑ r : Fin 272, f (ix2 ⟨t.val * 544 + (272 + r.val), by have : t.val < 8 := t.isLt; have := r.isLt; omega⟩ (y 1))

theorem tileSum_eq (f : S4352x1024.Idx → EReal) (t : Fin cfg0.N) (y : S1x1024.Idx) :
    tileSum f t y = ∑ r : Fin 544, f (ix2 ⟨t.val * 544 + r.val, by have : t.val < 8 := t.isLt; have := r.isLt; omega⟩ (y 1)) :=
  (Fin.sum_univ_add (a := 272) (b := 272) (fun r : Fin 544 => f (ix2 ⟨t.val * 544 + r.val, by have : t.val < 8 := t.isLt; have := r.isLt; omega⟩ (y 1)))).symm

theorem tiles_sum (f : S4352x1024.Idx → EReal) (y : S1x1024.Idx) (g : Fin 4352 → EReal) (h : ∀ k, f (ix2 k (y 1)) = g k) :
    ∑ t : Fin cfg0.N, tileSum f t y = ∑ k, g k := by
  rw [Finset.sum_congr rfl fun t _ => tileSum_eq f t y]
  exact Fin.sum_mul_add_congr (S := 8) (n := 544) (L := 4352) (fun p r hl => h _) rfl

theorem prod_band (c : Dev nD) (p : ℕ) {u r} (hu : Band (dhR m c) p u) (hr : Band (m ((c : Thread nD τ).loc main_arg1)) p r) :
    Band (prodR m c) p (fun x => u x * k0_pay6 (F := Ideal) r x) := by
  intro x i h0 h1
  obtain ⟨a, b, rfl⟩ : ∃ a b, x = ix2 a b := ⟨x 0, x 1, eq_ix2 x⟩
  obtain ⟨s, q, rfl⟩ : ∃ s q, i = ix2 s q := ⟨i 0, i 1, eq_ix2 i⟩
  obtain rfl : q = b := Fin.ext h1
  dsimp only
  rw [prodR, hat_K, hat_R, hu _ (ix2 s q) h0 h1, mul_comm]
  congr 2
  exact funext fun k => hr _ _ h0 rfl

theorem gain_step (c : Dev nD) (t : Fin cfg0.N) (o : Vec Ideal S1x1024 .f32) (y : S1x1024.Idx) {u v r s}
    (hu : Band (dhR m c) (t.val * 544) u) (hr : Band (m ((c : Thread nD τ).loc main_arg1)) (t.val * 544) r)
    (hv : Band (dhR m c) (t.val * 544 + 272) v) (hs : Band (m ((c : Thread nD τ).loc main_arg1)) (t.val * 544 + 272) s) :
    k0_pay21 (F := Ideal) v (k0_pay6 s) (k0_pay21 u (k0_pay6 r) o) y = o y + tileSum (prodR m c) t y := by
  have ea := prod_band m c _ hu hr
  have eb := prod_band m c _ hv hs
  rw [tileSum, Finset.sum_congr rfl fun q _ => (ea (ix2 q (y 1)) _ rfl rfl).symm, Finset.sum_congr rfl fun q _ => (eb (ix2 q (y 1)) _ (Nat.add_assoc _ _ _).symm rfl).symm, ← add_assoc]
  generalize k0_pay6 (F := Ideal) r = h
  generalize k0_pay6 (F := Ideal) s = h'
  pointwise [k0_pay21]

theorem shift_step (c : Dev nD) (t : Fin cfg0.N) (o : Vec Ideal S1x1024 .f32) (y : S1x1024.Idx) {u v}
    (hu : Band (dhR m c) (t.val * 544) u) (hv : Band (dhR m c) (t.val * 544 + 272) v) :
    k0_pay22 (F := Ideal) v (k0_pay22 u o) y = o y + tileSum (dhR m c) t y := by
  rw [tileSum, Finset.sum_congr rfl fun q _ => (hu (ix2 q (y 1)) _ rfl rfl).symm, Finset.sum_congr rfl fun q _ => (hv (ix2 q (y 1)) _ (Nat.add_assoc _ _ _).symm rfl).symm, ← add_assoc]
  pointwise [k0_pay22]

theorem final9 (c : Dev nD) : (dats (F := Ideal) m 0 c).arrAt 9 cfg0.N
    = val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  refine (Pipeline.eq_sum_fin_of_reset_step_apply_last (fun n (h : n < cfg0.N) => (outsAt0 m c n h).2.2.1) 8 (fun _ => 0) (tileSum (prodR m c))
    (fun t hc y => ?_) (fun t hc y => ?_) (by decide +kernel) t (last t ((flush0_9 t).mp hf)) y).trans ?_
  · rw [outsAt0_A m c t hc]; frame_out
    refine (gain_step m c t (k0_pay17 (F := Ideal)) y (dhA_band m c t) (band1a m c t) (dhB_band m c t) (band1b m c t)).trans ?_
    congr 1
    pointwise [k0_pay17]
  · rw [outsAt0_B m c t hc]; frame_out
    exact gain_step m c t _ y (dhA_band m c t) (band1a m c t) (dhB_band m c t) (band1b m c t)
  · pointwise [val_main_v44, val_main_v43, val_main_v42, val_main_cst_10]
    refine tiles_sum _ y _ fun k => ?_
    blk_point [prodR, idx9 t]

theorem final10 (c : Dev nD) : (dats (F := Ideal) m 0 c).arrAt 10 cfg0.N
    = val_main_v41 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  refine (Pipeline.eq_sum_fin_of_reset_step_apply_last (fun n (h : n < cfg0.N) => (outsAt0 m c n h).2.2.2) 8 (fun _ => 0) (tileSum (dhR m c))
    (fun t hc y => ?_) (fun t hc y => ?_) (by decide +kernel) t (last t ((flush0_10 t).mp hf)) y).trans ?_
  · rw [outsAt0_A m c t hc]; frame_out
    refine (shift_step m c t (k0_pay18 (F := Ideal)) y (dhA_band m c t) (dhB_band m c t)).trans ?_
    congr 1
    pointwise [k0_pay18]
  · rw [outsAt0_B m c t hc]; frame_out
    exact shift_step m c t _ y (dhA_band m c t) (dhB_band m c t)
  · pointwise [val_main_v41, val_main_v40, val_main_cst_9]
    refine tiles_sum _ y _ fun k => ?_
    blk_point [idx10 t]

end Cert.Kernel4Ideal.InLnBack

end
-- ==== Proof.Products.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.Kernel5Ideal.DwDown

open Cert.Kernel5Ideal Cert.Kernel5Ideal.Gen

variable (m : (ℓ : Loc nD τ sig) → Buf (Elt Ideal) ℓ)

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

open Cert.Reference5Ideal.Read in
/-- The weight gradient of the second feed-forward product. -/
theorem final (c : Dev nD) : (dats (F := Ideal) m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_cst, val_main_v0, val_main_v1, val_main_v2, val_main_v3, val_main_v4, val_main_v5]
  refine Tiles.sum_mul_swap (fun k => ?_) (fun k => ?_)
  · blk_point [iblk, V, idx0 t, idx1 t, idx2 t]
  · blk_point [iblk, V, idx0 t, idx1 t, idx2 t]

end Cert.Kernel5Ideal.DwDown

namespace Cert.Kernel6Ideal.DwOut

open Cert.Kernel6Ideal Cert.Kernel6Ideal.Gen

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

open Cert.Reference6Ideal.Read in
/-- The weight gradient of the output projection. -/
theorem final (c : Dev nD) : (dats (F := Ideal) m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_cst, val_main_v0, val_main_v1, val_main_v2, val_main_v3, val_main_v4, val_main_v5]
  refine Tiles.sum_mul_swap (fun k => ?_) (fun k => ?_)
  · blk_point [iblk, V, idx0 t, idx1 t, idx2 t]
  · blk_point [iblk, V, idx0 t, idx1 t, idx2 t]

end Cert.Kernel6Ideal.DwOut

namespace Cert.Kernel7Ideal.DwUp

open Cert.Kernel7Ideal Cert.Kernel7Ideal.Gen

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![t.val / 2, 0, t.val % 2] := (by decide +kernel : ∀ t : Fin grid0.N, _)
theorem idx2 : ∀ t : Fin cfg0.N, win0_2.index t = ![t.val, 0, 0] := (by decide +kernel : ∀ t : Fin grid0.N, _)

open Cert.Reference7Ideal.Read in
/-- The weight gradient of the first feed-forward product, by chip. -/
theorem final (c : Dev nD) : (dats (F := Ideal) m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v0, val_main_v1, val_main_v2, val_main_v3, val_main_v4, val_main_v5, val_main_v6, val_main_cst, val_main_v7, val_main_v8, val_main_v9, val_main_v10, val_main_v11, val_main_v12, val_main_v13]
  refine Tiles.sum_mul_swap (fun k => ?_) (fun k => ?_)
  · blk_point [iblk, V, idx0 t, idx1 t, idx2 t]
  · have hy : (y 2).val < 1408 := (y 2).isLt
    have ht : t.val < 4 := t.isLt
    by_cases h : t.val < 2
    · have hd : t.val / 2 = 0 := by omega
      have hm : t.val % 2 = t.val := by omega
      rw [dif_pos (by blk_simp [idx2 t]; omega)]
      blk_point [iblk, V, idx0 t, idx1 t, idx2 t, hd, hm]
    · have hd : t.val / 2 = 1 := by omega
      have hm : t.val % 2 = t.val - 2 := by omega
      rw [dif_neg (by blk_simp [idx2 t]; omega)]
      blk_point [iblk, V, idx0 t, idx1 t, idx2 t, hd, hm]

end Cert.Kernel7Ideal.DwUp

namespace Cert.Kernel8Ideal.DwProj

open Cert.Kernel8Ideal Cert.Kernel8Ideal.Gen

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![t.val, 0, 0] := (by decide +kernel : ∀ t : Fin grid0.N, _)

open Cert.Reference8Ideal.Read in
/-- The weight gradient of a branch projection, by chip. -/
theorem final (c : Dev nD) : (dats (F := Ideal) m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_cst, val_main_v0, val_main_v1, val_main_v2, val_main_v3, val_main_v4, val_main_v5, val_main_v6, val_main_v7]
  refine Tiles.sum_mul_swap (fun k => ?_) (fun k => ?_)
  · blk_point [iblk, V, idx0 t, idx1 t, idx2 t]
  · blk_point [iblk, V, idx0 t, idx1 t, idx2 t]

end Cert.Kernel8Ideal.DwProj

namespace Cert.Kernel9Ideal.DwGates

open Cert.Kernel9Ideal Cert.Kernel9Ideal.Gen

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

open Cert.Reference9Ideal.Read in
/-- The weight gradient of the gate columns of the input projection. -/
theorem final (c : Dev nD) : (dats (F := Ideal) m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_cst, val_main_v0, val_main_v1, val_main_v2, val_main_v3, val_main_v4, val_main_v5]
  refine Tiles.sum_mul_swap (fun k => ?_) (fun k => ?_)
  · blk_point [iblk, V, idx0 t, idx1 t, idx2 t]
  · blk_point [iblk, V, idx0 t, idx1 t, idx2 t]

end Cert.Kernel9Ideal.DwGates

namespace Cert.Kernel10Ideal.DwQkv

open Cert.Kernel10Ideal Cert.Kernel10Ideal.Gen

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

open Cert.Reference10Ideal.Read in
/-- The weight gradient of the query, key and value columns of the input projection. -/
theorem final (c : Dev nD) : (dats (F := Ideal) m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_cst, val_main_v0, val_main_v1, val_main_v2, val_main_v3, val_main_v4, val_main_v5]
  refine Tiles.sum_mul_swap (fun k => ?_) (fun k => ?_)
  · blk_point [iblk, V, idx0 t, idx1 t, idx2 t]
  · blk_point [iblk, V, idx0 t, idx1 t, idx2 t]

end Cert.Kernel10Ideal.DwQkv

end
-- ==== Proof.Forward.lean ====
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The input projection. -/

namespace Cert.Kernel11Ideal.InProj

open Cert.Kernel11Ideal Cert.Kernel11Ideal.Gen

variable (m : (ℓ : Loc nD τ sig) → Buf (Elt Ideal) ℓ)

theorem idx0 : ∀ t : Fin cfg0.N, win0_0.index t = ![t.val % 8, 0] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![0, t.val / 8] := (by decide +kernel : ∀ t : Fin grid0.N, _)
theorem idx3 : ∀ t : Fin cfg0.N, win0_3.index t = ![t.val % 8, t.val / 8] := (by decide +kernel : ∀ t : Fin grid0.N, _)

open Cert.Reference11Ideal.Read in
theorem final (c : Dev nD) : (dats (F := Ideal) m 0 c).arrAt 3 cfg0.N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, val_main_v0, val_main_v1, val_main_v2, val_main_v3, val_main_v4]
  blk_point [iblk, V, idx0 t, idx1 t, idx2 t, idx3 t]

end Cert.Kernel11Ideal.InProj

/-! The two branch projections and the gated merge. -/

namespace Cert.Kernel14Ideal.Mix

open Cert.Kernel14Ideal Cert.Kernel14Ideal.Gen

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 1] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

theorem X4_at (c : Dev nD) (t : Fin cfg0.N) (y : S544x1024.Idx) :
    X0_4 m c t y = m ((c : Thread nD τ).loc main_arg4) (ix2 ⟨t.val * 544 + (y 0).val, by have : (y 0).val < 544 := (y 0).isLt; have : t.val < 8 := N_0 ▸ t.isLt; omega⟩ ⟨(y 1).val, by have : (y 1).val < 1024 := (y 1).isLt; omega⟩) := by
  unfold X0_4 Pipeline.Window.fill
  rw [dif_pos (moved0_4 t y)]
  blk_point [iblk, V, idx4 t]

theorem X5_at (c : Dev nD) (t : Fin cfg0.N) (y : S544x1024.Idx) :
    X0_5 m c t y = m ((c : Thread nD τ).loc main_arg4) (ix2 ⟨t.val * 544 + (y 0).val, by have : (y 0).val < 544 := (y 0).isLt; have : t.val < 8 := N_0 ▸ t.isLt; omega⟩ ⟨1024 + (y 1).val, by have : (y 1).val < 1024 := (y 1).isLt; omega⟩) := by
  unfold X0_5 Pipeline.Window.fill
  rw [dif_pos (moved0_5 t y)]
  blk_point [iblk, V, idx5 t]

open Cert.Reference14Ideal.Read

theorem final6 (c : Dev nD) : (dats (F := Ideal) m 0 c).arrAt 6 cfg0.N
    = val_main_v28 (F := Ideal) (m ((c : Thread nD τ).loc main_arg0)) (m ((c : Thread nD τ).loc main_arg2)) := by
  refine (dats m 0 c).arrAt_eq_of_covers 6 _ (by decide +kernel) fun t hf y => ?_
  blk_simp
  rw [after0_6, outsAt0]; frame_out
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_v20, val_main_v21, val_main_cst_1, val_main_v22, val_main_v23, val_main_cst_2, val_main_v24, val_main_v25, val_main_v26, val_main_v27, val_main_v28, val_main_v29, val_main_v30]
    blk_point [iblk, V, idx0 t, idx1 t, idx2 t, idx3 t, idx6 t, h0, h1]

theorem final7 (c : Dev nD) : (dats (F := Ideal) m 0 c).arrAt 7 cfg0.N
    = val_main_v29 (F := Ideal) (m ((c : Thread nD τ).loc main_arg1)) (m ((c : Thread nD τ).loc main_arg3)) := by
  refine (dats m 0 c).arrAt_eq_of_covers 7 _ (by decide +kernel) fun t hf y => ?_
  blk_simp
  rw [after0_7, outsAt0]; frame_out
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_v20, val_main_v21, val_main_cst_1, val_main_v22, val_main_v23, val_main_cst_2, val_main_v24, val_main_v25, val_main_v26, val_main_v27, val_main_v28, val_main_v29, val_main_v30]
    blk_point [iblk, V, idx0 t, idx1 t, idx2 t, idx3 t, idx7 t, h0, h1]

set_option maxHeartbeats 1600000 in
theorem final8 (c : Dev nD) : (dats (F := Ideal) m 0 c).arrAt 8 cfg0.N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, outsAt0]; frame_out
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_v20, val_main_v21, val_main_cst_1, val_main_v22, val_main_v23, val_main_cst_2, val_main_v24, val_main_v25, val_main_v26, val_main_v27, val_main_v28, val_main_v29, val_main_v30]
    simp only [zero_sub]
    rw [X4_at, X5_at]
    blk_point [iblk, V, idx0 t, idx1 t, idx2 t, idx3 t, idx8 t, h0, h1]

end Cert.Kernel14Ideal.Mix

end
-- ==== Proof.ResLn.lean ====
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Norm

@[expose] public section

set_option maxRecDepth 16384

noncomputable section

open Idealize.ShloMosaic Idealize.ShloMosaic.TcCoe Idealize.SL.Sem
open Idealize.ShloMosaic.Pipeline (Dat)

/-! The second feed-forward product, the residual and the norm. -/

namespace Cert.Kernel12Ideal.FfnDown

open Cert.Kernel12Ideal Cert.Kernel12Ideal.Gen

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

open Cert.Reference12Ideal.Read

/-- The sum before the norm, of the reference. -/
abbrev sumR (c : Dev nD) : S4352x1024.Idx → EReal := val_main_v5 (F := Ideal) (m ((c : Thread nD τ).loc main_arg0)) (m ((c : Thread nD τ).loc main_arg1)) (m ((c : Thread nD τ).loc main_arg2))
/-- The output of the norm, of the reference. -/
abbrev outR (c : Dev nD) : S4352x1024.Idx → EReal := val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem norm_R (p q r) (a : Fin 4352) (b : Fin 1024) :
    val_main_v23 (F := Ideal) p q r (ix2 a b) = Norm.hat Norm.n1024 Norm.eps (fun k => val_main_v5 (F := Ideal) p q r (ix2 a k)) b := by
  pointwise [val_main_cst_0, val_main_v6, val_main_v7, val_main_cst_1, val_main_v8, val_main_v9, val_main_v10, val_main_v11, val_main_v12, val_main_cst_2, val_main_v13, val_main_v14, val_main_cst_3, val_main_v15, val_main_v16, val_main_v17, val_main_v18, val_main_cst_4, val_main_v19, val_main_v20, val_main_v21, val_main_v22, val_main_v23]
  rfl

theorem out_R (c : Dev nD) (a : Fin 4352) (b : Fin 1024) : outR m c (ix2 a b)
    = Norm.hat Norm.n1024 Norm.eps (fun k => sumR m c (ix2 a k)) b * m ((c : Thread nD τ).loc main_arg3) (ix2 0 b) + m ((c : Thread nD τ).loc main_arg4) (ix2 0 b) := by
  rw [← norm_R]
  pointwise [val_main_v24, val_main_v25, val_main_v26, val_main_v27, val_main_v28]

theorem norm_K (p q r) (a : Fin 272) (b : Fin 1024) :
    k0_pay3 (F := Ideal) p q r (ix2 a b) = Norm.hat Norm.n1024 Norm.eps (fun k => k0_pay1 (F := Ideal) p q r (ix2 a k)) b := by
  pointwise [k0_pay3]
  rfl

theorem out_a (p) (g b : Vec Ideal S1x1024 .f32) (x : Fin 272) (y : Fin 1024) :
    k0_pay4 (F := Ideal) p g b (ix2 x y) = p (ix2 x y) * g (ix2 0 y) + b (ix2 0 y) := by
  pointwise [k0_pay4]

theorem out_b (p) (g b : Vec Ideal S1x1024 .f32) (x : Fin 272) (y : Fin 1024) :
    k0_pay6 (F := Ideal) p g b (ix2 x y) = Norm.hat Norm.n1024 Norm.eps (fun k => p (ix2 x k)) y * g (ix2 0 y) + b (ix2 0 y) := by
  pointwise [k0_pay6]
  rfl

theorem sum_a (c : Dev nD) (t : Fin cfg0.N) (x : S272x1024.Idx) (i : S4352x1024.Idx) (h0 : (i 0).val = t.val * 544 + (x 0).val) (h1 : (i 1).val = (x 1).val) :
    k0_pay1 (F := Ideal) (View.ld (iblk m c 0 t) r0_0) (View.ld (iblk m c 1 t) r0_1) (View.ld (iblk m c 2 t) r0_3) x = sumR m c i := by
  pointwise [k0_pay1, val_main_cst, val_main_v0, val_main_v1, val_main_v2, val_main_v3, val_main_v4, val_main_v5]
  blk_point [iblk, V, idx0 t, idx1 t, idx2 t, h0, h1]

theorem sum_b (c : Dev nD) (t : Fin cfg0.N) (x : S272x1024.Idx) (i : S4352x1024.Idx) (h0 : (i 0).val = t.val * 544 + 272 + (x 0).val) (h1 : (i 1).val = (x 1).val) :
    k0_pay2 (F := Ideal) (View.ld (iblk m c 0 t) r0_2) (View.ld (iblk m c 1 t) r0_1) (View.ld (iblk m c 2 t) r0_4) x = sumR m c i := by
  pointwise [k0_pay2, val_main_cst, val_main_v0, val_main_v1, val_main_v2, val_main_v3, val_main_v4, val_main_v5]
  blk_point [iblk, V, idx0 t, idx1 t, idx2 t, h0, h1]

theorem gain (c : Dev nD) (t : Fin cfg0.N) (b : Fin 1024) : View.ld (iblk m c 3 t) r0_5 (ix2 (n0 := 1) (n1 := 1024) 0 b) = m ((c : Thread nD τ).loc main_arg3) (ix2 0 b) := by
  blk_point [iblk, V, idx3 t]

theorem shift (c : Dev nD) (t : Fin cfg0.N) (b : Fin 1024) : View.ld (iblk m c 4 t) r0_5 (ix2 (n0 := 1) (n1 := 1024) 0 b) = m ((c : Thread nD τ).loc main_arg4) (ix2 0 b) := by
  blk_point [iblk, V, idx4 t]

theorem last_b (c : Dev nD) (t : Fin cfg0.N) (x : S272x1024.Idx) (i : S4352x1024.Idx) (h0 : (i 0).val = t.val * 544 + 272 + (x 0).val) (h1 : (i 1).val = (x 1).val) :
    k0_pay6 (F := Ideal) (k0_pay8 (F := Ideal) (iblk m c 0 t) (iblk m c 1 t) (iblk m c 2 t) (iblk m c 3 t) (iblk m c 4 t)) (View.ld (iblk m c 3 t) r0_5) (View.ld (iblk m c 4 t) r0_5) x = outR m c i := by
  obtain ⟨a, b, rfl⟩ : ∃ a b, x = ix2 a b := ⟨x 0, x 1, eq_ix2 x⟩
  obtain ⟨p, q, rfl⟩ : ∃ p q, i = ix2 p q := ⟨i 0, i 1, eq_ix2 i⟩
  obtain rfl : q = b := Fin.ext h1
  rw [out_b, out_R, gain m c t, shift m c t]
  congr 3
  exact funext fun k => sum_b m c t _ _ h0 rfl

theorem last_a (c : Dev nD) (t : Fin cfg0.N) (x : S272x1024.Idx) (i : S4352x1024.Idx) (h0 : (i 0).val = t.val * 544 + (x 0).val) (h1 : (i 1).val = (x 1).val) :
    k0_pay4 (F := Ideal) (k0_pay9 (F := Ideal) (iblk m c 0 t) (iblk m c 1 t) (iblk m c 2 t) (iblk m c 3 t) (iblk m c 4 t)) (View.ld (iblk m c 3 t) r0_5) (View.ld (iblk m c 4 t) r0_5) x = outR m c i := by
  obtain ⟨a, b, rfl⟩ : ∃ a b, x = ix2 a b := ⟨x 0, x 1, eq_ix2 x⟩
  obtain ⟨p, q, rfl⟩ : ∃ p q, i = ix2 p q := ⟨i 0, i 1, eq_ix2 i⟩
  obtain rfl : q = b := Fin.ext h1
  rw [out_a, out_R, k0_pay9, norm_K, gain m c t, shift m c t]
  congr 3
  exact funext fun k => sum_a m c t _ _ h0 rfl

/-- The stored sums are the reference's. -/
theorem final5 (c : Dev nD) : (dats (F := Ideal) m 0 c).arrAt 5 cfg0.N = sumR m c := by
  refine (dats m 0 c).arrAt_eq_of_covers 5 _ (by decide +kernel) fun t hf y => ?_
  blk_simp
  rw [after0_5, out0_5]
  canon_tiles x h
  · exact sum_b m c t x (((View.whole main_v0_0).slice (win0_5.rect t)).emb y) (by blk_simp [idx5 t]; omega) (by blk_simp [idx5 t]; omega)
  · exact sum_a m c t x (((View.whole main_v0_0).slice (win0_5.rect t)).emb y) (by blk_simp [idx5 t]; omega) (by blk_simp [idx5 t]; omega)

/-- The stored norms are the reference's. -/
theorem final6 (c : Dev nD) : (dats (F := Ideal) m 0 c).arrAt 6 cfg0.N = outR m c := by
  refine (dats m 0 c).arrAt_eq_of_covers 6 _ (by decide +kernel) fun t hf y => ?_
  blk_simp
  rw [after0_6, out0_6]
  canon_tiles x h
  · exact last_b m c t x (((View.whole main_v0_1).slice (win0_6.rect t)).emb y) (by blk_simp [idx6 t]; omega) (by blk_simp [idx6 t]; omega)
  · exact last_a m c t x (((View.whole main_v0_1).slice (win0_6.rect t)).emb y) (by blk_simp [idx6 t]; omega) (by blk_simp [idx6 t]; omega)

/-- The rounded norms: over the reals the rounding is the identity. -/
theorem final7 (c : Dev nD) : (dats (F := Ideal) m 0 c).arrAt 7 cfg0.N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, out0_7]
  canon_tiles x h
  · pointwise [k0_pay7, val_main_v28]
    exact last_b m c t x (((View.whole main_v0_2).slice (win0_7.rect t)).emb y) (by blk_simp [idx7 t]; omega) (by blk_simp [idx7 t]; omega)
  · pointwise [k0_pay5, val_main_v28]
    exact last_a m c t x (((View.whole main_v0_2).slice (win0_7.rect t)).emb y) (by blk_simp [idx7 t]; omega) (by blk_simp [idx7 t]; omega)

end Cert.Kernel12Ideal.FfnDown

/-! The output projection, the residual and the norm. -/

namespace Cert.Kernel13Ideal.OutProj

open Cert.Kernel13Ideal Cert.Kernel13Ideal.Gen

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

open Cert.Reference13Ideal.Read

/-- The sum before the norm, of the reference. -/
abbrev sumR (c : Dev nD) : S4352x1024.Idx → EReal := val_main_v5 (F := Ideal) (m ((c : Thread nD τ).loc main_arg0)) (m ((c : Thread nD τ).loc main_arg1)) (m ((c : Thread nD τ).loc main_arg2))
/-- The output of the norm, of the reference. -/
abbrev outR (c : Dev nD) : S4352x1024.Idx → EReal := val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem norm_R (p q r) (a : Fin 4352) (b : Fin 1024) :
    val_main_v23 (F := Ideal) p q r (ix2 a b) = Norm.hat Norm.n1024 Norm.eps (fun k => val_main_v5 (F := Ideal) p q r (ix2 a k)) b := by
  pointwise [val_main_cst_0, val_main_v6, val_main_v7, val_main_cst_1, val_main_v8, val_main_v9, val_main_v10, val_main_v11, val_main_v12, val_main_cst_2, val_main_v13, val_main_v14, val_main_cst_3, val_main_v15, val_main_v16, val_main_v17, val_main_v18, val_main_cst_4, val_main_v19, val_main_v20, val_main_v21, val_main_v22, val_main_v23]
  rfl

theorem out_R (c : Dev nD) (a : Fin 4352) (b : Fin 1024) : outR m c (ix2 a b)
    = Norm.hat Norm.n1024 Norm.eps (fun k => sumR m c (ix2 a k)) b * m ((c : Thread nD τ).loc main_arg3) (ix2 0 b) + m ((c : Thread nD τ).loc main_arg4) (ix2 0 b) := by
  rw [← norm_R]
  pointwise [val_main_v24, val_main_v25, val_main_v26, val_main_v27, val_main_v28]

theorem norm_K (p q r) (a : Fin 272) (b : Fin 1024) :
    k0_pay3 (F := Ideal) p q r (ix2 a b) = Norm.hat Norm.n1024 Norm.eps (fun k => k0_pay1 (F := Ideal) p q r (ix2 a k)) b := by
  pointwise [k0_pay3]
  rfl

theorem out_a (p) (g b : Vec Ideal S1x1024 .f32) (x : Fin 272) (y : Fin 1024) :
    k0_pay4 (F := Ideal) p g b (ix2 x y) = p (ix2 x y) * g (ix2 0 y) + b (ix2 0 y) := by
  pointwise [k0_pay4]

theorem out_b (p) (g b : Vec Ideal S1x1024 .f32) (x : Fin 272) (y : Fin 1024) :
    k0_pay6 (F := Ideal) p g b (ix2 x y) = Norm.hat Norm.n1024 Norm.eps (fun k => p (ix2 x k)) y * g (ix2 0 y) + b (ix2 0 y) := by
  pointwise [k0_pay6]
  rfl

theorem sum_a (c : Dev nD) (t : Fin cfg0.N) (x : S272x1024.Idx) (i : S4352x1024.Idx) (h0 : (i 0).val = t.val * 544 + (x 0).val) (h1 : (i 1).val = (x 1).val) :
    k0_pay1 (F := Ideal) (View.ld (iblk m c 0 t) r0_0) (View.ld (iblk m c 1 t) r0_1) (View.ld (iblk m c 2 t) r0_0) x = sumR m c i := by
  pointwise [k0_pay1, val_main_cst, val_main_v0, val_main_v1, val_main_v2, val_main_v3, val_main_v4, val_main_v5]
  blk_point [iblk, V, idx0 t, idx1 t, idx2 t, h0, h1]

theorem sum_b (c : Dev nD) (t : Fin cfg0.N) (x : S272x1024.Idx) (i : S4352x1024.Idx) (h0 : (i 0).val = t.val * 544 + 272 + (x 0).val) (h1 : (i 1).val = (x 1).val) :
    k0_pay2 (F := Ideal) (View.ld (iblk m c 0 t) r0_2) (View.ld (iblk m c 1 t) r0_1) (View.ld (iblk m c 2 t) r0_2) x = sumR m c i := by
  pointwise [k0_pay2, val_main_cst, val_main_v0, val_main_v1, val_main_v2, val_main_v3, val_main_v4, val_main_v5]
  blk_point [iblk, V, idx0 t, idx1 t, idx2 t, h0, h1]

theorem gain (c : Dev nD) (t : Fin cfg0.N) (b : Fin 1024) : View.ld (iblk m c 3 t) r0_3 (ix2 (n0 := 1) (n1 := 1024) 0 b) = m ((c : Thread nD τ).loc main_arg3) (ix2 0 b) := by
  blk_point [iblk, V, idx3 t]

theorem shift (c : Dev nD) (t : Fin cfg0.N) (b : Fin 1024) : View.ld (iblk m c 4 t) r0_3 (ix2 (n0 := 1) (n1 := 1024) 0 b) = m ((c : Thread nD τ).loc main_arg4) (ix2 0 b) := by
  blk_point [iblk, V, idx4 t]

theorem last_b (c : Dev nD) (t : Fin cfg0.N) (x : S272x1024.Idx) (i : S4352x1024.Idx) (h0 : (i 0).val = t.val * 544 + 272 + (x 0).val) (h1 : (i 1).val = (x 1).val) :
    k0_pay6 (F := Ideal) (k0_pay8 (F := Ideal) (iblk m c 0 t) (iblk m c 1 t) (iblk m c 2 t) (iblk m c 3 t) (iblk m c 4 t)) (View.ld (iblk m c 3 t) r0_3) (View.ld (iblk m c 4 t) r0_3) x = outR m c i := by
  obtain ⟨a, b, rfl⟩ : ∃ a b, x = ix2 a b := ⟨x 0, x 1, eq_ix2 x⟩
  obtain ⟨p, q, rfl⟩ : ∃ p q, i = ix2 p q := ⟨i 0, i 1, eq_ix2 i⟩
  obtain rfl : q = b := Fin.ext h1
  rw [out_b, out_R, gain m c t, shift m c t]
  congr 3
  exact funext fun k => sum_b m c t _ _ h0 rfl

theorem last_a (c : Dev nD) (t : Fin cfg0.N) (x : S272x1024.Idx) (i : S4352x1024.Idx) (h0 : (i 0).val = t.val * 544 + (x 0).val) (h1 : (i 1).val = (x 1).val) :
    k0_pay4 (F := Ideal) (k0_pay9 (F := Ideal) (iblk m c 0 t) (iblk m c 1 t) (iblk m c 2 t) (iblk m c 3 t) (iblk m c 4 t)) (View.ld (iblk m c 3 t) r0_3) (View.ld (iblk m c 4 t) r0_3) x = outR m c i := by
  obtain ⟨a, b, rfl⟩ : ∃ a b, x = ix2 a b := ⟨x 0, x 1, eq_ix2 x⟩
  obtain ⟨p, q, rfl⟩ : ∃ p q, i = ix2 p q := ⟨i 0, i 1, eq_ix2 i⟩
  obtain rfl : q = b := Fin.ext h1
  rw [out_a, out_R, k0_pay9, norm_K, gain m c t, shift m c t]
  congr 3
  exact funext fun k => sum_a m c t _ _ h0 rfl

/-- The stored sums are the reference's. -/
theorem final5 (c : Dev nD) : (dats (F := Ideal) m 0 c).arrAt 5 cfg0.N = sumR m c := by
  refine (dats m 0 c).arrAt_eq_of_covers 5 _ (by decide +kernel) fun t hf y => ?_
  blk_simp
  rw [after0_5, out0_5]
  canon_tiles x h
  · exact sum_b m c t x (((View.whole main_v0_0).slice (win0_5.rect t)).emb y) (by blk_simp [idx5 t]; omega) (by blk_simp [idx5 t]; omega)
  · exact sum_a m c t x (((View.whole main_v0_0).slice (win0_5.rect t)).emb y) (by blk_simp [idx5 t]; omega) (by blk_simp [idx5 t]; omega)

/-- The stored norms are the reference's. -/
theorem final6 (c : Dev nD) : (dats (F := Ideal) m 0 c).arrAt 6 cfg0.N = outR m c := by
  refine (dats m 0 c).arrAt_eq_of_covers 6 _ (by decide +kernel) fun t hf y => ?_
  blk_simp
  rw [after0_6, out0_6]
  canon_tiles x h
  · exact last_b m c t x (((View.whole main_v0_1).slice (win0_6.rect t)).emb y) (by blk_simp [idx6 t]; omega) (by blk_simp [idx6 t]; omega)
  · exact last_a m c t x (((View.whole main_v0_1).slice (win0_6.rect t)).emb y) (by blk_simp [idx6 t]; omega) (by blk_simp [idx6 t]; omega)

/-- The rounded norms: over the reals the rounding is the identity. -/
theorem final7 (c : Dev nD) : (dats (F := Ideal) m 0 c).arrAt 7 cfg0.N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, out0_7]
  canon_tiles x h
  · pointwise [k0_pay7, val_main_v28]
    exact last_b m c t x (((View.whole main_v0_2).slice (win0_7.rect t)).emb y) (by blk_simp [idx7 t]; omega) (by blk_simp [idx7 t]; omega)
  · pointwise [k0_pay5, val_main_v28]
    exact last_a m c t x (((View.whole main_v0_2).slice (win0_7.rect t)).emb y) (by blk_simp [idx7 t]; omega) (by blk_simp [idx7 t]; omega)

end Cert.Kernel13Ideal.OutProj

end
-- ==== Proof.Optimiser.lean ====
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Bias

@[expose] public section

set_option maxRecDepth 16384

noncomputable section

open Idealize.ShloMosaic Idealize.ShloMosaic.TcCoe Idealize.SL.Sem
open Idealize.ShloMosaic.Pipeline (Dat)

/-! One step of the optimiser on the packed small weights. -/

namespace Cert.Kernel15Ideal.Small

open Cert.Kernel15Ideal Cert.Kernel15Ideal.Gen

variable (m : (ℓ : Loc nD τ sig) → Buf (Elt Ideal) ℓ)

open Cert.Reference15Ideal.Read

/-- The step. -/
theorem final4 (c : Dev nD) : (dats (F := Ideal) m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (Value.final4 m c).trans (funext fun i => ?_)
  dsimp only [Value.G4]
  rw [Bias.first (κ := κ) rfl, Bias.second (κ := κ) rfl]
  rfl

/-- The new mean of the gradients. -/
theorem final5 (c : Dev nD) : (dats (F := Ideal) m 0 c).arrAt 5 cfg0.N
    = val_main_v4 (F := Ideal) (m ((c : Thread nD τ).loc main_arg1)) (m ((c : Thread nD τ).loc main_arg2)) :=
  (Value.final5 m c).trans rfl

/-- The new mean of their squares. -/
theorem final6 (c : Dev nD) : (dats (F := Ideal) m 0 c).arrAt 6 cfg0.N
    = val_main_v10 (F := Ideal) (m ((c : Thread nD τ).loc main_arg1)) (m ((c : Thread nD τ).loc main_arg3)) :=
  (Value.final6 m c).trans rfl

end Cert.Kernel15Ideal.Small

end
-- ==== Proof.MatrixIn.lean ====
module

public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Pre_two_cores
public import proofs.«01_k».proof.Defs
public import proofs.«01_k».proof.Proof.Matrix

@[expose] public section

set_option maxRecDepth 16384

noncomputable section

open Idealize.ShloMosaic Idealize.ShloMosaic.TcCoe Idealize.SL.Sem
open Idealize.ShloMosaic.Pipeline (Dat)

/-! The optimiser's step on the input weight: where its blocks lie. -/

namespace Cert.Kernel16.Matrix

open Cert.Kernel16 Cert.Kernel16.Gen Cert.Matrix

/-- With either number every block lies in its array. -/
theorem ok_of_pre (m : (ℓ : Loc nD τ sig) → Buf (Elt Bits) ℓ) (h : Cert.Pre_Kernel16 m) : Ok (F := Bits) m := by
  have one (k : BitVec 32) (h : m (((0 : Dev nD) : Thread nD τ).loc main_arg6) (ix1 (n0 := 1) 0) = k) : tbl m = fun | ⟨0, _⟩ => fun _ => k | ⟨_ + 1, h⟩ => absurd h (by simp) := by
    funext j x
    match j with
    | ⟨0, _⟩ => exact (congrArg (m (((0 : Dev nD) : Thread nD τ).loc main_arg6)) (ix_one rfl x _)).trans h
  unfold Ok
  rcases core _ _ (h 0) with e | e <;> rw [one _ e] <;> decide +kernel

end Cert.Kernel16.Matrix

namespace Cert.Kernel16Ideal.Matrix

open Cert.Kernel16Ideal Cert.Kernel16Ideal.Gen Cert.Matrix

variable (m : (ℓ : Loc nD τ sig) → Buf (Elt Ideal) ℓ)

/-- The core's number as the kernel's table. -/
def one (k : BitVec 32) : pre0.Contents (Elt Ideal) := fun | ⟨0, _⟩ => fun _ => k | ⟨_ + 1, h⟩ => absurd h (by simp)

theorem core_of_pre (h : Cert.Pre_Kernel16Ideal m) : ∃ k : Fin 2, tbl m = one (BitVec.ofNat 32 k.val) := by
  have of (k : BitVec 32) (h : m (((0 : Dev nD) : Thread nD τ).loc main_arg6) (ix1 (n0 := 1) 0) = k) : tbl m = one k := by
    funext j x
    match j with
    | ⟨0, _⟩ => exact (congrArg (m (((0 : Dev nD) : Thread nD τ).loc main_arg6)) (ix_one rfl x _)).trans h
  exact (Cert.Matrix.core _ _ (h 0)).elim (fun e => ⟨0, of _ e⟩) fun e => ⟨1, of _ e⟩

theorem ok_of_pre (h : Cert.Pre_Kernel16Ideal m) : Ok (F := Ideal) m := by
  obtain ⟨k, e⟩ := core_of_pre m h
  unfold Ok
  rw [e]
  clear e
  revert k
  decide +kernel

theorem surj : ∀ (a : Fin 2) (b : Fin 2) (d : Fin 1), ∃ i : grid0.Coords, cc0_transform_6 i = ![a.val, b.val, d.val] := by decide +kernel

/-- The blocks of each output cover its array. -/
theorem covers (hO : Ok m) : ((cfgM m hO).win 6).Covers ∧ ((cfgM m hO).win 7).Covers ∧ ((cfgM m hO).win 8).Covers ∧ ((cfgM m hO).win 9).Covers := by
  refine ⟨?_, ?_, ?_, ?_⟩ <;>
  exact Pipeline.Window.covers_of_indexMap_surj _ rfl (by decide : ∀ a, 0 < S1x512x960.size a) fun β =>
    (surj ⟨(β ⟨0, (by decide : 0 < 3)⟩).val, lt_of_lt_of_eq (β ⟨0, (by decide : 0 < 3)⟩).isLt (by with_unfolding_all rfl)⟩ ⟨(β ⟨1, (by decide : 1 < 3)⟩).val, lt_of_lt_of_eq (β ⟨1, (by decide : 1 < 3)⟩).isLt (by with_unfolding_all rfl)⟩
      ⟨(β ⟨2, (by decide : 2 < 3)⟩).val, lt_of_lt_of_eq (β ⟨2, (by decide : 2 < 3)⟩).isLt (by with_unfolding_all rfl)⟩).imp
      fun i h a => (congrFun h a).trans (by match a with | ⟨0, _⟩ => rfl | ⟨1, _⟩ => rfl | ⟨2, _⟩ => rfl)

theorem idx_own : ∀ t : Fin grid0.N, cc0_transform_0 (grid0.coords t) = ![(grid0.coords t 0).val, (grid0.coords t 1).val, 0] := by decide +kernel
theorem idx_sib : ∀ (k : Fin 2) (t : Fin grid0.N), cc0_transform_1 inb_S1_S1_0 numel1_S1 (one (BitVec.ofNat 32 k.val)) (grid0.coords t) = ![(grid0.coords t 0).val, 1 - k.val, 0] := by decide +kernel
theorem idx_half : ∀ t : Fin grid0.N, cc0_transform_2 (grid0.coords t) = ![0, 0] := by decide +kernel

open Cert.Reference16Ideal.Read

/-- What the body reads are the blocks and the core's number. -/
theorem reads {α : Type} (f : (S512x960.Idx → Ideal .f32) → (S512x960.Idx → Ideal .f32) → BitVec 32 → (S1x512x960.Idx → Ideal .f32) → (S1x512x960.Idx → Ideal .f32) → (S1x512x960.Idx → Ideal .f32) → (S1x512x960.Idx → Ideal .f32) → α) {k : Fin 2} (e : tbl m = one (BitVec.ofNat 32 k.val)) (hO : Ok m) (c : Dev nD) (t : Fin (cfgM m hO).N) :
    f (View.read (Elt Ideal) (ms0_2 m hO t).view ((hs0_2 m hO t).unread (iblk m hO c 2 t))) (View.read (Elt Ideal) (ms0_3 m hO t).view ((hs0_3 m hO t).unread (iblk m hO c 3 t)))
        (View.readAt (Elt Ideal) (View.whole main_arg6) (Rect.unit ![0] ![1] inb_S1_S1_0).toLoadRect (tbl m 0) (Shape.Idx.first (by decide)))
        (View.read (Elt Ideal) (ms0_1 m hO t).view ((hs0_1 m hO t).unread (iblk m hO c 1 t))) (View.read (Elt Ideal) (ms0_4 m hO t).view ((hs0_4 m hO t).unread (iblk m hO c 4 t)))
        (View.read (Elt Ideal) (ms0_5 m hO t).view ((hs0_5 m hO t).unread (iblk m hO c 5 t))) (View.read (Elt Ideal) (ms0_0 m hO t).view ((hs0_0 m hO t).unread (iblk m hO c 0 t)))
      = f (iblk m hO c 2 t) (iblk m hO c 3 t) (BitVec.ofNat 32 k.val) (iblk m hO c 1 t) (iblk m hO c 4 t) (iblk m hO c 5 t) (iblk m hO c 0 t) := by
  refine congr (congr (congr (congr (congr (congr (congrArg f ((hs0_2 m hO t).read_unread _)) ((hs0_3 m hO t).read_unread _)) ?_) ((hs0_1 m hO t).read_unread _)) ((hs0_4 m hO t).read_unread _)) ((hs0_5 m hO t).read_unread _)) ((hs0_0 m hO t).read_unread _)
  rw [e]
  rfl

theorem core_at {k : Fin 2} (e : tbl m = one (BitVec.ofNat 32 k.val)) (c : Dev nD) : m ((c : Thread nD τ).loc main_arg6) (ix1 (n0 := 1) 0) = BitVec.ofNat 32 k.val := by
  rw [Subsingleton.elim (α := Fin 1) c 0]
  exact congrFun (congrFun e 0) (ix1 (n0 := 1) 0)

/-- What the body leaves at a grid point. -/
theorem left {k : Fin 2} (e : tbl m = one (BitVec.ofNat 32 k.val)) (hO : Ok m) (c : Dev nD) (t : Fin (cfgM m hO).N) :
    outsAt0 m hO c t = (k0_pay4 (F := Ideal) (grid0.coords t) (iblk m hO c 2 t) (iblk m hO c 3 t) (BitVec.ofNat 32 k.val) (iblk m hO c 1 t),
      k0_pay2 (F := Ideal) (k0_pay5 (F := Ideal) (grid0.coords t) (iblk m hO c 2 t) (iblk m hO c 3 t) (BitVec.ofNat 32 k.val) (iblk m hO c 1 t) (iblk m hO c 4 t))
        (k0_pay6 (F := Ideal) (grid0.coords t) (iblk m hO c 2 t) (iblk m hO c 3 t) (BitVec.ofNat 32 k.val) (iblk m hO c 1 t) (iblk m hO c 5 t)) (iblk m hO c 0 t),
      k0_pay7 (F := Ideal) (grid0.coords t) (iblk m hO c 2 t) (iblk m hO c 3 t) (BitVec.ofNat 32 k.val) (iblk m hO c 1 t) (iblk m hO c 4 t),
      k0_pay1 (F := Ideal) (k0_pay6 (F := Ideal) (grid0.coords t) (iblk m hO c 2 t) (iblk m hO c 3 t) (BitVec.ofNat 32 k.val) (iblk m hO c 1 t) (iblk m hO c 5 t))) := by
  unfold outsAt0
  frame_out
  exact reads m (fun x2 x3 k x1 x4 x5 x0 => (k0_pay4 (F := Ideal) (grid0.coords t) x2 x3 k x1, k0_pay2 (F := Ideal) (k0_pay5 (grid0.coords t) x2 x3 k x1 x4) (k0_pay6 (grid0.coords t) x2 x3 k x1 x5) x0,
    k0_pay7 (F := Ideal) (grid0.coords t) x2 x3 k x1 x4, k0_pay1 (F := Ideal) (k0_pay6 (grid0.coords t) x2 x3 k x1 x5))) e hO c t

/-- The four outputs: the gradient, the step, the new mean of the gradients and that of their squares. -/
theorem final {k : Fin 2} (e : tbl m = one (BitVec.ofNat 32 k.val)) (hO : Ok m) (c : Dev nD) :
    (dats m hO 0 c).arrAt 6 (cfgM m hO).N = val_main_v9 (F := Ideal) (m ((c : Thread nD τ).loc main_arg1)) (m ((c : Thread nD τ).loc main_arg2)) (m ((c : Thread nD τ).loc main_arg3)) (m ((c : Thread nD τ).loc main_arg6))
      ∧ (dats m hO 0 c).arrAt 7 (cfgM m hO).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ (dats m hO 0 c).arrAt 8 (cfgM m hO).N = val_main_v14 (F := Ideal) (m ((c : Thread nD τ).loc main_arg1)) (m ((c : Thread nD τ).loc main_arg2)) (m ((c : Thread nD τ).loc main_arg3)) (m ((c : Thread nD τ).loc main_arg4)) (m ((c : Thread nD τ).loc main_arg6))
      ∧ (dats m hO 0 c).arrAt 9 (cfgM m hO).N = val_main_v20 (F := Ideal) (m ((c : Thread nD τ).loc main_arg1)) (m ((c : Thread nD τ).loc main_arg2)) (m ((c : Thread nD τ).loc main_arg3)) (m ((c : Thread nD τ).loc main_arg5)) (m ((c : Thread nD τ).loc main_arg6)) :=
  have p (t : Fin grid0.N) := outs (κ := κ) (k := k) shapeCasts_S1x512x960_S512x960 shapeCasts_S512x960_S1x512x960 rfl rfl (grid0.coords t 0).isLt (grid0.coords t 1).isLt
    (show 0 + 512 ≤ 512 from le_refl _) (cut_of (idx_own t) rfl (((cfgM m hO).win 0).rect_emb_val t) (V_main_arg0 m c) (b := iblk m hO c 0 t) fun _ => rfl)
    (cut_of ((congrArg (cc0_transform_1 inb_S1_S1_0 numel1_S1 · (grid0.coords t)) e).trans (idx_sib k t)) rfl (((cfgM m hO).win 1).rect_emb_val t) (V_main_arg1 m c) (b := iblk m hO c 1 t) fun _ => rfl)
    (cut₂_of (idx_half t) (Nat.zero_mul _) (((cfgM m hO).win 2).rect_emb_val t) (V_main_arg2 m c) (b := iblk m hO c 2 t) fun _ => rfl)
    (cut₂_of (idx_half t) (Nat.zero_mul _) (((cfgM m hO).win 3).rect_emb_val t) (V_main_arg3 m c) (b := iblk m hO c 3 t) fun _ => rfl)
    (cut_of (idx_own t) rfl (((cfgM m hO).win 4).rect_emb_val t) (V_main_arg4 m c) (b := iblk m hO c 4 t) fun _ => rfl)
    (cut_of (idx_own t) rfl (((cfgM m hO).win 5).rect_emb_val t) (V_main_arg5 m c) (b := iblk m hO c 5 t) fun _ => rfl)
    (half_at (r := 1024) (h := 512) rfl _ _ _ _ _ _ _ _ _ _ _ k (core_at m e c))
  ⟨(dats m hO 0 c).arrAt_eq_of_covers 6 _ (covers m hO).1 fun t _ y => (congrFun ((after0_6 m hO c t).trans (congrArg (·.1) (left m e hO c t))) y).trans (at_emb (idx_own t) rfl (((cfgM m hO).win 6).rect_emb_val t) (p t).1 y),
    (dats m hO 0 c).arrAt_eq_of_covers 7 _ (covers m hO).2.1 fun t _ y => (congrFun ((after0_7 m hO c t).trans (congrArg (·.2.1) (left m e hO c t))) y).trans (at_emb (idx_own t) rfl (((cfgM m hO).win 7).rect_emb_val t) (p t).2.1 y),
    (dats m hO 0 c).arrAt_eq_of_covers 8 _ (covers m hO).2.2.1 fun t _ y => (congrFun ((after0_8 m hO c t).trans (congrArg (·.2.2.1) (left m e hO c t))) y).trans (at_emb (idx_own t) rfl (((cfgM m hO).win 8).rect_emb_val t) (p t).2.2.1 y),
    (dats m hO 0 c).arrAt_eq_of_covers 9 _ (covers m hO).2.2.2 fun t _ y => (congrFun ((after0_9 m hO c t).trans (congrArg (·.2.2.2) (left m e hO c t))) y).trans (at_emb (idx_own t) rfl (((cfgM m hO).win 9).rect_emb_val t) (p t).2.2.2 y)⟩

variable (ρ : Dev nD → PrngReg)

/-- The kernel's run. -/
theorem run (h : Cert.Pre_Kernel16Ideal m) :
    θ_run defs (onTc (τ := τ) (main (F := Ideal))) ⟨m, fun _ => 0, ρ⟩ (fun r => ∀ c : Dev nD,
        r.2.mem ((c.tc : Thread nD τ).loc main_v0_0) = val_main_v9 (F := Ideal) (m ((c : Thread nD τ).loc main_arg1)) (m ((c : Thread nD τ).loc main_arg2)) (m ((c : Thread nD τ).loc main_arg3)) (m ((c : Thread nD τ).loc main_arg6))
        ∧ r.2.mem ((c.tc : Thread nD τ).loc main_v0_1) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ∧ r.2.mem ((c.tc : Thread nD τ).loc main_v0_2) = val_main_v14 (F := Ideal) (m ((c : Thread nD τ).loc main_arg1)) (m ((c : Thread nD τ).loc main_arg2)) (m ((c : Thread nD τ).loc main_arg3)) (m ((c : Thread nD τ).loc main_arg4)) (m ((c : Thread nD τ).loc main_arg6))
        ∧ r.2.mem ((c.tc : Thread nD τ).loc main_v0_3) = val_main_v20 (F := Ideal) (m ((c : Thread nD τ).loc main_arg1)) (m ((c : Thread nD τ).loc main_arg2)) (m ((c : Thread nD τ).loc main_arg3)) (m ((c : Thread nD τ).loc main_arg5)) (m ((c : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  have hO := ok_of_pre m h
  obtain ⟨k, e⟩ := core_of_pre m h
  refine (θ_run defs _ _).mono (fun r h c => ?_) (run_main m ρ hO)
  exact ⟨((h c).1 6).trans (final m e hO c).1, ((h c).1 7).trans (final m e hO c).2.1, ((h c).1 8).trans (final m e hO c).2.2.1, ((h c).1 9).trans (final m e hO c).2.2.2,
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).1 5).trans (((dats m hO 0 c).arrAt_in 5 rfl _).trans ((A_eq m hO c 5).trans (V_main_arg5 m c))),
    ((h c).2 main_arg6 (by decide : main_arg6 ∈ Pipeline.restRefs sig spec0)).trans (V_main_arg6 m c)⟩

end Cert.Kernel16Ideal.Matrix

end
-- ==== Proof.MatrixProj.lean ====
module

public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Reference17Ideal.Read
public import proofs.«01_k».proof.Proof.Gen.Pre_two_cores17
public import proofs.«01_k».proof.Defs
public import proofs.«01_k».proof.Proof.Matrix

@[expose] public section

set_option maxRecDepth 16384

noncomputable section

open Idealize.ShloMosaic Idealize.ShloMosaic.TcCoe Idealize.SL.Sem
open Idealize.ShloMosaic.Pipeline (Dat)

/-! The optimiser's step on a branch projection: where its blocks lie. -/

namespace Cert.Kernel17.Matrix

open Cert.Kernel17 Cert.Kernel17.Gen Cert.Matrix

/-- With either number every block lies in its array. -/
theorem ok_of_pre (m : (ℓ : Loc nD τ sig) → Buf (Elt Bits) ℓ) (h : Cert.Pre_Kernel17 m) : Ok (F := Bits) m := by
  have one (k : BitVec 32) (h : m (((0 : Dev nD) : Thread nD τ).loc main_arg6) (ix1 (n0 := 1) 0) = k) : tbl m = fun | ⟨0, _⟩ => fun _ => k | ⟨_ + 1, h⟩ => absurd h (by simp) := by
    funext j x
    match j with
    | ⟨0, _⟩ => exact (congrArg (m (((0 : Dev nD) : Thread nD τ).loc main_arg6)) (ix_one rfl x _)).trans h
  unfold Ok
  rcases core _ _ (h 0) with e | e <;> rw [one _ e] <;> decide +kernel

end Cert.Kernel17.Matrix

namespace Cert.Kernel17Ideal.Matrix

open Cert.Kernel17Ideal Cert.Kernel17Ideal.Gen Cert.Matrix

variable (m : (ℓ : Loc nD τ sig) → Buf (Elt Ideal) ℓ)

/-- The core's number as the kernel's table. -/
def one (k : BitVec 32) : pre0.Contents (Elt Ideal) := fun | ⟨0, _⟩ => fun _ => k | ⟨_ + 1, h⟩ => absurd h (by simp)

theorem core_of_pre (h : Cert.Pre_Kernel17Ideal m) : ∃ k : Fin 2, tbl m = one (BitVec.ofNat 32 k.val) := by
  have of (k : BitVec 32) (h : m (((0 : Dev nD) : Thread nD τ).loc main_arg6) (ix1 (n0 := 1) 0) = k) : tbl m = one k := by
    funext j x
    match j with
    | ⟨0, _⟩ => exact (congrArg (m (((0 : Dev nD) : Thread nD τ).loc main_arg6)) (ix_one rfl x _)).trans h
  exact (Cert.Matrix.core _ _ (h 0)).elim (fun e => ⟨0, of _ e⟩) fun e => ⟨1, of _ e⟩

theorem ok_of_pre (h : Cert.Pre_Kernel17Ideal m) : Ok (F := Ideal) m := by
  obtain ⟨k, e⟩ := core_of_pre m h
  unfold Ok
  rw [e]
  clear e
  revert k
  decide +kernel

theorem surj : ∀ (a : Fin 2) (b : Fin 2) (d : Fin 1), ∃ i : grid0.Coords, cc0_transform_6 i = ![a.val, b.val, d.val] := by decide +kernel

/-- The blocks of each output cover its array. -/
theorem covers (hO : Ok m) : ((cfgM m hO).win 6).Covers ∧ ((cfgM m hO).win 7).Covers ∧ ((cfgM m hO).win 8).Covers ∧ ((cfgM m hO).win 9).Covers := by
  refine ⟨?_, ?_, ?_, ?_⟩ <;>
  exact Pipeline.Window.covers_of_indexMap_surj _ rfl (by decide : ∀ a, 0 < S1x256x256.size a) fun β =>
    (surj ⟨(β ⟨0, (by decide : 0 < 3)⟩).val, lt_of_lt_of_eq (β ⟨0, (by decide : 0 < 3)⟩).isLt (by with_unfolding_all rfl)⟩ ⟨(β ⟨1, (by decide : 1 < 3)⟩).val, lt_of_lt_of_eq (β ⟨1, (by decide : 1 < 3)⟩).isLt (by with_unfolding_all rfl)⟩
      ⟨(β ⟨2, (by decide : 2 < 3)⟩).val, lt_of_lt_of_eq (β ⟨2, (by decide : 2 < 3)⟩).isLt (by with_unfolding_all rfl)⟩).imp
      fun i h a => (congrFun h a).trans (by match a with | ⟨0, _⟩ => rfl | ⟨1, _⟩ => rfl | ⟨2, _⟩ => rfl)

theorem idx_own : ∀ t : Fin grid0.N, cc0_transform_0 (grid0.coords t) = ![(grid0.coords t 0).val, (grid0.coords t 1).val, 0] := by decide +kernel
theorem idx_sib : ∀ (k : Fin 2) (t : Fin grid0.N), cc0_transform_1 inb_S1_S1_0 numel1_S1 (one (BitVec.ofNat 32 k.val)) (grid0.coords t) = ![(grid0.coords t 0).val, 1 - k.val, 0] := by decide +kernel
theorem idx_half : ∀ t : Fin grid0.N, cc0_transform_2 (grid0.coords t) = ![0, 0] := by decide +kernel

open Cert.Reference17Ideal.Read

/-- What the body reads are the blocks and the core's number. -/
theorem reads {α : Type} (f : (S256x256.Idx → Ideal .f32) → (S256x256.Idx → Ideal .f32) → BitVec 32 → (S1x256x256.Idx → Ideal .f32) → (S1x256x256.Idx → Ideal .f32) → (S1x256x256.Idx → Ideal .f32) → (S1x256x256.Idx → Ideal .f32) → α) {k : Fin 2} (e : tbl m = one (BitVec.ofNat 32 k.val)) (hO : Ok m) (c : Dev nD) (t : Fin (cfgM m hO).N) :
    f (View.read (Elt Ideal) (ms0_2 m hO t).view ((hs0_2 m hO t).unread (iblk m hO c 2 t))) (View.read (Elt Ideal) (ms0_3 m hO t).view ((hs0_3 m hO t).unread (iblk m hO c 3 t)))
        (View.readAt (Elt Ideal) (View.whole main_arg6) (Rect.unit ![0] ![1] inb_S1_S1_0).toLoadRect (tbl m 0) (Shape.Idx.first (by decide)))
        (View.read (Elt Ideal) (ms0_1 m hO t).view ((hs0_1 m hO t).unread (iblk m hO c 1 t))) (View.read (Elt Ideal) (ms0_4 m hO t).view ((hs0_4 m hO t).unread (iblk m hO c 4 t)))
        (View.read (Elt Ideal) (ms0_5 m hO t).view ((hs0_5 m hO t).unread (iblk m hO c 5 t))) (View.read (Elt Ideal) (ms0_0 m hO t).view ((hs0_0 m hO t).unread (iblk m hO c 0 t)))
      = f (iblk m hO c 2 t) (iblk m hO c 3 t) (BitVec.ofNat 32 k.val) (iblk m hO c 1 t) (iblk m hO c 4 t) (iblk m hO c 5 t) (iblk m hO c 0 t) := by
  refine congr (congr (congr (congr (congr (congr (congrArg f ((hs0_2 m hO t).read_unread _)) ((hs0_3 m hO t).read_unread _)) ?_) ((hs0_1 m hO t).read_unread _)) ((hs0_4 m hO t).read_unread _)) ((hs0_5 m hO t).read_unread _)) ((hs0_0 m hO t).read_unread _)
  rw [e]
  rfl

theorem core_at {k : Fin 2} (e : tbl m = one (BitVec.ofNat 32 k.val)) (c : Dev nD) : m ((c : Thread nD τ).loc main_arg6) (ix1 (n0 := 1) 0) = BitVec.ofNat 32 k.val := by
  rw [Subsingleton.elim (α := Fin 1) c 0]
  exact congrFun (congrFun e 0) (ix1 (n0 := 1) 0)

/-- What the body leaves at a grid point. -/
theorem left {k : Fin 2} (e : tbl m = one (BitVec.ofNat 32 k.val)) (hO : Ok m) (c : Dev nD) (t : Fin (cfgM m hO).N) :
    outsAt0 m hO c t = (k0_pay4 (F := Ideal) (grid0.coords t) (iblk m hO c 2 t) (iblk m hO c 3 t) (BitVec.ofNat 32 k.val) (iblk m hO c 1 t),
      k0_pay2 (F := Ideal) (k0_pay5 (F := Ideal) (grid0.coords t) (iblk m hO c 2 t) (iblk m hO c 3 t) (BitVec.ofNat 32 k.val) (iblk m hO c 1 t) (iblk m hO c 4 t))
        (k0_pay6 (F := Ideal) (grid0.coords t) (iblk m hO c 2 t) (iblk m hO c 3 t) (BitVec.ofNat 32 k.val) (iblk m hO c 1 t) (iblk m hO c 5 t)) (iblk m hO c 0 t),
      k0_pay7 (F := Ideal) (grid0.coords t) (iblk m hO c 2 t) (iblk m hO c 3 t) (BitVec.ofNat 32 k.val) (iblk m hO c 1 t) (iblk m hO c 4 t),
      k0_pay1 (F := Ideal) (k0_pay6 (F := Ideal) (grid0.coords t) (iblk m hO c 2 t) (iblk m hO c 3 t) (BitVec.ofNat 32 k.val) (iblk m hO c 1 t) (iblk m hO c 5 t))) := by
  unfold outsAt0
  frame_out
  exact reads m (fun x2 x3 k x1 x4 x5 x0 => (k0_pay4 (F := Ideal) (grid0.coords t) x2 x3 k x1, k0_pay2 (F := Ideal) (k0_pay5 (grid0.coords t) x2 x3 k x1 x4) (k0_pay6 (grid0.coords t) x2 x3 k x1 x5) x0,
    k0_pay7 (F := Ideal) (grid0.coords t) x2 x3 k x1 x4, k0_pay1 (F := Ideal) (k0_pay6 (grid0.coords t) x2 x3 k x1 x5))) e hO c t

/-- The four outputs: the gradient, the step, the new mean of the gradients and that of their squares. -/
theorem final {k : Fin 2} (e : tbl m = one (BitVec.ofNat 32 k.val)) (hO : Ok m) (c : Dev nD) :
    (dats m hO 0 c).arrAt 6 (cfgM m hO).N = val_main_v9 (F := Ideal) (m ((c : Thread nD τ).loc main_arg1)) (m ((c : Thread nD τ).loc main_arg2)) (m ((c : Thread nD τ).loc main_arg3)) (m ((c : Thread nD τ).loc main_arg6))
      ∧ (dats m hO 0 c).arrAt 7 (cfgM m hO).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ (dats m hO 0 c).arrAt 8 (cfgM m hO).N = val_main_v14 (F := Ideal) (m ((c : Thread nD τ).loc main_arg1)) (m ((c : Thread nD τ).loc main_arg2)) (m ((c : Thread nD τ).loc main_arg3)) (m ((c : Thread nD τ).loc main_arg4)) (m ((c : Thread nD τ).loc main_arg6))
      ∧ (dats m hO 0 c).arrAt 9 (cfgM m hO).N = val_main_v20 (F := Ideal) (m ((c : Thread nD τ).loc main_arg1)) (m ((c : Thread nD τ).loc main_arg2)) (m ((c : Thread nD τ).loc main_arg3)) (m ((c : Thread nD τ).loc main_arg5)) (m ((c : Thread nD τ).loc main_arg6)) :=
  have p (t : Fin grid0.N) := outs (κ := κ) (k := k) shapeCasts_S1x256x256_S256x256 shapeCasts_S256x256_S1x256x256 rfl rfl (grid0.coords t 0).isLt (grid0.coords t 1).isLt
    (show 0 + 256 ≤ 256 from le_refl _) (cut_of (idx_own t) rfl (((cfgM m hO).win 0).rect_emb_val t) (V_main_arg0 m c) (b := iblk m hO c 0 t) fun _ => rfl)
    (cut_of ((congrArg (cc0_transform_1 inb_S1_S1_0 numel1_S1 · (grid0.coords t)) e).trans (idx_sib k t)) rfl (((cfgM m hO).win 1).rect_emb_val t) (V_main_arg1 m c) (b := iblk m hO c 1 t) fun _ => rfl)
    (cut₂_of (idx_half t) (Nat.zero_mul _) (((cfgM m hO).win 2).rect_emb_val t) (V_main_arg2 m c) (b := iblk m hO c 2 t) fun _ => rfl)
    (cut₂_of (idx_half t) (Nat.zero_mul _) (((cfgM m hO).win 3).rect_emb_val t) (V_main_arg3 m c) (b := iblk m hO c 3 t) fun _ => rfl)
    (cut_of (idx_own t) rfl (((cfgM m hO).win 4).rect_emb_val t) (V_main_arg4 m c) (b := iblk m hO c 4 t) fun _ => rfl)
    (cut_of (idx_own t) rfl (((cfgM m hO).win 5).rect_emb_val t) (V_main_arg5 m c) (b := iblk m hO c 5 t) fun _ => rfl)
    (half_at (r := 512) (h := 256) rfl _ _ _ _ _ _ _ _ _ _ _ k (core_at m e c))
  ⟨(dats m hO 0 c).arrAt_eq_of_covers 6 _ (covers m hO).1 fun t _ y => (congrFun ((after0_6 m hO c t).trans (congrArg (·.1) (left m e hO c t))) y).trans (at_emb (idx_own t) rfl (((cfgM m hO).win 6).rect_emb_val t) (p t).1 y),
    (dats m hO 0 c).arrAt_eq_of_covers 7 _ (covers m hO).2.1 fun t _ y => (congrFun ((after0_7 m hO c t).trans (congrArg (·.2.1) (left m e hO c t))) y).trans (at_emb (idx_own t) rfl (((cfgM m hO).win 7).rect_emb_val t) (p t).2.1 y),
    (dats m hO 0 c).arrAt_eq_of_covers 8 _ (covers m hO).2.2.1 fun t _ y => (congrFun ((after0_8 m hO c t).trans (congrArg (·.2.2.1) (left m e hO c t))) y).trans (at_emb (idx_own t) rfl (((cfgM m hO).win 8).rect_emb_val t) (p t).2.2.1 y),
    (dats m hO 0 c).arrAt_eq_of_covers 9 _ (covers m hO).2.2.2 fun t _ y => (congrFun ((after0_9 m hO c t).trans (congrArg (·.2.2.2) (left m e hO c t))) y).trans (at_emb (idx_own t) rfl (((cfgM m hO).win 9).rect_emb_val t) (p t).2.2.2 y)⟩

variable (ρ : Dev nD → PrngReg)

/-- The kernel's run. -/
theorem run (h : Cert.Pre_Kernel17Ideal m) :
    θ_run defs (onTc (τ := τ) (main (F := Ideal))) ⟨m, fun _ => 0, ρ⟩ (fun r => ∀ c : Dev nD,
        r.2.mem ((c.tc : Thread nD τ).loc main_v0_0) = val_main_v9 (F := Ideal) (m ((c : Thread nD τ).loc main_arg1)) (m ((c : Thread nD τ).loc main_arg2)) (m ((c : Thread nD τ).loc main_arg3)) (m ((c : Thread nD τ).loc main_arg6))
        ∧ r.2.mem ((c.tc : Thread nD τ).loc main_v0_1) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ∧ r.2.mem ((c.tc : Thread nD τ).loc main_v0_2) = val_main_v14 (F := Ideal) (m ((c : Thread nD τ).loc main_arg1)) (m ((c : Thread nD τ).loc main_arg2)) (m ((c : Thread nD τ).loc main_arg3)) (m ((c : Thread nD τ).loc main_arg4)) (m ((c : Thread nD τ).loc main_arg6))
        ∧ r.2.mem ((c.tc : Thread nD τ).loc main_v0_3) = val_main_v20 (F := Ideal) (m ((c : Thread nD τ).loc main_arg1)) (m ((c : Thread nD τ).loc main_arg2)) (m ((c : Thread nD τ).loc main_arg3)) (m ((c : Thread nD τ).loc main_arg5)) (m ((c : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  have hO := ok_of_pre m h
  obtain ⟨k, e⟩ := core_of_pre m h
  refine (θ_run defs _ _).mono (fun r h c => ?_) (run_main m ρ hO)
  exact ⟨((h c).1 6).trans (final m e hO c).1, ((h c).1 7).trans (final m e hO c).2.1, ((h c).1 8).trans (final m e hO c).2.2.1, ((h c).1 9).trans (final m e hO c).2.2.2,
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).1 5).trans (((dats m hO 0 c).arrAt_in 5 rfl _).trans ((A_eq m hO c 5).trans (V_main_arg5 m c))),
    ((h c).2 main_arg6 (by decide : main_arg6 ∈ Pipeline.restRefs sig spec0)).trans (V_main_arg6 m c)⟩

end Cert.Kernel17Ideal.Matrix

end
-- ==== Proof.MatrixOut.lean ====
module

public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read
public import proofs.«01_k».proof.Proof.Gen.Pre_two_cores18
public import proofs.«01_k».proof.Defs
public import proofs.«01_k».proof.Proof.Matrix

@[expose] public section

set_option maxRecDepth 16384

noncomputable section

open Idealize.ShloMosaic Idealize.ShloMosaic.TcCoe Idealize.SL.Sem
open Idealize.ShloMosaic.Pipeline (Dat)

/-! The optimiser's step on the output weight: where its blocks lie. -/

namespace Cert.Kernel18.Matrix

open Cert.Kernel18 Cert.Kernel18.Gen Cert.Matrix

/-- With either number every block lies in its array. -/
theorem ok_of_pre (m : (ℓ : Loc nD τ sig) → Buf (Elt Bits) ℓ) (h : Cert.Pre_Kernel18 m) : Ok (F := Bits) m := by
  have one (k : BitVec 32) (h : m (((0 : Dev nD) : Thread nD τ).loc main_arg6) (ix1 (n0 := 1) 0) = k) : tbl m = fun | ⟨0, _⟩ => fun _ => k | ⟨_ + 1, h⟩ => absurd h (by simp) := by
    funext j x
    match j with
    | ⟨0, _⟩ => exact (congrArg (m (((0 : Dev nD) : Thread nD τ).loc main_arg6)) (ix_one rfl x _)).trans h
  unfold Ok
  rcases core _ _ (h 0) with e | e <;> rw [one _ e] <;> decide +kernel

end Cert.Kernel18.Matrix

namespace Cert.Kernel18Ideal.Matrix

open Cert.Kernel18Ideal Cert.Kernel18Ideal.Gen Cert.Matrix

variable (m : (ℓ : Loc nD τ sig) → Buf (Elt Ideal) ℓ)

/-- The core's number as the kernel's table. -/
def one (k : BitVec 32) : pre0.Contents (Elt Ideal) := fun | ⟨0, _⟩ => fun _ => k | ⟨_ + 1, h⟩ => absurd h (by simp)

theorem core_of_pre (h : Cert.Pre_Kernel18Ideal m) : ∃ k : Fin 2, tbl m = one (BitVec.ofNat 32 k.val) := by
  have of (k : BitVec 32) (h : m (((0 : Dev nD) : Thread nD τ).loc main_arg6) (ix1 (n0 := 1) 0) = k) : tbl m = one k := by
    funext j x
    match j with
    | ⟨0, _⟩ => exact (congrArg (m (((0 : Dev nD) : Thread nD τ).loc main_arg6)) (ix_one rfl x _)).trans h
  exact (Cert.Matrix.core _ _ (h 0)).elim (fun e => ⟨0, of _ e⟩) fun e => ⟨1, of _ e⟩

theorem ok_of_pre (h : Cert.Pre_Kernel18Ideal m) : Ok (F := Ideal) m := by
  obtain ⟨k, e⟩ := core_of_pre m h
  unfold Ok
  rw [e]
  clear e
  revert k
  decide +kernel

theorem surj : ∀ (a : Fin 2) (b : Fin 2) (d : Fin 1), ∃ i : grid0.Coords, cc0_transform_6 i = ![a.val, b.val, d.val] := by decide +kernel

/-- The blocks of each output cover its array. -/
theorem covers (hO : Ok m) : ((cfgM m hO).win 6).Covers ∧ ((cfgM m hO).win 7).Covers ∧ ((cfgM m hO).win 8).Covers ∧ ((cfgM m hO).win 9).Covers := by
  refine ⟨?_, ?_, ?_, ?_⟩ <;>
  exact Pipeline.Window.covers_of_indexMap_surj _ rfl (by decide : ∀ a, 0 < S1x128x1024.size a) fun β =>
    (surj ⟨(β ⟨0, (by decide : 0 < 3)⟩).val, lt_of_lt_of_eq (β ⟨0, (by decide : 0 < 3)⟩).isLt (by with_unfolding_all rfl)⟩ ⟨(β ⟨1, (by decide : 1 < 3)⟩).val, lt_of_lt_of_eq (β ⟨1, (by decide : 1 < 3)⟩).isLt (by with_unfolding_all rfl)⟩
      ⟨(β ⟨2, (by decide : 2 < 3)⟩).val, lt_of_lt_of_eq (β ⟨2, (by decide : 2 < 3)⟩).isLt (by with_unfolding_all rfl)⟩).imp
      fun i h a => (congrFun h a).trans (by match a with | ⟨0, _⟩ => rfl | ⟨1, _⟩ => rfl | ⟨2, _⟩ => rfl)

theorem idx_own : ∀ t : Fin grid0.N, cc0_transform_0 (grid0.coords t) = ![(grid0.coords t 0).val, (grid0.coords t 1).val, 0] := by decide +kernel
theorem idx_sib : ∀ (k : Fin 2) (t : Fin grid0.N), cc0_transform_1 inb_S1_S1_0 numel1_S1 (one (BitVec.ofNat 32 k.val)) (grid0.coords t) = ![(grid0.coords t 0).val, 1 - k.val, 0] := by decide +kernel
theorem idx_half : ∀ t : Fin grid0.N, cc0_transform_2 (grid0.coords t) = ![0, 0] := by decide +kernel

open Cert.Reference18Ideal.Read

/-- What the body reads are the blocks and the core's number. -/
theorem reads {α : Type} (f : (S128x1024.Idx → Ideal .f32) → (S128x1024.Idx → Ideal .f32) → BitVec 32 → (S1x128x1024.Idx → Ideal .f32) → (S1x128x1024.Idx → Ideal .f32) → (S1x128x1024.Idx → Ideal .f32) → (S1x128x1024.Idx → Ideal .f32) → α) {k : Fin 2} (e : tbl m = one (BitVec.ofNat 32 k.val)) (hO : Ok m) (c : Dev nD) (t : Fin (cfgM m hO).N) :
    f (View.read (Elt Ideal) (ms0_2 m hO t).view ((hs0_2 m hO t).unread (iblk m hO c 2 t))) (View.read (Elt Ideal) (ms0_3 m hO t).view ((hs0_3 m hO t).unread (iblk m hO c 3 t)))
        (View.readAt (Elt Ideal) (View.whole main_arg6) (Rect.unit ![0] ![1] inb_S1_S1_0).toLoadRect (tbl m 0) (Shape.Idx.first (by decide)))
        (View.read (Elt Ideal) (ms0_1 m hO t).view ((hs0_1 m hO t).unread (iblk m hO c 1 t))) (View.read (Elt Ideal) (ms0_4 m hO t).view ((hs0_4 m hO t).unread (iblk m hO c 4 t)))
        (View.read (Elt Ideal) (ms0_5 m hO t).view ((hs0_5 m hO t).unread (iblk m hO c 5 t))) (View.read (Elt Ideal) (ms0_0 m hO t).view ((hs0_0 m hO t).unread (iblk m hO c 0 t)))
      = f (iblk m hO c 2 t) (iblk m hO c 3 t) (BitVec.ofNat 32 k.val) (iblk m hO c 1 t) (iblk m hO c 4 t) (iblk m hO c 5 t) (iblk m hO c 0 t) := by
  refine congr (congr (congr (congr (congr (congr (congrArg f ((hs0_2 m hO t).read_unread _)) ((hs0_3 m hO t).read_unread _)) ?_) ((hs0_1 m hO t).read_unread _)) ((hs0_4 m hO t).read_unread _)) ((hs0_5 m hO t).read_unread _)) ((hs0_0 m hO t).read_unread _)
  rw [e]
  rfl

theorem core_at {k : Fin 2} (e : tbl m = one (BitVec.ofNat 32 k.val)) (c : Dev nD) : m ((c : Thread nD τ).loc main_arg6) (ix1 (n0 := 1) 0) = BitVec.ofNat 32 k.val := by
  rw [Subsingleton.elim (α := Fin 1) c 0]
  exact congrFun (congrFun e 0) (ix1 (n0 := 1) 0)

/-- What the body leaves at a grid point. -/
theorem left {k : Fin 2} (e : tbl m = one (BitVec.ofNat 32 k.val)) (hO : Ok m) (c : Dev nD) (t : Fin (cfgM m hO).N) :
    outsAt0 m hO c t = (k0_pay4 (F := Ideal) (grid0.coords t) (iblk m hO c 2 t) (iblk m hO c 3 t) (BitVec.ofNat 32 k.val) (iblk m hO c 1 t),
      k0_pay2 (F := Ideal) (k0_pay5 (F := Ideal) (grid0.coords t) (iblk m hO c 2 t) (iblk m hO c 3 t) (BitVec.ofNat 32 k.val) (iblk m hO c 1 t) (iblk m hO c 4 t))
        (k0_pay6 (F := Ideal) (grid0.coords t) (iblk m hO c 2 t) (iblk m hO c 3 t) (BitVec.ofNat 32 k.val) (iblk m hO c 1 t) (iblk m hO c 5 t)) (iblk m hO c 0 t),
      k0_pay7 (F := Ideal) (grid0.coords t) (iblk m hO c 2 t) (iblk m hO c 3 t) (BitVec.ofNat 32 k.val) (iblk m hO c 1 t) (iblk m hO c 4 t),
      k0_pay1 (F := Ideal) (k0_pay6 (F := Ideal) (grid0.coords t) (iblk m hO c 2 t) (iblk m hO c 3 t) (BitVec.ofNat 32 k.val) (iblk m hO c 1 t) (iblk m hO c 5 t))) := by
  unfold outsAt0
  frame_out
  exact reads m (fun x2 x3 k x1 x4 x5 x0 => (k0_pay4 (F := Ideal) (grid0.coords t) x2 x3 k x1, k0_pay2 (F := Ideal) (k0_pay5 (grid0.coords t) x2 x3 k x1 x4) (k0_pay6 (grid0.coords t) x2 x3 k x1 x5) x0,
    k0_pay7 (F := Ideal) (grid0.coords t) x2 x3 k x1 x4, k0_pay1 (F := Ideal) (k0_pay6 (grid0.coords t) x2 x3 k x1 x5))) e hO c t

/-- The four outputs: the gradient, the step, the new mean of the gradients and that of their squares. -/
theorem final {k : Fin 2} (e : tbl m = one (BitVec.ofNat 32 k.val)) (hO : Ok m) (c : Dev nD) :
    (dats m hO 0 c).arrAt 6 (cfgM m hO).N = val_main_v9 (F := Ideal) (m ((c : Thread nD τ).loc main_arg1)) (m ((c : Thread nD τ).loc main_arg2)) (m ((c : Thread nD τ).loc main_arg3)) (m ((c : Thread nD τ).loc main_arg6))
      ∧ (dats m hO 0 c).arrAt 7 (cfgM m hO).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ (dats m hO 0 c).arrAt 8 (cfgM m hO).N = val_main_v14 (F := Ideal) (m ((c : Thread nD τ).loc main_arg1)) (m ((c : Thread nD τ).loc main_arg2)) (m ((c : Thread nD τ).loc main_arg3)) (m ((c : Thread nD τ).loc main_arg4)) (m ((c : Thread nD τ).loc main_arg6))
      ∧ (dats m hO 0 c).arrAt 9 (cfgM m hO).N = val_main_v20 (F := Ideal) (m ((c : Thread nD τ).loc main_arg1)) (m ((c : Thread nD τ).loc main_arg2)) (m ((c : Thread nD τ).loc main_arg3)) (m ((c : Thread nD τ).loc main_arg5)) (m ((c : Thread nD τ).loc main_arg6)) :=
  have p (t : Fin grid0.N) := outs (κ := κ) (k := k) shapeCasts_S1x128x1024_S128x1024 shapeCasts_S128x1024_S1x128x1024 rfl rfl (grid0.coords t 0).isLt (grid0.coords t 1).isLt
    (show 0 + 128 ≤ 128 from le_refl _) (cut_of (idx_own t) rfl (((cfgM m hO).win 0).rect_emb_val t) (V_main_arg0 m c) (b := iblk m hO c 0 t) fun _ => rfl)
    (cut_of ((congrArg (cc0_transform_1 inb_S1_S1_0 numel1_S1 · (grid0.coords t)) e).trans (idx_sib k t)) rfl (((cfgM m hO).win 1).rect_emb_val t) (V_main_arg1 m c) (b := iblk m hO c 1 t) fun _ => rfl)
    (cut₂_of (idx_half t) (Nat.zero_mul _) (((cfgM m hO).win 2).rect_emb_val t) (V_main_arg2 m c) (b := iblk m hO c 2 t) fun _ => rfl)
    (cut₂_of (idx_half t) (Nat.zero_mul _) (((cfgM m hO).win 3).rect_emb_val t) (V_main_arg3 m c) (b := iblk m hO c 3 t) fun _ => rfl)
    (cut_of (idx_own t) rfl (((cfgM m hO).win 4).rect_emb_val t) (V_main_arg4 m c) (b := iblk m hO c 4 t) fun _ => rfl)
    (cut_of (idx_own t) rfl (((cfgM m hO).win 5).rect_emb_val t) (V_main_arg5 m c) (b := iblk m hO c 5 t) fun _ => rfl)
    (half_at (r := 256) (h := 128) rfl _ _ _ _ _ _ _ _ _ _ _ k (core_at m e c))
  ⟨(dats m hO 0 c).arrAt_eq_of_covers 6 _ (covers m hO).1 fun t _ y => (congrFun ((after0_6 m hO c t).trans (congrArg (·.1) (left m e hO c t))) y).trans (at_emb (idx_own t) rfl (((cfgM m hO).win 6).rect_emb_val t) (p t).1 y),
    (dats m hO 0 c).arrAt_eq_of_covers 7 _ (covers m hO).2.1 fun t _ y => (congrFun ((after0_7 m hO c t).trans (congrArg (·.2.1) (left m e hO c t))) y).trans (at_emb (idx_own t) rfl (((cfgM m hO).win 7).rect_emb_val t) (p t).2.1 y),
    (dats m hO 0 c).arrAt_eq_of_covers 8 _ (covers m hO).2.2.1 fun t _ y => (congrFun ((after0_8 m hO c t).trans (congrArg (·.2.2.1) (left m e hO c t))) y).trans (at_emb (idx_own t) rfl (((cfgM m hO).win 8).rect_emb_val t) (p t).2.2.1 y),
    (dats m hO 0 c).arrAt_eq_of_covers 9 _ (covers m hO).2.2.2 fun t _ y => (congrFun ((after0_9 m hO c t).trans (congrArg (·.2.2.2) (left m e hO c t))) y).trans (at_emb (idx_own t) rfl (((cfgM m hO).win 9).rect_emb_val t) (p t).2.2.2 y)⟩

variable (ρ : Dev nD → PrngReg)

/-- The kernel's run. -/
theorem run (h : Cert.Pre_Kernel18Ideal m) :
    θ_run defs (onTc (τ := τ) (main (F := Ideal))) ⟨m, fun _ => 0, ρ⟩ (fun r => ∀ c : Dev nD,
        r.2.mem ((c.tc : Thread nD τ).loc main_v0_0) = val_main_v9 (F := Ideal) (m ((c : Thread nD τ).loc main_arg1)) (m ((c : Thread nD τ).loc main_arg2)) (m ((c : Thread nD τ).loc main_arg3)) (m ((c : Thread nD τ).loc main_arg6))
        ∧ r.2.mem ((c.tc : Thread nD τ).loc main_v0_1) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ∧ r.2.mem ((c.tc : Thread nD τ).loc main_v0_2) = val_main_v14 (F := Ideal) (m ((c : Thread nD τ).loc main_arg1)) (m ((c : Thread nD τ).loc main_arg2)) (m ((c : Thread nD τ).loc main_arg3)) (m ((c : Thread nD τ).loc main_arg4)) (m ((c : Thread nD τ).loc main_arg6))
        ∧ r.2.mem ((c.tc : Thread nD τ).loc main_v0_3) = val_main_v20 (F := Ideal) (m ((c : Thread nD τ).loc main_arg1)) (m ((c : Thread nD τ).loc main_arg2)) (m ((c : Thread nD τ).loc main_arg3)) (m ((c : Thread nD τ).loc main_arg5)) (m ((c : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  have hO := ok_of_pre m h
  obtain ⟨k, e⟩ := core_of_pre m h
  refine (θ_run defs _ _).mono (fun r h c => ?_) (run_main m ρ hO)
  exact ⟨((h c).1 6).trans (final m e hO c).1, ((h c).1 7).trans (final m e hO c).2.1, ((h c).1 8).trans (final m e hO c).2.2.1, ((h c).1 9).trans (final m e hO c).2.2.2,
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).1 5).trans (((dats m hO 0 c).arrAt_in 5 rfl _).trans ((A_eq m hO c 5).trans (V_main_arg5 m c))),
    ((h c).2 main_arg6 (by decide : main_arg6 ∈ Pipeline.restRefs sig spec0)).trans (V_main_arg6 m c)⟩

end Cert.Kernel18Ideal.Matrix

end
-- ==== Proof.MatrixUp.lean ====
module

public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import proofs.«01_k».proof.Proof.Gen.Pre_two_cores19
public import proofs.«01_k».proof.Defs
public import proofs.«01_k».proof.Proof.Matrix

@[expose] public section

set_option maxRecDepth 16384

noncomputable section

open Idealize.ShloMosaic Idealize.ShloMosaic.TcCoe Idealize.SL.Sem
open Idealize.ShloMosaic.Pipeline (Dat)

/-! The optimiser's step on the first feed-forward weight: where its blocks lie. -/

namespace Cert.Kernel19.Matrix

open Cert.Kernel19 Cert.Kernel19.Gen Cert.Matrix

/-- With either number every block lies in its array. -/
theorem ok_of_pre (m : (ℓ : Loc nD τ sig) → Buf (Elt Bits) ℓ) (h : Cert.Pre_Kernel19 m) : Ok (F := Bits) m := by
  have one (k : BitVec 32) (h : m (((0 : Dev nD) : Thread nD τ).loc main_arg6) (ix1 (n0 := 1) 0) = k) : tbl m = fun | ⟨0, _⟩ => fun _ => k | ⟨_ + 1, h⟩ => absurd h (by simp) := by
    funext j x
    match j with
    | ⟨0, _⟩ => exact (congrArg (m (((0 : Dev nD) : Thread nD τ).loc main_arg6)) (ix_one rfl x _)).trans h
  unfold Ok
  rcases core _ _ (h 0) with e | e <;> rw [one _ e] <;> decide +kernel

end Cert.Kernel19.Matrix

namespace Cert.Kernel19Ideal.Matrix

open Cert.Kernel19Ideal Cert.Kernel19Ideal.Gen Cert.Matrix

variable (m : (ℓ : Loc nD τ sig) → Buf (Elt Ideal) ℓ)

/-- The core's number as the kernel's table. -/
def one (k : BitVec 32) : pre0.Contents (Elt Ideal) := fun | ⟨0, _⟩ => fun _ => k | ⟨_ + 1, h⟩ => absurd h (by simp)

theorem core_of_pre (h : Cert.Pre_Kernel19Ideal m) : ∃ k : Fin 2, tbl m = one (BitVec.ofNat 32 k.val) := by
  have of (k : BitVec 32) (h : m (((0 : Dev nD) : Thread nD τ).loc main_arg6) (ix1 (n0 := 1) 0) = k) : tbl m = one k := by
    funext j x
    match j with
    | ⟨0, _⟩ => exact (congrArg (m (((0 : Dev nD) : Thread nD τ).loc main_arg6)) (ix_one rfl x _)).trans h
  exact (Cert.Matrix.core _ _ (h 0)).elim (fun e => ⟨0, of _ e⟩) fun e => ⟨1, of _ e⟩

theorem ok_of_pre (h : Cert.Pre_Kernel19Ideal m) : Ok (F := Ideal) m := by
  obtain ⟨k, e⟩ := core_of_pre m h
  unfold Ok
  rw [e]
  clear e
  revert k
  decide +kernel

theorem surj : ∀ (a : Fin 2) (b : Fin 4) (d : Fin 1), ∃ i : grid0.Coords, cc0_transform_6 i = ![a.val, b.val, d.val] := by decide +kernel

/-- The blocks of each output cover its array. -/
theorem covers (hO : Ok m) : ((cfgM m hO).win 6).Covers ∧ ((cfgM m hO).win 7).Covers ∧ ((cfgM m hO).win 8).Covers ∧ ((cfgM m hO).win 9).Covers := by
  refine ⟨?_, ?_, ?_, ?_⟩ <;>
  exact Pipeline.Window.covers_of_indexMap_surj _ rfl (by decide : ∀ a, 0 < S1x256x1408.size a) fun β =>
    (surj ⟨(β ⟨0, (by decide : 0 < 3)⟩).val, lt_of_lt_of_eq (β ⟨0, (by decide : 0 < 3)⟩).isLt (by with_unfolding_all rfl)⟩ ⟨(β ⟨1, (by decide : 1 < 3)⟩).val, lt_of_lt_of_eq (β ⟨1, (by decide : 1 < 3)⟩).isLt (by with_unfolding_all rfl)⟩
      ⟨(β ⟨2, (by decide : 2 < 3)⟩).val, lt_of_lt_of_eq (β ⟨2, (by decide : 2 < 3)⟩).isLt (by with_unfolding_all rfl)⟩).imp
      fun i h a => (congrFun h a).trans (by match a with | ⟨0, _⟩ => rfl | ⟨1, _⟩ => rfl | ⟨2, _⟩ => rfl)

theorem idx_own : ∀ t : Fin grid0.N, cc0_transform_0 (grid0.coords t) = ![(grid0.coords t 0).val, (grid0.coords t 1).val * 2 + (grid0.coords t 2).val, 0] := by decide +kernel
theorem idx_sib : ∀ (k : Fin 2) (t : Fin grid0.N), cc0_transform_1 inb_S1_S1_0 numel1_S1 (one (BitVec.ofNat 32 k.val)) (grid0.coords t) = ![(grid0.coords t 0).val, (1 - k.val) * 2 + (grid0.coords t 2).val, 0] := by decide +kernel
theorem idx_half : ∀ t : Fin grid0.N, cc0_transform_2 (grid0.coords t) = ![(grid0.coords t 2).val, 0] := by decide +kernel

open Cert.Reference19Ideal.Read

/-- What the body reads are the blocks and the core's number. -/
theorem reads {α : Type} (f : (S256x1408.Idx → Ideal .f32) → (S256x1408.Idx → Ideal .f32) → BitVec 32 → (S1x256x1408.Idx → Ideal .f32) → (S1x256x1408.Idx → Ideal .f32) → (S1x256x1408.Idx → Ideal .f32) → (S1x256x1408.Idx → Ideal .f32) → α) {k : Fin 2} (e : tbl m = one (BitVec.ofNat 32 k.val)) (hO : Ok m) (c : Dev nD) (t : Fin (cfgM m hO).N) :
    f (View.read (Elt Ideal) (ms0_2 m hO t).view ((hs0_2 m hO t).unread (iblk m hO c 2 t))) (View.read (Elt Ideal) (ms0_3 m hO t).view ((hs0_3 m hO t).unread (iblk m hO c 3 t)))
        (View.readAt (Elt Ideal) (View.whole main_arg6) (Rect.unit ![0] ![1] inb_S1_S1_0).toLoadRect (tbl m 0) (Shape.Idx.first (by decide)))
        (View.read (Elt Ideal) (ms0_1 m hO t).view ((hs0_1 m hO t).unread (iblk m hO c 1 t))) (View.read (Elt Ideal) (ms0_4 m hO t).view ((hs0_4 m hO t).unread (iblk m hO c 4 t)))
        (View.read (Elt Ideal) (ms0_5 m hO t).view ((hs0_5 m hO t).unread (iblk m hO c 5 t))) (View.read (Elt Ideal) (ms0_0 m hO t).view ((hs0_0 m hO t).unread (iblk m hO c 0 t)))
      = f (iblk m hO c 2 t) (iblk m hO c 3 t) (BitVec.ofNat 32 k.val) (iblk m hO c 1 t) (iblk m hO c 4 t) (iblk m hO c 5 t) (iblk m hO c 0 t) := by
  refine congr (congr (congr (congr (congr (congr (congrArg f ((hs0_2 m hO t).read_unread _)) ((hs0_3 m hO t).read_unread _)) ?_) ((hs0_1 m hO t).read_unread _)) ((hs0_4 m hO t).read_unread _)) ((hs0_5 m hO t).read_unread _)) ((hs0_0 m hO t).read_unread _)
  rw [e]
  rfl

theorem core_at {k : Fin 2} (e : tbl m = one (BitVec.ofNat 32 k.val)) (c : Dev nD) : m ((c : Thread nD τ).loc main_arg6) (ix1 (n0 := 1) 0) = BitVec.ofNat 32 k.val := by
  rw [Subsingleton.elim (α := Fin 1) c 0]
  exact congrFun (congrFun e 0) (ix1 (n0 := 1) 0)

/-- What the body leaves at a grid point. -/
theorem left {k : Fin 2} (e : tbl m = one (BitVec.ofNat 32 k.val)) (hO : Ok m) (c : Dev nD) (t : Fin (cfgM m hO).N) :
    outsAt0 m hO c t = (k0_pay4 (F := Ideal) (grid0.coords t) (iblk m hO c 2 t) (iblk m hO c 3 t) (BitVec.ofNat 32 k.val) (iblk m hO c 1 t),
      k0_pay2 (F := Ideal) (k0_pay5 (F := Ideal) (grid0.coords t) (iblk m hO c 2 t) (iblk m hO c 3 t) (BitVec.ofNat 32 k.val) (iblk m hO c 1 t) (iblk m hO c 4 t))
        (k0_pay6 (F := Ideal) (grid0.coords t) (iblk m hO c 2 t) (iblk m hO c 3 t) (BitVec.ofNat 32 k.val) (iblk m hO c 1 t) (iblk m hO c 5 t)) (iblk m hO c 0 t),
      k0_pay7 (F := Ideal) (grid0.coords t) (iblk m hO c 2 t) (iblk m hO c 3 t) (BitVec.ofNat 32 k.val) (iblk m hO c 1 t) (iblk m hO c 4 t),
      k0_pay1 (F := Ideal) (k0_pay6 (F := Ideal) (grid0.coords t) (iblk m hO c 2 t) (iblk m hO c 3 t) (BitVec.ofNat 32 k.val) (iblk m hO c 1 t) (iblk m hO c 5 t))) := by
  unfold outsAt0
  frame_out
  exact reads m (fun x2 x3 k x1 x4 x5 x0 => (k0_pay4 (F := Ideal) (grid0.coords t) x2 x3 k x1, k0_pay2 (F := Ideal) (k0_pay5 (grid0.coords t) x2 x3 k x1 x4) (k0_pay6 (grid0.coords t) x2 x3 k x1 x5) x0,
    k0_pay7 (F := Ideal) (grid0.coords t) x2 x3 k x1 x4, k0_pay1 (F := Ideal) (k0_pay6 (grid0.coords t) x2 x3 k x1 x5))) e hO c t

/-- The four outputs: the gradient, the step, the new mean of the gradients and that of their squares. -/
theorem final {k : Fin 2} (e : tbl m = one (BitVec.ofNat 32 k.val)) (hO : Ok m) (c : Dev nD) :
    (dats m hO 0 c).arrAt 6 (cfgM m hO).N = val_main_v9 (F := Ideal) (m ((c : Thread nD τ).loc main_arg1)) (m ((c : Thread nD τ).loc main_arg2)) (m ((c : Thread nD τ).loc main_arg3)) (m ((c : Thread nD τ).loc main_arg6))
      ∧ (dats m hO 0 c).arrAt 7 (cfgM m hO).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ (dats m hO 0 c).arrAt 8 (cfgM m hO).N = val_main_v14 (F := Ideal) (m ((c : Thread nD τ).loc main_arg1)) (m ((c : Thread nD τ).loc main_arg2)) (m ((c : Thread nD τ).loc main_arg3)) (m ((c : Thread nD τ).loc main_arg4)) (m ((c : Thread nD τ).loc main_arg6))
      ∧ (dats m hO 0 c).arrAt 9 (cfgM m hO).N = val_main_v20 (F := Ideal) (m ((c : Thread nD τ).loc main_arg1)) (m ((c : Thread nD τ).loc main_arg2)) (m ((c : Thread nD τ).loc main_arg3)) (m ((c : Thread nD τ).loc main_arg5)) (m ((c : Thread nD τ).loc main_arg6)) :=
  have p (t : Fin grid0.N) := outs (κ := κ) (k := k) shapeCasts_S1x256x1408_S256x1408 shapeCasts_S256x1408_S1x256x1408 rfl rfl (grid0.coords t 0).isLt (grid0.coords t 1).isLt
    (show (grid0.coords t 2).val * 256 + 256 ≤ 512 from by have : (grid0.coords t 2).val < 2 := (grid0.coords t 2).isLt; omega) (cut_of (idx_own t) (Cert.Matrix.tile 2 256 _ _) (((cfgM m hO).win 0).rect_emb_val t) (V_main_arg0 m c) (b := iblk m hO c 0 t) fun _ => rfl)
    (cut_of ((congrArg (cc0_transform_1 inb_S1_S1_0 numel1_S1 · (grid0.coords t)) e).trans (idx_sib k t)) (Cert.Matrix.tile 2 256 _ _) (((cfgM m hO).win 1).rect_emb_val t) (V_main_arg1 m c) (b := iblk m hO c 1 t) fun _ => rfl)
    (cut₂_of (idx_half t) rfl (((cfgM m hO).win 2).rect_emb_val t) (V_main_arg2 m c) (b := iblk m hO c 2 t) fun _ => rfl)
    (cut₂_of (idx_half t) rfl (((cfgM m hO).win 3).rect_emb_val t) (V_main_arg3 m c) (b := iblk m hO c 3 t) fun _ => rfl)
    (cut_of (idx_own t) (Cert.Matrix.tile 2 256 _ _) (((cfgM m hO).win 4).rect_emb_val t) (V_main_arg4 m c) (b := iblk m hO c 4 t) fun _ => rfl)
    (cut_of (idx_own t) (Cert.Matrix.tile 2 256 _ _) (((cfgM m hO).win 5).rect_emb_val t) (V_main_arg5 m c) (b := iblk m hO c 5 t) fun _ => rfl)
    (half_at (r := 1024) (h := 512) rfl _ _ _ _ _ _ _ _ _ _ _ k (core_at m e c))
  ⟨(dats m hO 0 c).arrAt_eq_of_covers 6 _ (covers m hO).1 fun t _ y => (congrFun ((after0_6 m hO c t).trans (congrArg (·.1) (left m e hO c t))) y).trans (at_emb (idx_own t) (Cert.Matrix.tile 2 256 _ _) (((cfgM m hO).win 6).rect_emb_val t) (p t).1 y),
    (dats m hO 0 c).arrAt_eq_of_covers 7 _ (covers m hO).2.1 fun t _ y => (congrFun ((after0_7 m hO c t).trans (congrArg (·.2.1) (left m e hO c t))) y).trans (at_emb (idx_own t) (Cert.Matrix.tile 2 256 _ _) (((cfgM m hO).win 7).rect_emb_val t) (p t).2.1 y),
    (dats m hO 0 c).arrAt_eq_of_covers 8 _ (covers m hO).2.2.1 fun t _ y => (congrFun ((after0_8 m hO c t).trans (congrArg (·.2.2.1) (left m e hO c t))) y).trans (at_emb (idx_own t) (Cert.Matrix.tile 2 256 _ _) (((cfgM m hO).win 8).rect_emb_val t) (p t).2.2.1 y),
    (dats m hO 0 c).arrAt_eq_of_covers 9 _ (covers m hO).2.2.2 fun t _ y => (congrFun ((after0_9 m hO c t).trans (congrArg (·.2.2.2) (left m e hO c t))) y).trans (at_emb (idx_own t) (Cert.Matrix.tile 2 256 _ _) (((cfgM m hO).win 9).rect_emb_val t) (p t).2.2.2 y)⟩

variable (ρ : Dev nD → PrngReg)

/-- The kernel's run. -/
theorem run (h : Cert.Pre_Kernel19Ideal m) :
    θ_run defs (onTc (τ := τ) (main (F := Ideal))) ⟨m, fun _ => 0, ρ⟩ (fun r => ∀ c : Dev nD,
        r.2.mem ((c.tc : Thread nD τ).loc main_v0_0) = val_main_v9 (F := Ideal) (m ((c : Thread nD τ).loc main_arg1)) (m ((c : Thread nD τ).loc main_arg2)) (m ((c : Thread nD τ).loc main_arg3)) (m ((c : Thread nD τ).loc main_arg6))
        ∧ r.2.mem ((c.tc : Thread nD τ).loc main_v0_1) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ∧ r.2.mem ((c.tc : Thread nD τ).loc main_v0_2) = val_main_v14 (F := Ideal) (m ((c : Thread nD τ).loc main_arg1)) (m ((c : Thread nD τ).loc main_arg2)) (m ((c : Thread nD τ).loc main_arg3)) (m ((c : Thread nD τ).loc main_arg4)) (m ((c : Thread nD τ).loc main_arg6))
        ∧ r.2.mem ((c.tc : Thread nD τ).loc main_v0_3) = val_main_v20 (F := Ideal) (m ((c : Thread nD τ).loc main_arg1)) (m ((c : Thread nD τ).loc main_arg2)) (m ((c : Thread nD τ).loc main_arg3)) (m ((c : Thread nD τ).loc main_arg5)) (m ((c : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  have hO := ok_of_pre m h
  obtain ⟨k, e⟩ := core_of_pre m h
  refine (θ_run defs _ _).mono (fun r h c => ?_) (run_main m ρ hO)
  exact ⟨((h c).1 6).trans (final m e hO c).1, ((h c).1 7).trans (final m e hO c).2.1, ((h c).1 8).trans (final m e hO c).2.2.1, ((h c).1 9).trans (final m e hO c).2.2.2,
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).1 5).trans (((dats m hO 0 c).arrAt_in 5 rfl _).trans ((A_eq m hO c 5).trans (V_main_arg5 m c))),
    ((h c).2 main_arg6 (by decide : main_arg6 ∈ Pipeline.restRefs sig spec0)).trans (V_main_arg6 m c)⟩

end Cert.Kernel19Ideal.Matrix

end
-- ==== Proof.MatrixDown.lean ====
module

public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import proofs.«01_k».proof.Proof.Gen.Pre_two_cores20
public import proofs.«01_k».proof.Defs
public import proofs.«01_k».proof.Proof.Matrix

@[expose] public section

set_option maxRecDepth 16384

noncomputable section

open Idealize.ShloMosaic Idealize.ShloMosaic.TcCoe Idealize.SL.Sem
open Idealize.ShloMosaic.Pipeline (Dat)

/-! The optimiser's step on the second feed-forward weight: where its blocks lie. -/

namespace Cert.Kernel20.Matrix

open Cert.Kernel20 Cert.Kernel20.Gen Cert.Matrix

/-- With either number every block lies in its array. -/
theorem ok_of_pre (m : (ℓ : Loc nD τ sig) → Buf (Elt Bits) ℓ) (h : Cert.Pre_Kernel20 m) : Ok (F := Bits) m := by
  have one (k : BitVec 32) (h : m (((0 : Dev nD) : Thread nD τ).loc main_arg6) (ix1 (n0 := 1) 0) = k) : tbl m = fun | ⟨0, _⟩ => fun _ => k | ⟨_ + 1, h⟩ => absurd h (by simp) := by
    funext j x
    match j with
    | ⟨0, _⟩ => exact (congrArg (m (((0 : Dev nD) : Thread nD τ).loc main_arg6)) (ix_one rfl x _)).trans h
  unfold Ok
  rcases core _ _ (h 0) with e | e <;> rw [one _ e] <;> decide +kernel

end Cert.Kernel20.Matrix

namespace Cert.Kernel20Ideal.Matrix

open Cert.Kernel20Ideal Cert.Kernel20Ideal.Gen Cert.Matrix

variable (m : (ℓ : Loc nD τ sig) → Buf (Elt Ideal) ℓ)

/-- The core's number as the kernel's table. -/
def one (k : BitVec 32) : pre0.Contents (Elt Ideal) := fun | ⟨0, _⟩ => fun _ => k | ⟨_ + 1, h⟩ => absurd h (by simp)

theorem core_of_pre (h : Cert.Pre_Kernel20Ideal m) : ∃ k : Fin 2, tbl m = one (BitVec.ofNat 32 k.val) := by
  have of (k : BitVec 32) (h : m (((0 : Dev nD) : Thread nD τ).loc main_arg6) (ix1 (n0 := 1) 0) = k) : tbl m = one k := by
    funext j x
    match j with
    | ⟨0, _⟩ => exact (congrArg (m (((0 : Dev nD) : Thread nD τ).loc main_arg6)) (ix_one rfl x _)).trans h
  exact (Cert.Matrix.core _ _ (h 0)).elim (fun e => ⟨0, of _ e⟩) fun e => ⟨1, of _ e⟩

theorem ok_of_pre (h : Cert.Pre_Kernel20Ideal m) : Ok (F := Ideal) m := by
  obtain ⟨k, e⟩ := core_of_pre m h
  unfold Ok
  rw [e]
  clear e
  revert k
  decide +kernel

theorem surj : ∀ (a : Fin 2) (b : Fin 2) (d : Fin 1), ∃ i : grid0.Coords, cc0_transform_6 i = ![a.val, b.val, d.val] := by decide +kernel

/-- The blocks of each output cover its array. -/
theorem covers (hO : Ok m) : ((cfgM m hO).win 6).Covers ∧ ((cfgM m hO).win 7).Covers ∧ ((cfgM m hO).win 8).Covers ∧ ((cfgM m hO).win 9).Covers := by
  refine ⟨?_, ?_, ?_, ?_⟩ <;>
  exact Pipeline.Window.covers_of_indexMap_surj _ rfl (by decide : ∀ a, 0 < S1x352x1024.size a) fun β =>
    (surj ⟨(β ⟨0, (by decide : 0 < 3)⟩).val, lt_of_lt_of_eq (β ⟨0, (by decide : 0 < 3)⟩).isLt (by with_unfolding_all rfl)⟩ ⟨(β ⟨1, (by decide : 1 < 3)⟩).val, lt_of_lt_of_eq (β ⟨1, (by decide : 1 < 3)⟩).isLt (by with_unfolding_all rfl)⟩
      ⟨(β ⟨2, (by decide : 2 < 3)⟩).val, lt_of_lt_of_eq (β ⟨2, (by decide : 2 < 3)⟩).isLt (by with_unfolding_all rfl)⟩).imp
      fun i h a => (congrFun h a).trans (by match a with | ⟨0, _⟩ => rfl | ⟨1, _⟩ => rfl | ⟨2, _⟩ => rfl)

theorem idx_own : ∀ t : Fin grid0.N, cc0_transform_0 (grid0.coords t) = ![(grid0.coords t 0).val, (grid0.coords t 1).val, 0] := by decide +kernel
theorem idx_sib : ∀ (k : Fin 2) (t : Fin grid0.N), cc0_transform_1 inb_S1_S1_0 numel1_S1 (one (BitVec.ofNat 32 k.val)) (grid0.coords t) = ![(grid0.coords t 0).val, 1 - k.val, 0] := by decide +kernel
theorem idx_half : ∀ t : Fin grid0.N, cc0_transform_2 (grid0.coords t) = ![0, 0] := by decide +kernel

open Cert.Reference20Ideal.Read

/-- What the body reads are the blocks and the core's number. -/
theorem reads {α : Type} (f : (S352x1024.Idx → Ideal .f32) → (S352x1024.Idx → Ideal .f32) → BitVec 32 → (S1x352x1024.Idx → Ideal .f32) → (S1x352x1024.Idx → Ideal .f32) → (S1x352x1024.Idx → Ideal .f32) → (S1x352x1024.Idx → Ideal .f32) → α) {k : Fin 2} (e : tbl m = one (BitVec.ofNat 32 k.val)) (hO : Ok m) (c : Dev nD) (t : Fin (cfgM m hO).N) :
    f (View.read (Elt Ideal) (ms0_2 m hO t).view ((hs0_2 m hO t).unread (iblk m hO c 2 t))) (View.read (Elt Ideal) (ms0_3 m hO t).view ((hs0_3 m hO t).unread (iblk m hO c 3 t)))
        (View.readAt (Elt Ideal) (View.whole main_arg6) (Rect.unit ![0] ![1] inb_S1_S1_0).toLoadRect (tbl m 0) (Shape.Idx.first (by decide)))
        (View.read (Elt Ideal) (ms0_1 m hO t).view ((hs0_1 m hO t).unread (iblk m hO c 1 t))) (View.read (Elt Ideal) (ms0_4 m hO t).view ((hs0_4 m hO t).unread (iblk m hO c 4 t)))
        (View.read (Elt Ideal) (ms0_5 m hO t).view ((hs0_5 m hO t).unread (iblk m hO c 5 t))) (View.read (Elt Ideal) (ms0_0 m hO t).view ((hs0_0 m hO t).unread (iblk m hO c 0 t)))
      = f (iblk m hO c 2 t) (iblk m hO c 3 t) (BitVec.ofNat 32 k.val) (iblk m hO c 1 t) (iblk m hO c 4 t) (iblk m hO c 5 t) (iblk m hO c 0 t) := by
  refine congr (congr (congr (congr (congr (congr (congrArg f ((hs0_2 m hO t).read_unread _)) ((hs0_3 m hO t).read_unread _)) ?_) ((hs0_1 m hO t).read_unread _)) ((hs0_4 m hO t).read_unread _)) ((hs0_5 m hO t).read_unread _)) ((hs0_0 m hO t).read_unread _)
  rw [e]
  rfl

theorem core_at {k : Fin 2} (e : tbl m = one (BitVec.ofNat 32 k.val)) (c : Dev nD) : m ((c : Thread nD τ).loc main_arg6) (ix1 (n0 := 1) 0) = BitVec.ofNat 32 k.val := by
  rw [Subsingleton.elim (α := Fin 1) c 0]
  exact congrFun (congrFun e 0) (ix1 (n0 := 1) 0)

/-- What the body leaves at a grid point. -/
theorem left {k : Fin 2} (e : tbl m = one (BitVec.ofNat 32 k.val)) (hO : Ok m) (c : Dev nD) (t : Fin (cfgM m hO).N) :
    outsAt0 m hO c t = (k0_pay4 (F := Ideal) (grid0.coords t) (iblk m hO c 2 t) (iblk m hO c 3 t) (BitVec.ofNat 32 k.val) (iblk m hO c 1 t),
      k0_pay2 (F := Ideal) (k0_pay5 (F := Ideal) (grid0.coords t) (iblk m hO c 2 t) (iblk m hO c 3 t) (BitVec.ofNat 32 k.val) (iblk m hO c 1 t) (iblk m hO c 4 t))
        (k0_pay6 (F := Ideal) (grid0.coords t) (iblk m hO c 2 t) (iblk m hO c 3 t) (BitVec.ofNat 32 k.val) (iblk m hO c 1 t) (iblk m hO c 5 t)) (iblk m hO c 0 t),
      k0_pay7 (F := Ideal) (grid0.coords t) (iblk m hO c 2 t) (iblk m hO c 3 t) (BitVec.ofNat 32 k.val) (iblk m hO c 1 t) (iblk m hO c 4 t),
      k0_pay1 (F := Ideal) (k0_pay6 (F := Ideal) (grid0.coords t) (iblk m hO c 2 t) (iblk m hO c 3 t) (BitVec.ofNat 32 k.val) (iblk m hO c 1 t) (iblk m hO c 5 t))) := by
  unfold outsAt0
  frame_out
  exact reads m (fun x2 x3 k x1 x4 x5 x0 => (k0_pay4 (F := Ideal) (grid0.coords t) x2 x3 k x1, k0_pay2 (F := Ideal) (k0_pay5 (grid0.coords t) x2 x3 k x1 x4) (k0_pay6 (grid0.coords t) x2 x3 k x1 x5) x0,
    k0_pay7 (F := Ideal) (grid0.coords t) x2 x3 k x1 x4, k0_pay1 (F := Ideal) (k0_pay6 (grid0.coords t) x2 x3 k x1 x5))) e hO c t

/-- The four outputs: the gradient, the step, the new mean of the gradients and that of their squares. -/
theorem final {k : Fin 2} (e : tbl m = one (BitVec.ofNat 32 k.val)) (hO : Ok m) (c : Dev nD) :
    (dats m hO 0 c).arrAt 6 (cfgM m hO).N = val_main_v9 (F := Ideal) (m ((c : Thread nD τ).loc main_arg1)) (m ((c : Thread nD τ).loc main_arg2)) (m ((c : Thread nD τ).loc main_arg3)) (m ((c : Thread nD τ).loc main_arg6))
      ∧ (dats m hO 0 c).arrAt 7 (cfgM m hO).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ (dats m hO 0 c).arrAt 8 (cfgM m hO).N = val_main_v14 (F := Ideal) (m ((c : Thread nD τ).loc main_arg1)) (m ((c : Thread nD τ).loc main_arg2)) (m ((c : Thread nD τ).loc main_arg3)) (m ((c : Thread nD τ).loc main_arg4)) (m ((c : Thread nD τ).loc main_arg6))
      ∧ (dats m hO 0 c).arrAt 9 (cfgM m hO).N = val_main_v20 (F := Ideal) (m ((c : Thread nD τ).loc main_arg1)) (m ((c : Thread nD τ).loc main_arg2)) (m ((c : Thread nD τ).loc main_arg3)) (m ((c : Thread nD τ).loc main_arg5)) (m ((c : Thread nD τ).loc main_arg6)) :=
  have p (t : Fin grid0.N) := outs (κ := κ) (k := k) shapeCasts_S1x352x1024_S352x1024 shapeCasts_S352x1024_S1x352x1024 rfl rfl (grid0.coords t 0).isLt (grid0.coords t 1).isLt
    (show 0 + 352 ≤ 352 from le_refl _) (cut_of (idx_own t) rfl (((cfgM m hO).win 0).rect_emb_val t) (V_main_arg0 m c) (b := iblk m hO c 0 t) fun _ => rfl)
    (cut_of ((congrArg (cc0_transform_1 inb_S1_S1_0 numel1_S1 · (grid0.coords t)) e).trans (idx_sib k t)) rfl (((cfgM m hO).win 1).rect_emb_val t) (V_main_arg1 m c) (b := iblk m hO c 1 t) fun _ => rfl)
    (cut₂_of (idx_half t) (Nat.zero_mul _) (((cfgM m hO).win 2).rect_emb_val t) (V_main_arg2 m c) (b := iblk m hO c 2 t) fun _ => rfl)
    (cut₂_of (idx_half t) (Nat.zero_mul _) (((cfgM m hO).win 3).rect_emb_val t) (V_main_arg3 m c) (b := iblk m hO c 3 t) fun _ => rfl)
    (cut_of (idx_own t) rfl (((cfgM m hO).win 4).rect_emb_val t) (V_main_arg4 m c) (b := iblk m hO c 4 t) fun _ => rfl)
    (cut_of (idx_own t) rfl (((cfgM m hO).win 5).rect_emb_val t) (V_main_arg5 m c) (b := iblk m hO c 5 t) fun _ => rfl)
    (half_at (r := 704) (h := 352) rfl _ _ _ _ _ _ _ _ _ _ _ k (core_at m e c))
  ⟨(dats m hO 0 c).arrAt_eq_of_covers 6 _ (covers m hO).1 fun t _ y => (congrFun ((after0_6 m hO c t).trans (congrArg (·.1) (left m e hO c t))) y).trans (at_emb (idx_own t) rfl (((cfgM m hO).win 6).rect_emb_val t) (p t).1 y),
    (dats m hO 0 c).arrAt_eq_of_covers 7 _ (covers m hO).2.1 fun t _ y => (congrFun ((after0_7 m hO c t).trans (congrArg (·.2.1) (left m e hO c t))) y).trans (at_emb (idx_own t) rfl (((cfgM m hO).win 7).rect_emb_val t) (p t).2.1 y),
    (dats m hO 0 c).arrAt_eq_of_covers 8 _ (covers m hO).2.2.1 fun t _ y => (congrFun ((after0_8 m hO c t).trans (congrArg (·.2.2.1) (left m e hO c t))) y).trans (at_emb (idx_own t) rfl (((cfgM m hO).win 8).rect_emb_val t) (p t).2.2.1 y),
    (dats m hO 0 c).arrAt_eq_of_covers 9 _ (covers m hO).2.2.2 fun t _ y => (congrFun ((after0_9 m hO c t).trans (congrArg (·.2.2.2) (left m e hO c t))) y).trans (at_emb (idx_own t) rfl (((cfgM m hO).win 9).rect_emb_val t) (p t).2.2.2 y)⟩

variable (ρ : Dev nD → PrngReg)

/-- The kernel's run. -/
theorem run (h : Cert.Pre_Kernel20Ideal m) :
    θ_run defs (onTc (τ := τ) (main (F := Ideal))) ⟨m, fun _ => 0, ρ⟩ (fun r => ∀ c : Dev nD,
        r.2.mem ((c.tc : Thread nD τ).loc main_v0_0) = val_main_v9 (F := Ideal) (m ((c : Thread nD τ).loc main_arg1)) (m ((c : Thread nD τ).loc main_arg2)) (m ((c : Thread nD τ).loc main_arg3)) (m ((c : Thread nD τ).loc main_arg6))
        ∧ r.2.mem ((c.tc : Thread nD τ).loc main_v0_1) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ∧ r.2.mem ((c.tc : Thread nD τ).loc main_v0_2) = val_main_v14 (F := Ideal) (m ((c : Thread nD τ).loc main_arg1)) (m ((c : Thread nD τ).loc main_arg2)) (m ((c : Thread nD τ).loc main_arg3)) (m ((c : Thread nD τ).loc main_arg4)) (m ((c : Thread nD τ).loc main_arg6))
        ∧ r.2.mem ((c.tc : Thread nD τ).loc main_v0_3) = val_main_v20 (F := Ideal) (m ((c : Thread nD τ).loc main_arg1)) (m ((c : Thread nD τ).loc main_arg2)) (m ((c : Thread nD τ).loc main_arg3)) (m ((c : Thread nD τ).loc main_arg5)) (m ((c : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  have hO := ok_of_pre m h
  obtain ⟨k, e⟩ := core_of_pre m h
  refine (θ_run defs _ _).mono (fun r h c => ?_) (run_main m ρ hO)
  exact ⟨((h c).1 6).trans (final m e hO c).1, ((h c).1 7).trans (final m e hO c).2.1, ((h c).1 8).trans (final m e hO c).2.2.1, ((h c).1 9).trans (final m e hO c).2.2.2,
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).1 5).trans (((dats m hO 0 c).arrAt_in 5 rfl _).trans ((A_eq m hO c 5).trans (V_main_arg5 m c))),
    ((h c).2 main_arg6 (by decide : main_arg6 ∈ Pipeline.restRefs sig spec0)).trans (V_main_arg6 m c)⟩

end Cert.Kernel20Ideal.Matrix

end
-- ==== Proof.lean ====
/- The proof of the certificate: the generated frames, and the value of every call from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Pre_two_cores
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Pre_two_cores17
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Pre_two_cores18
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Pre_two_cores19
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Pre_two_cores20
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel21.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel22.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel23.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel24.Frame
public import proofs.«01_k».proof.Proof.GateValue
public import proofs.«01_k».proof.Proof.Sums
public import proofs.«01_k».proof.Proof.LossGrad
public import proofs.«01_k».proof.Proof.Embed
public import proofs.«01_k».proof.Proof.ConvBack
public import proofs.«01_k».proof.Proof.Ln1Back
public import proofs.«01_k».proof.Proof.InLnBack
public import proofs.«01_k».proof.Proof.Products
public import proofs.«01_k».proof.Proof.Forward
public import proofs.«01_k».proof.Proof.ResLn
public import proofs.«01_k».proof.Proof.Optimiser
public import proofs.«01_k».proof.Proof.MatrixIn
public import proofs.«01_k».proof.Proof.MatrixProj
public import proofs.«01_k».proof.Proof.MatrixOut
public import proofs.«01_k».proof.Proof.MatrixUp
public import proofs.«01_k».proof.Proof.MatrixDown

@[expose] public section

noncomputable section

namespace Cert.Proof

open Idealize.ShloMosaic Idealize.SL.Sem

/-! Every reference ends with its arguments unchanged and has no counters; every kernel's results are the
arrays its value module computes, which are the reference's. -/

/-- The reference of the gated merge backwards. -/
theorem frame_ri : Cert.quiescent_ReferenceIdeal := fun m ρ _ =>
  (θ_run _ _ _).mono (fun _ h => ⟨fun c => (h c).2.2.2.2, sem_eq_zero_of_no_sems (by decide) _⟩) (Cert.ReferenceIdeal.Value.run m ρ)

/-- The values of the gated merge backwards. -/
theorem algebraic : Cert.algebraic_KernelIdeal_ReferenceIdeal := fun m ρ m' ρ' _ hagree => by
  refine ⟨_, _, _, _, Cert.KernelIdeal.Value.run_blocks m ρ, (θ_run _ _ _).mono (fun r h c => ?_) (Cert.ReferenceIdeal.Value.run m' ρ')⟩
  obtain ⟨h0, h1, h2, h3, hu⟩ := h c
  obtain ⟨e0, e1, e2, e3, e4⟩ := hagree c
  refine ⟨h0.trans ?_, h1.trans ?_, h2.trans ?_, h3.trans ?_, hu⟩
  · refine (Cert.ReferenceIdeal.Read.val_main_v37_eq _ _ _).trans ?_
    rw [e0, e1, e4]
    exact (Cert.KernelIdeal.GateValue.final6 m c).symm
  · refine (Cert.ReferenceIdeal.Read.val_main_v38_eq _ _ _).trans ?_
    rw [e0, e1, e4]
    exact (Cert.KernelIdeal.GateValue.final7 m c).symm
  · refine (Cert.ReferenceIdeal.Read.val_main_v39_eq _ _ _ _ _).trans ?_
    rw [e0, e1, e2, e3, e4]
    exact (Cert.KernelIdeal.GateValue.final8 m c).symm
  · refine (Cert.ReferenceIdeal.Read.val_main_v41_eq _ _ _ _ _).trans ?_
    rw [e0, e1, e2, e3, e4]
    exact (Cert.KernelIdeal.GateValue.final9 m c).symm

/-- The reference of the convolution branch backwards. -/
theorem frame_ri2 : Cert.quiescent_Reference2Ideal := fun m ρ _ =>
  (θ_run _ _ _).mono (fun _ h => ⟨fun c => (h c).2.2.2.2, sem_eq_zero_of_no_sems (by decide) _⟩) (Cert.Reference2Ideal.Value.run m ρ)

/-- The values of the convolution branch backwards. -/
theorem algebraic2 : Cert.algebraic_Kernel2Ideal_Reference2Ideal_pre_finite2 := fun m ρ m' ρ' hp hagree => by
  refine ⟨_, _, _, _, Cert.Kernel2Ideal.Value.run_blocks m ρ, (θ_run _ _ _).mono (fun r h c => ?_) (Cert.Reference2Ideal.Value.run m' ρ')⟩
  obtain ⟨h0, h1, h2, h3, hu⟩ := h c
  obtain ⟨e0, e1, e2, e3, e4⟩ := hagree c
  refine ⟨h0.trans ?_, h1.trans ?_, h2.trans ?_, h3.trans ?_, hu⟩
  · refine (Cert.Reference2Ideal.Read.val_main_v68_eq m' c).trans ?_
    rw [e0, e1, e2, e3, e4]
    exact (Cert.Kernel2Ideal.ConvBack.final5 m hp c).symm
  · refine (Cert.Reference2Ideal.Read.val_main_v42_eq m' c).trans ?_
    rw [e0, e1, e2, e3, e4]
    exact (Cert.Kernel2Ideal.ConvBack.final6 m hp c).symm
  · refine (Cert.Reference2Ideal.Read.val_main_v39_eq m' c).trans ?_
    rw [e0, e1, e2, e3, e4]
    exact (Cert.Kernel2Ideal.ConvBack.final7 m hp c).symm
  · refine (Cert.Reference2Ideal.Read.val_main_v70_eq m' c).trans ?_
    rw [e0, e1, e2, e3, e4]
    exact (Cert.Kernel2Ideal.ConvBack.final8 m hp c).symm

/-- The reference of the first norm and the feed-forward product backwards. -/
theorem frame_ri3 : Cert.quiescent_Reference3Ideal := fun m ρ _ =>
  (θ_run _ _ _).mono (fun _ h => ⟨fun c => (h c).2.2.2.2, sem_eq_zero_of_no_sems (by decide) _⟩) (Cert.Reference3Ideal.Value.run m ρ)

/-- The values of the first norm and the feed-forward product backwards. -/
theorem algebraic3 : Cert.algebraic_Kernel3Ideal_Reference3Ideal_pre_finite3 := fun m ρ m' ρ' hp hagree => by
  refine ⟨_, _, _, _, Cert.Kernel3Ideal.Value.run_blocks m ρ, (θ_run _ _ _).mono (fun r h c => ?_) (Cert.Reference3Ideal.Value.run m' ρ')⟩
  obtain ⟨h0, h1, h2, h3, hu⟩ := h c
  obtain ⟨e0, e1, e2, e3, e4⟩ := hagree c
  refine ⟨h0.trans ?_, h1.trans ?_, h2.trans ?_, h3.trans ?_, hu⟩
  · refine (Cert.Reference3Ideal.Read.val_main_v75_eq m' c).trans ?_
    rw [e0, e1, e2, e3, e4]
    exact (Cert.Kernel3Ideal.Ln1Back.final5 m hp c).symm
  · refine (Cert.Reference3Ideal.Read.val_main_v76_eq m' c).trans ?_
    rw [e0, e1, e2, e3, e4]
    exact (Cert.Kernel3Ideal.Ln1Back.final6 m hp c).symm
  · refine (Cert.Reference3Ideal.Read.val_main_v49_eq _ _ _ _).trans ?_
    rw [e0, e1, e3, e4]
    exact (Cert.Kernel3Ideal.Ln1Back.final7 m c).symm
  · refine (Cert.Reference3Ideal.Read.val_main_v46_eq _ _ _).trans ?_
    rw [e0, e3, e4]
    exact (Cert.Kernel3Ideal.Ln1Back.final8 m c).symm

/-- The reference of the norm before a layer and its projection backwards. -/
theorem frame_ri4 : Cert.quiescent_Reference4Ideal := fun m ρ _ =>
  (θ_run _ _ _).mono (fun _ h => ⟨fun c => (h c).2.2.2.2, sem_eq_zero_of_no_sems (by decide) _⟩) (Cert.Reference4Ideal.Value.run m ρ)

/-- The values of the norm before a layer and its projection backwards. -/
theorem algebraic4 : Cert.algebraic_Kernel4Ideal_Reference4Ideal_pre_finite4 := fun m ρ m' ρ' hp hagree => by
  refine ⟨_, _, _, _, Cert.Kernel4Ideal.Value.run_blocks m ρ, (θ_run _ _ _).mono (fun r h c => ?_) (Cert.Reference4Ideal.Value.run m' ρ')⟩
  obtain ⟨h0, h1, h2, h3, hu⟩ := h c
  obtain ⟨e0, e1, e2, e3, e4, e5, e6⟩ := hagree c
  refine ⟨h0.trans ?_, h1.trans ?_, h2.trans ?_, h3.trans ?_, hu⟩
  · refine (Cert.Reference4Ideal.Read.val_main_v70_eq m' c).trans ?_
    rw [e0, e1, e2, e3, e4, e5, e6]
    exact (Cert.Kernel4Ideal.InLnBack.final7 m hp c).symm
  · refine (Cert.Reference4Ideal.Read.val_main_v71_eq m' c).trans ?_
    rw [e0, e1, e2, e3, e4, e5, e6]
    exact (Cert.Kernel4Ideal.InLnBack.final8 m hp c).symm
  · refine (Cert.Reference4Ideal.Read.val_main_v44_eq _ _ _ _ _ _).trans ?_
    rw [e0, e1, e3, e4, e5, e6]
    exact (Cert.Kernel4Ideal.InLnBack.final9 m c).symm
  · refine (Cert.Reference4Ideal.Read.val_main_v41_eq _ _ _ _ _).trans ?_
    rw [e0, e3, e4, e5, e6]
    exact (Cert.Kernel4Ideal.InLnBack.final10 m c).symm

/-- The reference of the gradient of the second feed-forward weight. -/
theorem frame_ri5 : Cert.quiescent_Reference5Ideal := fun m ρ _ =>
  (θ_run _ _ _).mono (fun _ h => ⟨fun c => (h c).2, sem_eq_zero_of_no_sems (by decide) _⟩) (Cert.Reference5Ideal.Value.run m ρ)

/-- The values of the gradient of the second feed-forward weight. -/
theorem algebraic5 : Cert.algebraic_Kernel5Ideal_Reference5Ideal := fun m ρ m' ρ' _ hagree => by
  refine ⟨_, Cert.Kernel5Ideal.Value.run_blocks m ρ, (θ_run _ _ _).mono (fun r h c => ?_) (Cert.Reference5Ideal.Value.run m' ρ')⟩
  obtain ⟨h0, hu⟩ := h c
  obtain ⟨e0, e1⟩ := hagree c
  refine ⟨h0.trans ?_, hu⟩
  refine (Cert.Reference5Ideal.Read.val_main_v5_eq _ _).trans ?_
  rw [e0, e1]
  exact (Cert.Kernel5Ideal.DwDown.final m c).symm

/-- The reference of the gradient of the output weight. -/
theorem frame_ri6 : Cert.quiescent_Reference6Ideal := fun m ρ _ =>
  (θ_run _ _ _).mono (fun _ h => ⟨fun c => (h c).2, sem_eq_zero_of_no_sems (by decide) _⟩) (Cert.Reference6Ideal.Value.run m ρ)

/-- The values of the gradient of the output weight. -/
theorem algebraic6 : Cert.algebraic_Kernel6Ideal_Reference6Ideal := fun m ρ m' ρ' _ hagree => by
  refine ⟨_, Cert.Kernel6Ideal.Value.run_blocks m ρ, (θ_run _ _ _).mono (fun r h c => ?_) (Cert.Reference6Ideal.Value.run m' ρ')⟩
  obtain ⟨h0, hu⟩ := h c
  obtain ⟨e0, e1⟩ := hagree c
  refine ⟨h0.trans ?_, hu⟩
  refine (Cert.Reference6Ideal.Read.val_main_v5_eq _ _).trans ?_
  rw [e0, e1]
  exact (Cert.Kernel6Ideal.DwOut.final m c).symm

/-- The reference of the gradient of the first feed-forward weight. -/
theorem frame_ri7 : Cert.quiescent_Reference7Ideal := fun m ρ _ =>
  (θ_run _ _ _).mono (fun _ h => ⟨fun c => (h c).2, sem_eq_zero_of_no_sems (by decide) _⟩) (Cert.Reference7Ideal.Value.run m ρ)

/-- The values of the gradient of the first feed-forward weight. -/
theorem algebraic7 : Cert.algebraic_Kernel7Ideal_Reference7Ideal := fun m ρ m' ρ' _ hagree => by
  refine ⟨_, Cert.Kernel7Ideal.Value.run_blocks m ρ, (θ_run _ _ _).mono (fun r h c => ?_) (Cert.Reference7Ideal.Value.run m' ρ')⟩
  obtain ⟨h0, hu⟩ := h c
  obtain ⟨e0, e1⟩ := hagree c
  refine ⟨h0.trans ?_, hu⟩
  refine (Cert.Reference7Ideal.Read.val_main_v13_eq _ _).trans ?_
  rw [e0, e1]
  exact (Cert.Kernel7Ideal.DwUp.final m c).symm

/-- The reference of the gradient of a branch projection. -/
theorem frame_ri8 : Cert.quiescent_Reference8Ideal := fun m ρ _ =>
  (θ_run _ _ _).mono (fun _ h => ⟨fun c => (h c).2, sem_eq_zero_of_no_sems (by decide) _⟩) (Cert.Reference8Ideal.Value.run m ρ)

/-- The values of the gradient of a branch projection. -/
theorem algebraic8 : Cert.algebraic_Kernel8Ideal_Reference8Ideal := fun m ρ m' ρ' _ hagree => by
  refine ⟨_, Cert.Kernel8Ideal.Value.run_blocks m ρ, (θ_run _ _ _).mono (fun r h c => ?_) (Cert.Reference8Ideal.Value.run m' ρ')⟩
  obtain ⟨h0, hu⟩ := h c
  obtain ⟨e0, e1⟩ := hagree c
  refine ⟨h0.trans ?_, hu⟩
  refine (Cert.Reference8Ideal.Read.val_main_v7_eq _ _).trans ?_
  rw [e0, e1]
  exact (Cert.Kernel8Ideal.DwProj.final m c).symm

/-- The reference of the gradient of the gate columns. -/
theorem frame_ri9 : Cert.quiescent_Reference9Ideal := fun m ρ _ =>
  (θ_run _ _ _).mono (fun _ h => ⟨fun c => (h c).2, sem_eq_zero_of_no_sems (by decide) _⟩) (Cert.Reference9Ideal.Value.run m ρ)

/-- The values of the gradient of the gate columns. -/
theorem algebraic9 : Cert.algebraic_Kernel9Ideal_Reference9Ideal := fun m ρ m' ρ' _ hagree => by
  refine ⟨_, Cert.Kernel9Ideal.Value.run_blocks m ρ, (θ_run _ _ _).mono (fun r h c => ?_) (Cert.Reference9Ideal.Value.run m' ρ')⟩
  obtain ⟨h0, hu⟩ := h c
  obtain ⟨e0, e1⟩ := hagree c
  refine ⟨h0.trans ?_, hu⟩
  refine (Cert.Reference9Ideal.Read.val_main_v5_eq _ _).trans ?_
  rw [e0, e1]
  exact (Cert.Kernel9Ideal.DwGates.final m c).symm

/-- The reference of the gradient of the attention columns. -/
theorem frame_ri10 : Cert.quiescent_Reference10Ideal := fun m ρ _ =>
  (θ_run _ _ _).mono (fun _ h => ⟨fun c => (h c).2, sem_eq_zero_of_no_sems (by decide) _⟩) (Cert.Reference10Ideal.Value.run m ρ)

/-- The values of the gradient of the attention columns. -/
theorem algebraic10 : Cert.algebraic_Kernel10Ideal_Reference10Ideal := fun m ρ m' ρ' _ hagree => by
  refine ⟨_, Cert.Kernel10Ideal.Value.run_blocks m ρ, (θ_run _ _ _).mono (fun r h c => ?_) (Cert.Reference10Ideal.Value.run m' ρ')⟩
  obtain ⟨h0, hu⟩ := h c
  obtain ⟨e0, e1⟩ := hagree c
  refine ⟨h0.trans ?_, hu⟩
  refine (Cert.Reference10Ideal.Read.val_main_v5_eq _ _).trans ?_
  rw [e0, e1]
  exact (Cert.Kernel10Ideal.DwQkv.final m c).symm

/-- The reference of the input projection. -/
theorem frame_ri11 : Cert.quiescent_Reference11Ideal := fun m ρ _ =>
  (θ_run _ _ _).mono (fun _ h => ⟨fun c => (h c).2, sem_eq_zero_of_no_sems (by decide) _⟩) (Cert.Reference11Ideal.Value.run m ρ)

/-- The values of the input projection. -/
theorem algebraic11 : Cert.algebraic_Kernel11Ideal_Reference11Ideal := fun m ρ m' ρ' _ hagree => by
  refine ⟨_, Cert.Kernel11Ideal.Value.run_blocks m ρ, (θ_run _ _ _).mono (fun r h c => ?_) (Cert.Reference11Ideal.Value.run m' ρ')⟩
  obtain ⟨h0, hu⟩ := h c
  obtain ⟨e0, e1, e2⟩ := hagree c
  refine ⟨h0.trans ?_, hu⟩
  refine (Cert.Reference11Ideal.Read.val_main_v4_eq _ _ _).trans ?_
  rw [e0, e1, e2]
  exact (Cert.Kernel11Ideal.InProj.final m c).symm

/-- The reference of the second feed-forward product and its norm. -/
theorem frame_ri12 : Cert.quiescent_Reference12Ideal := fun m ρ _ =>
  (θ_run _ _ _).mono (fun _ h => ⟨fun c => (h c).2.2.2, sem_eq_zero_of_no_sems (by decide) _⟩) (Cert.Reference12Ideal.Value.run m ρ)

/-- The values of the second feed-forward product and its norm. -/
theorem algebraic12 : Cert.algebraic_Kernel12Ideal_Reference12Ideal := fun m ρ m' ρ' _ hagree => by
  refine ⟨_, _, _, Cert.Kernel12Ideal.Value.run_blocks m ρ, (θ_run _ _ _).mono (fun r h c => ?_) (Cert.Reference12Ideal.Value.run m' ρ')⟩
  obtain ⟨h0, h1, h2, hu⟩ := h c
  obtain ⟨e0, e1, e2, e3, e4⟩ := hagree c
  refine ⟨h0.trans ?_, h1.trans ?_, h2.trans ?_, hu⟩
  · refine (Cert.Reference12Ideal.Read.val_main_v5_eq _ _ _).trans ?_
    rw [e0, e1, e2]
    exact (Cert.Kernel12Ideal.FfnDown.final5 m c).symm
  · refine (Cert.Reference12Ideal.Read.val_main_v27_eq _ _ _ _ _).trans ?_
    rw [e0, e1, e2, e3, e4]
    exact (Cert.Kernel12Ideal.FfnDown.final6 m c).symm
  · refine (Cert.Reference12Ideal.Read.val_main_v28_eq _ _ _ _ _).trans ?_
    rw [e0, e1, e2, e3, e4]
    exact (Cert.Kernel12Ideal.FfnDown.final7 m c).symm

/-- The reference of the output projection and its norm. -/
theorem frame_ri13 : Cert.quiescent_Reference13Ideal := fun m ρ _ =>
  (θ_run _ _ _).mono (fun _ h => ⟨fun c => (h c).2.2.2, sem_eq_zero_of_no_sems (by decide) _⟩) (Cert.Reference13Ideal.Value.run m ρ)

/-- The values of the output projection and its norm. -/
theorem algebraic13 : Cert.algebraic_Kernel13Ideal_Reference13Ideal := fun m ρ m' ρ' _ hagree => by
  refine ⟨_, _, _, Cert.Kernel13Ideal.Value.run_blocks m ρ, (θ_run _ _ _).mono (fun r h c => ?_) (Cert.Reference13Ideal.Value.run m' ρ')⟩
  obtain ⟨h0, h1, h2, hu⟩ := h c
  obtain ⟨e0, e1, e2, e3, e4⟩ := hagree c
  refine ⟨h0.trans ?_, h1.trans ?_, h2.trans ?_, hu⟩
  · refine (Cert.Reference13Ideal.Read.val_main_v5_eq _ _ _).trans ?_
    rw [e0, e1, e2]
    exact (Cert.Kernel13Ideal.OutProj.final5 m c).symm
  · refine (Cert.Reference13Ideal.Read.val_main_v27_eq _ _ _ _ _).trans ?_
    rw [e0, e1, e2, e3, e4]
    exact (Cert.Kernel13Ideal.OutProj.final6 m c).symm
  · refine (Cert.Reference13Ideal.Read.val_main_v28_eq _ _ _ _ _).trans ?_
    rw [e0, e1, e2, e3, e4]
    exact (Cert.Kernel13Ideal.OutProj.final7 m c).symm

/-- The reference of the gated merge. -/
theorem frame_ri14 : Cert.quiescent_Reference14Ideal := fun m ρ _ =>
  (θ_run _ _ _).mono (fun _ h => ⟨fun c => (h c).2.2.2, sem_eq_zero_of_no_sems (by decide) _⟩) (Cert.Reference14Ideal.Value.run m ρ)

/-- The values of the gated merge. -/
theorem algebraic14 : Cert.algebraic_Kernel14Ideal_Reference14Ideal := fun m ρ m' ρ' _ hagree => by
  refine ⟨_, _, _, Cert.Kernel14Ideal.Value.run_blocks m ρ, (θ_run _ _ _).mono (fun r h c => ?_) (Cert.Reference14Ideal.Value.run m' ρ')⟩
  obtain ⟨h0, h1, h2, hu⟩ := h c
  obtain ⟨e0, e1, e2, e3, e4⟩ := hagree c
  refine ⟨h0.trans ?_, h1.trans ?_, h2.trans ?_, hu⟩
  · refine (Cert.Reference14Ideal.Read.val_main_v28_eq _ _).trans ?_
    rw [e0, e2]
    exact (Cert.Kernel14Ideal.Mix.final6 m c).symm
  · refine (Cert.Reference14Ideal.Read.val_main_v29_eq _ _).trans ?_
    rw [e1, e3]
    exact (Cert.Kernel14Ideal.Mix.final7 m c).symm
  · refine (Cert.Reference14Ideal.Read.val_main_v30_eq _ _ _ _ _).trans ?_
    rw [e0, e1, e2, e3, e4]
    exact (Cert.Kernel14Ideal.Mix.final8 m c).symm

/-- The reference of the step of the optimiser on the small weights. -/
theorem frame_ri15 : Cert.quiescent_Reference15Ideal := fun m ρ _ =>
  (θ_run _ _ _).mono (fun _ h => ⟨fun c => (h c).2.2.2, sem_eq_zero_of_no_sems (by decide) _⟩) (Cert.Reference15Ideal.Value.run m ρ)

/-- The values of the step of the optimiser on the small weights. -/
theorem algebraic15 : Cert.algebraic_Kernel15Ideal_Reference15Ideal := fun m ρ m' ρ' _ hagree => by
  refine ⟨_, _, _, Cert.Kernel15Ideal.Value.run_blocks m ρ, (θ_run _ _ _).mono (fun r h c => ?_) (Cert.Reference15Ideal.Value.run m' ρ')⟩
  obtain ⟨h0, h1, h2, hu⟩ := h c
  obtain ⟨e0, e1, e2, e3⟩ := hagree c
  refine ⟨h0.trans ?_, h1.trans ?_, h2.trans ?_, hu⟩
  · refine (Cert.Reference15Ideal.Read.val_main_v23_eq _ _ _ _).trans ?_
    rw [e0, e1, e2, e3]
    exact (Cert.Kernel15Ideal.Small.final4 m c).symm
  · refine (Cert.Reference15Ideal.Read.val_main_v4_eq _ _).trans ?_
    rw [e1, e2]
    exact (Cert.Kernel15Ideal.Small.final5 m c).symm
  · refine (Cert.Reference15Ideal.Read.val_main_v10_eq _ _).trans ?_
    rw [e1, e3]
    exact (Cert.Kernel15Ideal.Small.final6 m c).symm

/-- The two named constants of the optimiser's step. -/
theorem preserves15 : Cert.preserves_Kernel15_Kernel15Ideal :=
  ⟨IdealRules.named_const.statement _ "first" .f32 0x3FC48605#32 _ rfl, IdealRules.named_const.statement _ "second" .f32 0x42C8E6D3#32 _ rfl⟩

/-- The reference of the step of the optimiser on `w_in`. -/
theorem frame_ri16 : Cert.quiescent_Reference16Ideal := fun m ρ _ =>
  (θ_run _ _ _).mono (fun _ h => ⟨fun c => (h c).2.2.2.2, sem_eq_zero_of_no_sems (by decide) _⟩) (Cert.Reference16Ideal.Value.run m ρ)

/-- The same two constants, -/
theorem preserves16 : Cert.preserves_Kernel16_Kernel16Ideal := preserves15

/-- and the values of the step of the optimiser on `w_in`. -/
theorem algebraic16 : Cert.algebraic_Kernel16Ideal_Reference16Ideal := fun m ρ m' ρ' hp hagree => by
  refine ⟨_, _, _, _, Cert.Kernel16Ideal.Matrix.run m ρ hp, (θ_run _ _ _).mono (fun r h c => ?_) (Cert.Reference16Ideal.Value.run m' ρ')⟩
  obtain ⟨h0, h1, h2, h3, hu⟩ := h c
  obtain ⟨e0, e1, e2, e3, e4, e5, e6⟩ := hagree c
  refine ⟨h0.trans ?_, h1.trans ?_, h2.trans ?_, h3.trans ?_, hu⟩
  · refine (Cert.Reference16Ideal.Read.val_main_v9_eq _ _ _ _).trans ?_
    rw [e1, e2, e3, e6]
  · refine (Cert.Reference16Ideal.Read.val_main_v33_eq m' c).trans ?_
    rw [e0, e1, e2, e3, e4, e5, e6]
  · refine (Cert.Reference16Ideal.Read.val_main_v14_eq _ _ _ _ _).trans ?_
    rw [e1, e2, e3, e4, e6]
  · refine (Cert.Reference16Ideal.Read.val_main_v20_eq _ _ _ _ _).trans ?_
    rw [e1, e2, e3, e5, e6]

/-- The reference of the step of the optimiser on a branch projection. -/
theorem frame_ri17 : Cert.quiescent_Reference17Ideal := fun m ρ _ =>
  (θ_run _ _ _).mono (fun _ h => ⟨fun c => (h c).2.2.2.2, sem_eq_zero_of_no_sems (by decide) _⟩) (Cert.Reference17Ideal.Value.run m ρ)

/-- The same two constants, -/
theorem preserves17 : Cert.preserves_Kernel17_Kernel17Ideal := preserves15

/-- and the values of the step of the optimiser on a branch projection. -/
theorem algebraic17 : Cert.algebraic_Kernel17Ideal_Reference17Ideal := fun m ρ m' ρ' hp hagree => by
  refine ⟨_, _, _, _, Cert.Kernel17Ideal.Matrix.run m ρ hp, (θ_run _ _ _).mono (fun r h c => ?_) (Cert.Reference17Ideal.Value.run m' ρ')⟩
  obtain ⟨h0, h1, h2, h3, hu⟩ := h c
  obtain ⟨e0, e1, e2, e3, e4, e5, e6⟩ := hagree c
  refine ⟨h0.trans ?_, h1.trans ?_, h2.trans ?_, h3.trans ?_, hu⟩
  · refine (Cert.Reference17Ideal.Read.val_main_v9_eq _ _ _ _).trans ?_
    rw [e1, e2, e3, e6]
  · refine (Cert.Reference17Ideal.Read.val_main_v33_eq m' c).trans ?_
    rw [e0, e1, e2, e3, e4, e5, e6]
  · refine (Cert.Reference17Ideal.Read.val_main_v14_eq _ _ _ _ _).trans ?_
    rw [e1, e2, e3, e4, e6]
  · refine (Cert.Reference17Ideal.Read.val_main_v20_eq _ _ _ _ _).trans ?_
    rw [e1, e2, e3, e5, e6]

/-- The reference of the step of the optimiser on the output weight. -/
theorem frame_ri18 : Cert.quiescent_Reference18Ideal := fun m ρ _ =>
  (θ_run _ _ _).mono (fun _ h => ⟨fun c => (h c).2.2.2.2, sem_eq_zero_of_no_sems (by decide) _⟩) (Cert.Reference18Ideal.Value.run m ρ)

/-- The same two constants, -/
theorem preserves18 : Cert.preserves_Kernel18_Kernel18Ideal := preserves15

/-- and the values of the step of the optimiser on the output weight. -/
theorem algebraic18 : Cert.algebraic_Kernel18Ideal_Reference18Ideal := fun m ρ m' ρ' hp hagree => by
  refine ⟨_, _, _, _, Cert.Kernel18Ideal.Matrix.run m ρ hp, (θ_run _ _ _).mono (fun r h c => ?_) (Cert.Reference18Ideal.Value.run m' ρ')⟩
  obtain ⟨h0, h1, h2, h3, hu⟩ := h c
  obtain ⟨e0, e1, e2, e3, e4, e5, e6⟩ := hagree c
  refine ⟨h0.trans ?_, h1.trans ?_, h2.trans ?_, h3.trans ?_, hu⟩
  · refine (Cert.Reference18Ideal.Read.val_main_v9_eq _ _ _ _).trans ?_
    rw [e1, e2, e3, e6]
  · refine (Cert.Reference18Ideal.Read.val_main_v33_eq m' c).trans ?_
    rw [e0, e1, e2, e3, e4, e5, e6]
  · refine (Cert.Reference18Ideal.Read.val_main_v14_eq _ _ _ _ _).trans ?_
    rw [e1, e2, e3, e4, e6]
  · refine (Cert.Reference18Ideal.Read.val_main_v20_eq _ _ _ _ _).trans ?_
    rw [e1, e2, e3, e5, e6]

/-- The reference of the step of the optimiser on the first feed-forward weight. -/
theorem frame_ri19 : Cert.quiescent_Reference19Ideal := fun m ρ _ =>
  (θ_run _ _ _).mono (fun _ h => ⟨fun c => (h c).2.2.2.2, sem_eq_zero_of_no_sems (by decide) _⟩) (Cert.Reference19Ideal.Value.run m ρ)

/-- The same two constants, -/
theorem preserves19 : Cert.preserves_Kernel19_Kernel19Ideal := preserves15

/-- and the values of the step of the optimiser on the first feed-forward weight. -/
theorem algebraic19 : Cert.algebraic_Kernel19Ideal_Reference19Ideal := fun m ρ m' ρ' hp hagree => by
  refine ⟨_, _, _, _, Cert.Kernel19Ideal.Matrix.run m ρ hp, (θ_run _ _ _).mono (fun r h c => ?_) (Cert.Reference19Ideal.Value.run m' ρ')⟩
  obtain ⟨h0, h1, h2, h3, hu⟩ := h c
  obtain ⟨e0, e1, e2, e3, e4, e5, e6⟩ := hagree c
  refine ⟨h0.trans ?_, h1.trans ?_, h2.trans ?_, h3.trans ?_, hu⟩
  · refine (Cert.Reference19Ideal.Read.val_main_v9_eq _ _ _ _).trans ?_
    rw [e1, e2, e3, e6]
  · refine (Cert.Reference19Ideal.Read.val_main_v33_eq m' c).trans ?_
    rw [e0, e1, e2, e3, e4, e5, e6]
  · refine (Cert.Reference19Ideal.Read.val_main_v14_eq _ _ _ _ _).trans ?_
    rw [e1, e2, e3, e4, e6]
  · refine (Cert.Reference19Ideal.Read.val_main_v20_eq _ _ _ _ _).trans ?_
    rw [e1, e2, e3, e5, e6]

/-- The reference of the step of the optimiser on the second feed-forward weight. -/
theorem frame_ri20 : Cert.quiescent_Reference20Ideal := fun m ρ _ =>
  (θ_run _ _ _).mono (fun _ h => ⟨fun c => (h c).2.2.2.2, sem_eq_zero_of_no_sems (by decide) _⟩) (Cert.Reference20Ideal.Value.run m ρ)

/-- The same two constants, -/
theorem preserves20 : Cert.preserves_Kernel20_Kernel20Ideal := preserves15

/-- and the values of the step of the optimiser on the second feed-forward weight. -/
theorem algebraic20 : Cert.algebraic_Kernel20Ideal_Reference20Ideal := fun m ρ m' ρ' hp hagree => by
  refine ⟨_, _, _, _, Cert.Kernel20Ideal.Matrix.run m ρ hp, (θ_run _ _ _).mono (fun r h c => ?_) (Cert.Reference20Ideal.Value.run m' ρ')⟩
  obtain ⟨h0, h1, h2, h3, hu⟩ := h c
  obtain ⟨e0, e1, e2, e3, e4, e5, e6⟩ := hagree c
  refine ⟨h0.trans ?_, h1.trans ?_, h2.trans ?_, h3.trans ?_, hu⟩
  · refine (Cert.Reference20Ideal.Read.val_main_v9_eq _ _ _ _).trans ?_
    rw [e1, e2, e3, e6]
  · refine (Cert.Reference20Ideal.Read.val_main_v33_eq m' c).trans ?_
    rw [e0, e1, e2, e3, e4, e5, e6]
  · refine (Cert.Reference20Ideal.Read.val_main_v14_eq _ _ _ _ _).trans ?_
    rw [e1, e2, e3, e4, e6]
  · refine (Cert.Reference20Ideal.Read.val_main_v20_eq _ _ _ _ _).trans ?_
    rw [e1, e2, e3, e5, e6]

/-- The reference of the sum of the small gradients. -/
theorem frame_ri21 : Cert.quiescent_Reference21Ideal := fun m ρ _ =>
  (θ_run _ _ _).mono (fun _ h => ⟨fun c => (h c).2, sem_eq_zero_of_no_sems (by decide) _⟩) (Cert.Reference21Ideal.Value.run m ρ)

/-- The values of the sum of the small gradients. -/
theorem algebraic21 : Cert.algebraic_Kernel21Ideal_Reference21Ideal := fun m ρ m' ρ' _ hagree => by
  refine ⟨_, Cert.Kernel21Ideal.Value.run_blocks m ρ, (θ_run _ _ _).mono (fun r h c => ?_) (Cert.Reference21Ideal.Value.run m' ρ')⟩
  obtain ⟨h0, hu⟩ := h c
  refine ⟨h0.trans ((Cert.Reference21Ideal.Read.val_main_v0_eq _).trans ?_), hu⟩
  rw [hagree c]
  exact (Cert.Kernel21Ideal.Sums.final1 m c).symm

/-- The reference of the sum of the meta tokens' gradients. -/
theorem frame_ri22 : Cert.quiescent_Reference22Ideal := fun m ρ _ =>
  (θ_run _ _ _).mono (fun _ h => ⟨fun c => (h c).2, sem_eq_zero_of_no_sems (by decide) _⟩) (Cert.Reference22Ideal.Value.run m ρ)

/-- The values of the sum of the meta tokens' gradients. -/
theorem algebraic22 : Cert.algebraic_Kernel22Ideal_Reference22Ideal := fun m ρ m' ρ' _ hagree => by
  refine ⟨_, Cert.Kernel22Ideal.Value.run_blocks m ρ, (θ_run _ _ _).mono (fun r h c => ?_) (Cert.Reference22Ideal.Value.run m' ρ')⟩
  obtain ⟨h0, hu⟩ := h c
  refine ⟨h0.trans ((Cert.Reference22Ideal.Read.val_main_v0_eq _).trans ?_), hu⟩
  rw [hagree c]
  exact (Cert.Kernel22Ideal.Sums.final1 m c).symm

/-- The reference of the loss and its gradient. -/
theorem frame_ri23 : Cert.quiescent_Reference23Ideal := fun m ρ _ =>
  (θ_run _ _ _).mono (fun _ h => ⟨fun c => (h c).2.2, sem_eq_zero_of_no_sems (by decide) _⟩) (Cert.Reference23Ideal.Value.run m ρ)

/-- The values of the loss and its gradient. -/
theorem algebraic23 : Cert.algebraic_Kernel23Ideal_Reference23Ideal := fun m ρ m' ρ' _ hagree => by
  refine ⟨_, _, Cert.Kernel23Ideal.Value.run_blocks m ρ, (θ_run _ _ _).mono (fun r h c => ?_) (Cert.Reference23Ideal.Value.run m' ρ')⟩
  obtain ⟨h0, h1, hu⟩ := h c
  obtain ⟨e0, e1⟩ := hagree c
  refine ⟨h0.trans ((Cert.Reference23Ideal.Read.val_main_v18_eq _ _).trans ?_), h1.trans ((Cert.Reference23Ideal.Read.val_main_v24_eq _ _).trans ?_), hu⟩
  · rw [e0, e1]
    exact (Cert.Kernel23Ideal.Loss.final2 m c).symm
  · rw [e0, e1]
    exact (Cert.Kernel23Ideal.Loss.final3 m c).symm

/-- The reference of the examples' rows and their norm. -/
theorem frame_ri24 : Cert.quiescent_Reference24Ideal := fun m ρ _ =>
  (θ_run _ _ _).mono (fun _ h => ⟨fun c => (h c).2.2.2, sem_eq_zero_of_no_sems (by decide) _⟩) (Cert.Reference24Ideal.Value.run m ρ)

/-- The values of the examples' rows and their norm. -/
theorem algebraic24 : Cert.algebraic_Kernel24Ideal_Reference24Ideal := fun m ρ m' ρ' _ hagree => by
  refine ⟨_, _, _, Cert.Kernel24Ideal.Value.run_blocks m ρ, (θ_run _ _ _).mono (fun r h c => ?_) (Cert.Reference24Ideal.Value.run m' ρ')⟩
  obtain ⟨h0, h1, h2, hu⟩ := h c
  obtain ⟨e0, e1, e2, e3⟩ := hagree c
  refine ⟨h0.trans ((Cert.Reference24Ideal.Read.val_main_v4_eq _ _).trans ?_), h1.trans ((Cert.Reference24Ideal.Read.val_main_v28_eq m' c).trans ?_),
    h2.trans ((Cert.Reference24Ideal.Read.val_main_v29_eq m' c).trans ?_), hu⟩
  · rw [e0, e1]
    exact (Cert.Kernel24Ideal.Embed.final4 m c).symm
  · rw [e0, e1, e2, e3]
    exact (Cert.Kernel24Ideal.Embed.final5 m c).symm
  · rw [e0, e1, e2, e3]
    exact (Cert.Kernel24Ideal.Embed.final6 m c).symm

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Finite.facts2,
  Finite.facts3,
  Finite.facts4,
  Cert.Pre_two_cores.Gen.facts,
  Cert.Pre_two_cores17.Gen.facts,
  Cert.Pre_two_cores18.Gen.facts,
  Cert.Pre_two_cores19.Gen.facts,
  Cert.Pre_two_cores20.Gen.facts,
  fun m ρ _ => Cert.Kernel.Gen.frame m ρ,
  fun m ρ _ => Cert.KernelIdeal.Gen.frame m ρ,
  frame_ri,
  fun m ρ _ => Cert.Kernel2.Gen.frame m ρ,
  fun m ρ _ => Cert.Kernel2Ideal.Gen.frame m ρ,
  fun m ρ _ => Cert.Kernel2Ideal.Gen.frame m ρ,
  frame_ri2,
  fun m ρ _ => frame_ri2 m ρ trivial,
  fun m ρ _ => Cert.Kernel3.Gen.frame m ρ,
  fun m ρ _ => Cert.Kernel3Ideal.Gen.frame m ρ,
  fun m ρ _ => Cert.Kernel3Ideal.Gen.frame m ρ,
  frame_ri3,
  fun m ρ _ => frame_ri3 m ρ trivial,
  fun m ρ _ => Cert.Kernel4.Gen.frame m ρ,
  fun m ρ _ => Cert.Kernel4Ideal.Gen.frame m ρ,
  fun m ρ _ => Cert.Kernel4Ideal.Gen.frame m ρ,
  frame_ri4,
  fun m ρ _ => frame_ri4 m ρ trivial,
  fun m ρ _ => Cert.Kernel5.Gen.frame m ρ,
  fun m ρ _ => Cert.Kernel5Ideal.Gen.frame m ρ,
  frame_ri5,
  fun m ρ _ => Cert.Kernel6.Gen.frame m ρ,
  fun m ρ _ => Cert.Kernel6Ideal.Gen.frame m ρ,
  frame_ri6,
  fun m ρ _ => Cert.Kernel7.Gen.frame m ρ,
  fun m ρ _ => Cert.Kernel7Ideal.Gen.frame m ρ,
  frame_ri7,
  fun m ρ _ => Cert.Kernel8.Gen.frame m ρ,
  fun m ρ _ => Cert.Kernel8Ideal.Gen.frame m ρ,
  frame_ri8,
  fun m ρ _ => Cert.Kernel9.Gen.frame m ρ,
  fun m ρ _ => Cert.Kernel9Ideal.Gen.frame m ρ,
  frame_ri9,
  fun m ρ _ => Cert.Kernel10.Gen.frame m ρ,
  fun m ρ _ => Cert.Kernel10Ideal.Gen.frame m ρ,
  frame_ri10,
  fun m ρ _ => Cert.Kernel11.Gen.frame m ρ,
  fun m ρ _ => Cert.Kernel11Ideal.Gen.frame m ρ,
  frame_ri11,
  fun m ρ _ => Cert.Kernel12.Gen.frame m ρ,
  fun m ρ _ => Cert.Kernel12Ideal.Gen.frame m ρ,
  frame_ri12,
  fun m ρ _ => Cert.Kernel13.Gen.frame m ρ,
  fun m ρ _ => Cert.Kernel13Ideal.Gen.frame m ρ,
  frame_ri13,
  fun m ρ _ => Cert.Kernel14.Gen.frame m ρ,
  fun m ρ _ => Cert.Kernel14Ideal.Gen.frame m ρ,
  frame_ri14,
  fun m ρ _ => Cert.Kernel15.Gen.frame m ρ,
  fun m ρ _ => Cert.Kernel15Ideal.Gen.frame m ρ,
  frame_ri15,
  fun m ρ h => Cert.Kernel16.Gen.frame m ρ (Cert.Kernel16.Matrix.ok_of_pre m h),
  fun m ρ h => Cert.Kernel16Ideal.Gen.frame m ρ (Cert.Kernel16Ideal.Matrix.ok_of_pre m h),
  frame_ri16,
  fun m ρ _ => frame_ri16 m ρ trivial,
  fun m ρ h => Cert.Kernel17.Gen.frame m ρ (Cert.Kernel17.Matrix.ok_of_pre m h),
  fun m ρ h => Cert.Kernel17Ideal.Gen.frame m ρ (Cert.Kernel17Ideal.Matrix.ok_of_pre m h),
  frame_ri17,
  fun m ρ _ => frame_ri17 m ρ trivial,
  fun m ρ h => Cert.Kernel18.Gen.frame m ρ (Cert.Kernel18.Matrix.ok_of_pre m h),
  fun m ρ h => Cert.Kernel18Ideal.Gen.frame m ρ (Cert.Kernel18Ideal.Matrix.ok_of_pre m h),
  frame_ri18,
  fun m ρ _ => frame_ri18 m ρ trivial,
  fun m ρ h => Cert.Kernel19.Gen.frame m ρ (Cert.Kernel19.Matrix.ok_of_pre m h),
  fun m ρ h => Cert.Kernel19Ideal.Gen.frame m ρ (Cert.Kernel19Ideal.Matrix.ok_of_pre m h),
  frame_ri19,
  fun m ρ _ => frame_ri19 m ρ trivial,
  fun m ρ h => Cert.Kernel20.Gen.frame m ρ (Cert.Kernel20.Matrix.ok_of_pre m h),
  fun m ρ h => Cert.Kernel20Ideal.Gen.frame m ρ (Cert.Kernel20Ideal.Matrix.ok_of_pre m h),
  frame_ri20,
  fun m ρ _ => frame_ri20 m ρ trivial,
  fun m ρ _ => Cert.Kernel21.Gen.frame m ρ,
  fun m ρ _ => Cert.Kernel21Ideal.Gen.frame m ρ,
  frame_ri21,
  fun m ρ _ => Cert.Kernel22.Gen.frame m ρ,
  fun m ρ _ => Cert.Kernel22Ideal.Gen.frame m ρ,
  frame_ri22,
  fun m ρ _ => Cert.Kernel23.Gen.frame m ρ,
  fun m ρ _ => Cert.Kernel23Ideal.Gen.frame m ρ,
  frame_ri23,
  fun m ρ _ => Cert.Kernel24.Gen.frame m ρ,
  fun m ρ _ => Cert.Kernel24Ideal.Gen.frame m ρ,
  frame_ri24,
  trivial,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic12,
  trivial,
  algebraic13,
  trivial,
  algebraic14,
  preserves15,
  algebraic15,
  preserves16,
  algebraic16,
  preserves17,
  algebraic17,
  preserves18,
  algebraic18,
  preserves19,
  algebraic19,
  preserves20,
  algebraic20,
  trivial,
  algebraic21,
  trivial,
  algebraic22,
  trivial,
  algebraic23,
  trivial,
  algebraic24⟩

end Cert.Proof

end
